-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v109)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v109) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S1x3x10000 : Shape := ⟨3, ![1, 3, 10000]⟩
abbrev S32x6 : Shape := ⟨2, ![32, 6]⟩
abbrev S32 : Shape := ⟨1, ![32]⟩
abbrev S64x32 : Shape := ⟨2, ![64, 32]⟩
abbrev S64 : Shape := ⟨1, ![64]⟩
abbrev S128x64 : Shape := ⟨2, ![128, 64]⟩
abbrev S128 : Shape := ⟨1, ![128]⟩
abbrev S128x128 : Shape := ⟨2, ![128, 128]⟩
abbrev S_ : Shape := ⟨0, ![]⟩
abbrev S32x3 : Shape := ⟨2, ![32, 3]⟩

class Facts : Prop where
  bcast_S_S1x3x10000 : S_.BroadcastsInDim S1x3x10000 (![] : Fin 0 → Fin S1x3x10000.rank)
  reducesTo_S1x3x10000_S_d0_1_2 : S1x3x10000.ReducesTo [0, 1, 2] S_
  h_S_ : 0 < S_.numel
  slices_S32x6_S32x3_0_3 : S32x6.Slices ![0, 3] S32x3
  bcast_S_S32x3 : S_.BroadcastsInDim S32x3 (![] : Fin 0 → Fin S32x3.rank)
  reducesTo_S32x3_S_d0_1 : S32x3.ReducesTo [0, 1] S_
  bcast_S_S32 : S_.BroadcastsInDim S32 (![] : Fin 0 → Fin S32.rank)
  reducesTo_S32_S_d0 : S32.ReducesTo [0] S_
  bcast_S_S64 : S_.BroadcastsInDim S64 (![] : Fin 0 → Fin S64.rank)
  reducesTo_S64_S_d0 : S64.ReducesTo [0] S_

variable [Facts]

def fn_part1 {F : FTy → Type} [FloatOps F] (main_v14 : IVec S_ 1) (main_v15 : FVec F S64 .f32) (main_v16 : FVec F S64 .f32) : IVec S_ 1 :=
  let main_v17 : IVec S64 1 := cmpf .olt main_v15 main_v16
  let main_c_5 : IVec S_ 1 := constantI S_ 1 1#1
  let main_v18 : IVec S_ 1 := (fun x v => Host.reduce IntOp.andi x v reducesTo_S64_S_d0 h_S_) main_v17 main_c_5
  let main_v19 : IVec S_ 1 := andi main_v14 main_v18
  main_v19

def fn {F : FTy → Type} [FloatOps F] (main_arg0 : FVec F S1x3x10000 .f32) (main_arg1 : FVec F S32x6 .f32) (main_arg2 : FVec F S32 .f32) (main_arg3 : FVec F S32 .f32) (main_arg4 : FVec F S32 .f32) (main_arg5 : FVec F S64x32 .f32) (main_arg6 : FVec F S64 .f32) (main_arg7 : FVec F S64 .f32) (main_arg8 : FVec F S64 .f32) (main_arg9 : FVec F S128x64 .f32) (main_arg10 : FVec F S128 .f32) (main_arg11 : FVec F S128 .f32) (main_arg12 : FVec F S128 .f32) (main_arg13 : FVec F S128x128 .f32) (main_arg14 : FVec F S128 .f32) (main_arg15 : FVec F S128 .f32) (main_arg16 : FVec F S128 .f32) : IVec S_ 1 :=
  let main_v0 : FVec F S1x3x10000 .f32 := Host.absf main_arg0
  let main_cst : FVec F S_ .f32 := constant S_ .f32 0x5D4A0F83#32
  let main_v1 : FVec F S1x3x10000 .f32 := broadcastInDim S1x3x10000 ![] bcast_S_S1x3x10000 main_cst
  let main_v2 : IVec S1x3x10000 1 := cmpf .ole main_v0 main_v1
  let main_c : IVec S_ 1 := constantI S_ 1 1#1
  let main_v3 : IVec S_ 1 := (fun x v => Host.reduce IntOp.andi x v reducesTo_S1x3x10000_S_d0_1_2 h_S_) main_v2 main_c
  let main_v4 : FVec F S32x3 .f32 := (extractStridedSlice S32x3 ![0, 3] · slices_S32x6_S32x3_0_3) main_arg1
  let main_v5 : FVec F S32x3 .f32 := Host.absf main_v4
  let main_cst_0 : FVec F S_ .f32 := constant S_ .f32 0x7F800000#32
  let main_v6 : FVec F S32x3 .f32 := broadcastInDim S32x3 ![] bcast_S_S32x3 main_cst_0
  let main_v7 : IVec S32x3 1 := cmpf .olt main_v5 main_v6
  let main_c_1 : IVec S_ 1 := constantI S_ 1 1#1
  let main_v8 : IVec S_ 1 := (fun x v => Host.reduce IntOp.andi x v reducesTo_S32x3_S_d0_1 h_S_) main_v7 main_c_1
  let main_v9 : IVec S_ 1 := andi main_v3 main_v8
  let main_v10 : FVec F S32 .f32 := Host.absf main_arg3
  let main_cst_2 : FVec F S_ .f32 := constant S_ .f32 0x7F800000#32
  let main_v11 : FVec F S32 .f32 := broadcastInDim S32 ![] bcast_S_S32 main_cst_2
  let main_v12 : IVec S32 1 := cmpf .olt main_v10 main_v11
  let main_c_3 : IVec S_ 1 := constantI S_ 1 1#1
  let main_v13 : IVec S_ 1 := (fun x v => Host.reduce IntOp.andi x v reducesTo_S32_S_d0 h_S_) main_v12 main_c_3
  let main_v14 : IVec S_ 1 := andi main_v9 main_v13
  let main_v15 : FVec F S64 .f32 := Host.absf main_arg7
  let main_cst_4 : FVec F S_ .f32 := constant S_ .f32 0x7F800000#32
  let main_v16 : FVec F S64 .f32 := broadcastInDim S64 ![] bcast_S_S64 main_cst_4
  fn_part1 (F := F) main_v14 main_v15 main_v16
-- ==== Kernel.lean ====
abbrev S1x3x10000 : Shape := ⟨3, ![1, 3, 10000]⟩
abbrev S32x6 : Shape := ⟨2, ![32, 6]⟩
abbrev S32 : Shape := ⟨1, ![32]⟩
abbrev S64x32 : Shape := ⟨2, ![64, 32]⟩
abbrev S64 : Shape := ⟨1, ![64]⟩
abbrev S128x64 : Shape := ⟨2, ![128, 64]⟩
abbrev S128 : Shape := ⟨1, ![128]⟩
abbrev S128x128 : Shape := ⟨2, ![128, 128]⟩
abbrev S3x10000 : Shape := ⟨2, ![3, 10000]⟩
abbrev S10000x3 : Shape := ⟨2, ![10000, 3]⟩
abbrev S_ : Shape := ⟨0, ![]⟩
abbrev S10000x8 : Shape := ⟨2, ![10000, 8]⟩
abbrev S1 : Shape := ⟨1, ![1]⟩
abbrev S8x10240 : Shape := ⟨2, ![8, 10240]⟩
abbrev S2 : Shape := ⟨1, ![2]⟩
abbrev S10240x8 : Shape := ⟨2, ![10240, 8]⟩
abbrev S10000x16 : Shape := ⟨2, ![10000, 16]⟩
abbrev S16x10000x8 : Shape := ⟨3, ![16, 10000, 8]⟩
abbrev S400x8 : Shape := ⟨2, ![400, 8]⟩
abbrev S400x16 : Shape := ⟨2, ![400, 16]⟩
abbrev S16x400x8 : Shape := ⟨3, ![16, 400, 8]⟩
abbrev S400 : Shape := ⟨1, ![400]⟩
abbrev S400x1 : Shape := ⟨2, ![400, 1]⟩
abbrev S10240 : Shape := ⟨1, ![10240]⟩
abbrev S1x10240 : Shape := ⟨2, ![1, 10240]⟩
abbrev S400x10240 : Shape := ⟨2, ![400, 10240]⟩
abbrev S1x400x8 : Shape := ⟨3, ![1, 400, 8]⟩
abbrev S10000x16x8 : Shape := ⟨3, ![10000, 16, 8]⟩
abbrev S160000x8 : Shape := ⟨2, ![160000, 8]⟩
abbrev S160000x16 : Shape := ⟨2, ![160000, 16]⟩
abbrev S16x32 : Shape := ⟨2, ![16, 32]⟩
abbrev S32x3 : Shape := ⟨2, ![32, 3]⟩
abbrev S3x32 : Shape := ⟨2, ![3, 32]⟩
abbrev S1x32 : Shape := ⟨2, ![1, 32]⟩
abbrev S160000x32 : Shape := ⟨2, ![160000, 32]⟩
abbrev S8x128 : Shape := ⟨2, ![8, 128]⟩
abbrev S20000x16 : Shape := ⟨2, ![20000, 16]⟩
abbrev S20000x32 : Shape := ⟨2, ![20000, 32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S8x32 : Shape := ⟨2, ![8, 32]⟩
abbrev S32x64 : Shape := ⟨2, ![32, 64]⟩
abbrev S1x64 : Shape := ⟨2, ![1, 64]⟩
abbrev S160000x64 : Shape := ⟨2, ![160000, 64]⟩
abbrev S20000x64 : Shape := ⟨2, ![20000, 64]⟩
abbrev S64x1 : Shape := ⟨2, ![64, 1]⟩
abbrev S64x8 : Shape := ⟨2, ![64, 8]⟩
abbrev S8x64 : Shape := ⟨2, ![8, 64]⟩
abbrev S128x1 : Shape := ⟨2, ![128, 1]⟩
abbrev S128x8 : Shape := ⟨2, ![128, 8]⟩
abbrev S64x128 : Shape := ⟨2, ![64, 128]⟩
abbrev S1x128 : Shape := ⟨2, ![1, 128]⟩
abbrev S16x128 : Shape := ⟨2, ![16, 128]⟩
abbrev S16x64 : Shape := ⟨2, ![16, 64]⟩
abbrev S1250x16x64 : Shape := ⟨3, ![1250, 16, 64]⟩
abbrev S128x16 : Shape := ⟨2, ![128, 16]⟩
abbrev S1x128x16 : Shape := ⟨3, ![1, 128, 16]⟩

abbrev nBuf : Space → Nat
  | .hbm => 243
  | .vmem => 46
  | .smem => 0
  | _ => 0

abbrev hbmTy0_0 (i : Nat) : BufTy := match i % 128 with
  | 0 => ⟨S1x3x10000, .f32⟩
  | 1 => ⟨S32x6, .f32⟩
  | 2 => ⟨S32, .f32⟩
  | 3 => ⟨S32, .f32⟩
  | 4 => ⟨S32, .f32⟩
  | 5 => ⟨S64x32, .f32⟩
  | 6 => ⟨S64, .f32⟩
  | 7 => ⟨S64, .f32⟩
  | 8 => ⟨S64, .f32⟩
  | 9 => ⟨S128x64, .f32⟩
  | 10 => ⟨S128, .f32⟩
  | 11 => ⟨S128, .f32⟩
  | 12 => ⟨S128, .f32⟩
  | 13 => ⟨S128x128, .f32⟩
  | 14 => ⟨S128, .f32⟩
  | 15 => ⟨S128, .f32⟩
  | 16 => ⟨S128, .f32⟩
  | 17 => ⟨S3x10000, .f32⟩
  | 18 => ⟨S10000x3, .f32⟩
  | 19 => ⟨S_, .f32⟩
  | 20 => ⟨S10000x8, .f32⟩
  | 21 => ⟨S_, .i32⟩
  | 22 => ⟨S1, .i32⟩
  | 23 => ⟨S10000x8, .f32⟩
  | 24 => ⟨S_, .f32⟩
  | 25 => ⟨S8x10240, .f32⟩
  | 26 => ⟨S3x10000, .f32⟩
  | 27 => ⟨S_, .i32⟩
  | 28 => ⟨S1, .i32⟩
  | 29 => ⟨S_, .i32⟩
  | 30 => ⟨S1, .i32⟩
  | 31 => ⟨S2, .i32⟩
  | 32 => ⟨S8x10240, .f32⟩
  | 33 => ⟨S_, .f32⟩
  | 34 => ⟨S10240x8, .f32⟩
  | 35 => ⟨S_, .i32⟩
  | 36 => ⟨S1, .i32⟩
  | 37 => ⟨S_, .i32⟩
  | 38 => ⟨S1, .i32⟩
  | 39 => ⟨S2, .i32⟩
  | 40 => ⟨S10240x8, .f32⟩
  | 41 => ⟨S10000x16, .i32⟩
  | 42 => ⟨S16x10000x8, .f32⟩
  | 43 => ⟨S10000x16x8, .f32⟩
  | 44 => ⟨S160000x8, .f32⟩
  | 45 => ⟨S10000x16x8, .f32⟩
  | 46 => ⟨S160000x8, .f32⟩
  | 47 => ⟨S160000x16, .f32⟩
  | 48 => ⟨S_, .f32⟩
  | 49 => ⟨S16x32, .f32⟩
  | 50 => ⟨S32x3, .f32⟩
  | 51 => ⟨S32x3, .f32⟩
  | 52 => ⟨S32x3, .f32⟩
  | 53 => ⟨S3x32, .f32⟩
  | 54 => ⟨S_, .i32⟩
  | 55 => ⟨S1, .i32⟩
  | 56 => ⟨S16x32, .f32⟩
  | 57 => ⟨S32x3, .f32⟩
  | 58 => ⟨S3x32, .f32⟩
  | 59 => ⟨S_, .i32⟩
  | 60 => ⟨S1, .i32⟩
  | 61 => ⟨S16x32, .f32⟩
  | 62 => ⟨S1x32, .f32⟩
  | 63 => ⟨S160000x32, .f32⟩
  | 64 => ⟨S8x128, .f32⟩
  | 65 => ⟨S32, .i32⟩
  | 66 => ⟨S_, .i32⟩
  | 67 => ⟨S_, .i32⟩
  | 68 => ⟨S32, .i32⟩
  | 69 => ⟨S32, .i32⟩
  | 70 => ⟨S32, .i32⟩
  | 71 => ⟨S_, .i32⟩
  | 72 => ⟨S32, .i32⟩
  | 73 => ⟨S32, .i1⟩
  | 74 => ⟨S32, .i32⟩
  | 75 => ⟨S32, .i32⟩
  | 76 => ⟨S_, .i32⟩
  | 77 => ⟨S32, .i32⟩
  | 78 => ⟨S32, .i1⟩
  | 79 => ⟨S32, .i1⟩
  | 80 => ⟨S_, .i32⟩
  | 81 => ⟨S32, .i32⟩
  | 82 => ⟨S32, .i32⟩
  | 83 => ⟨S32, .i32⟩
  | 84 => ⟨S32x1, .i32⟩
  | 85 => ⟨S8, .i32⟩
  | 86 => ⟨S1x8, .i32⟩
  | 87 => ⟨S32x8, .i32⟩
  | 88 => ⟨S32x8, .i32⟩
  | 89 => ⟨S32x8, .i1⟩
  | 90 => ⟨S32x8, .f32⟩
  | 91 => ⟨S32, .i32⟩
  | 92 => ⟨S_, .i32⟩
  | 93 => ⟨S_, .i32⟩
  | 94 => ⟨S32, .i32⟩
  | 95 => ⟨S32, .i32⟩
  | 96 => ⟨S32, .i32⟩
  | 97 => ⟨S_, .i32⟩
  | 98 => ⟨S32, .i32⟩
  | 99 => ⟨S32, .i1⟩
  | 100 => ⟨S32, .i32⟩
  | 101 => ⟨S32, .i32⟩
  | 102 => ⟨S_, .i32⟩
  | 103 => ⟨S32, .i32⟩
  | 104 => ⟨S32, .i1⟩
  | 105 => ⟨S32, .i1⟩
  | 106 => ⟨S_, .i32⟩
  | 107 => ⟨S32, .i32⟩
  | 108 => ⟨S32, .i32⟩
  | 109 => ⟨S32, .i32⟩
  | 110 => ⟨S32x1, .i32⟩
  | 111 => ⟨S8, .i32⟩
  | 112 => ⟨S1x8, .i32⟩
  | 113 => ⟨S32x8, .i32⟩
  | 114 => ⟨S32x8, .i32⟩
  | 115 => ⟨S32x8, .i1⟩
  | 116 => ⟨S32x8, .f32⟩
  | 117 => ⟨S8x32, .f32⟩
  | 118 => ⟨S1x32, .f32⟩
  | 119 => ⟨S1x32, .f32⟩
  | 120 => ⟨S32x64, .f32⟩
  | 121 => ⟨S1x64, .f32⟩
  | 122 => ⟨S160000x64, .f32⟩
  | 123 => ⟨S8x128, .f32⟩
  | 124 => ⟨S64, .i32⟩
  | 125 => ⟨S_, .i32⟩
  | 126 => ⟨S_, .i32⟩
  | 127 => ⟨S64, .i32⟩
  | _ => ⟨S1x3x10000, .f32⟩

abbrev hbmTy0_1 (i : Nat) : BufTy := match i % 128 with
  | 0 => ⟨S64, .i32⟩
  | 1 => ⟨S64, .i32⟩
  | 2 => ⟨S_, .i32⟩
  | 3 => ⟨S64, .i32⟩
  | 4 => ⟨S64, .i1⟩
  | 5 => ⟨S64, .i32⟩
  | 6 => ⟨S64, .i32⟩
  | 7 => ⟨S_, .i32⟩
  | 8 => ⟨S64, .i32⟩
  | 9 => ⟨S64, .i1⟩
  | 10 => ⟨S64, .i1⟩
  | 11 => ⟨S_, .i32⟩
  | 12 => ⟨S64, .i32⟩
  | 13 => ⟨S64, .i32⟩
  | 14 => ⟨S64, .i32⟩
  | 15 => ⟨S64x1, .i32⟩
  | 16 => ⟨S8, .i32⟩
  | 17 => ⟨S1x8, .i32⟩
  | 18 => ⟨S64x8, .i32⟩
  | 19 => ⟨S64x8, .i32⟩
  | 20 => ⟨S64x8, .i1⟩
  | 21 => ⟨S64x8, .f32⟩
  | 22 => ⟨S64, .i32⟩
  | 23 => ⟨S_, .i32⟩
  | 24 => ⟨S_, .i32⟩
  | 25 => ⟨S64, .i32⟩
  | 26 => ⟨S64, .i32⟩
  | 27 => ⟨S64, .i32⟩
  | 28 => ⟨S_, .i32⟩
  | 29 => ⟨S64, .i32⟩
  | 30 => ⟨S64, .i1⟩
  | 31 => ⟨S64, .i32⟩
  | 32 => ⟨S64, .i32⟩
  | 33 => ⟨S_, .i32⟩
  | 34 => ⟨S64, .i32⟩
  | 35 => ⟨S64, .i1⟩
  | 36 => ⟨S64, .i1⟩
  | 37 => ⟨S_, .i32⟩
  | 38 => ⟨S64, .i32⟩
  | 39 => ⟨S64, .i32⟩
  | 40 => ⟨S64, .i32⟩
  | 41 => ⟨S64x1, .i32⟩
  | 42 => ⟨S8, .i32⟩
  | 43 => ⟨S1x8, .i32⟩
  | 44 => ⟨S64x8, .i32⟩
  | 45 => ⟨S64x8, .i32⟩
  | 46 => ⟨S64x8, .i1⟩
  | 47 => ⟨S64x8, .f32⟩
  | 48 => ⟨S8x64, .f32⟩
  | 49 => ⟨S128, .i32⟩
  | 50 => ⟨S_, .i32⟩
  | 51 => ⟨S_, .i32⟩
  | 52 => ⟨S128, .i32⟩
  | 53 => ⟨S128, .i32⟩
  | 54 => ⟨S128, .i32⟩
  | 55 => ⟨S_, .i32⟩
  | 56 => ⟨S128, .i32⟩
  | 57 => ⟨S128, .i1⟩
  | 58 => ⟨S128, .i32⟩
  | 59 => ⟨S128, .i32⟩
  | 60 => ⟨S_, .i32⟩
  | 61 => ⟨S128, .i32⟩
  | 62 => ⟨S128, .i1⟩
  | 63 => ⟨S128, .i1⟩
  | 64 => ⟨S_, .i32⟩
  | 65 => ⟨S128, .i32⟩
  | 66 => ⟨S128, .i32⟩
  | 67 => ⟨S128, .i32⟩
  | 68 => ⟨S128x1, .i32⟩
  | 69 => ⟨S8, .i32⟩
  | 70 => ⟨S1x8, .i32⟩
  | 71 => ⟨S128x8, .i32⟩
  | 72 => ⟨S128x8, .i32⟩
  | 73 => ⟨S128x8, .i1⟩
  | 74 => ⟨S128x8, .f32⟩
  | 75 => ⟨S128, .i32⟩
  | 76 => ⟨S_, .i32⟩
  | 77 => ⟨S_, .i32⟩
  | 78 => ⟨S128, .i32⟩
  | 79 => ⟨S128, .i32⟩
  | 80 => ⟨S128, .i32⟩
  | 81 => ⟨S_, .i32⟩
  | 82 => ⟨S128, .i32⟩
  | 83 => ⟨S128, .i1⟩
  | 84 => ⟨S128, .i32⟩
  | 85 => ⟨S128, .i32⟩
  | 86 => ⟨S_, .i32⟩
  | 87 => ⟨S128, .i32⟩
  | 88 => ⟨S128, .i1⟩
  | 89 => ⟨S128, .i1⟩
  | 90 => ⟨S_, .i32⟩
  | 91 => ⟨S128, .i32⟩
  | 92 => ⟨S128, .i32⟩
  | 93 => ⟨S128, .i32⟩
  | 94 => ⟨S128x1, .i32⟩
  | 95 => ⟨S8, .i32⟩
  | 96 => ⟨S1x8, .i32⟩
  | 97 => ⟨S128x8, .i32⟩
  | 98 => ⟨S128x8, .i32⟩
  | 99 => ⟨S128x8, .i1⟩
  | 100 => ⟨S128x8, .f32⟩
  | 101 => ⟨S8x128, .f32⟩
  | 102 => ⟨S1x64, .f32⟩
  | 103 => ⟨S1x64, .f32⟩
  | 104 => ⟨S64x128, .f32⟩
  | 105 => ⟨S1x128, .f32⟩
  | 106 => ⟨S1x128, .f32⟩
  | 107 => ⟨S1x128, .f32⟩
  | 108 => ⟨S128x128, .f32⟩
  | 109 => ⟨S1x128, .f32⟩
  | 110 => ⟨S1x128, .f32⟩
  | 111 => ⟨S1x128, .f32⟩
  | 112 => ⟨S16x128, .f32⟩
  | 113 => ⟨S128x16, .f32⟩
  | 114 => ⟨S1x128x16, .f32⟩
  | _ => ⟨S1x3x10000, .f32⟩

abbrev hbmTy (i : Nat) : BufTy := match i / 128 with
  | 0 => hbmTy0_0 i
  | 1 => hbmTy0_1 i
  | _ => ⟨S1x3x10000, .f32⟩

abbrev bufTy : (tb : Table) → Fin (tcTables nBuf tb) → BufTy
  | .hbm, ⟨i, _⟩ => hbmTy i
  | .local _ .vmem, ⟨0, _⟩ => ⟨S400x8, .f32⟩
  | .local _ .vmem, ⟨1, _⟩ => ⟨S400x8, .f32⟩
  | .local _ .vmem, ⟨2, _⟩ => ⟨S8x10240, .f32⟩
  | .local _ .vmem, ⟨3, _⟩ => ⟨S10240x8, .f32⟩
  | .local _ .vmem, ⟨4, _⟩ => ⟨S400x16, .i32⟩
  | .local _ .vmem, ⟨5, _⟩ => ⟨S400x16, .i32⟩
  | .local _ .vmem, ⟨6, _⟩ => ⟨S16x400x8, .f32⟩
  | .local _ .vmem, ⟨7, _⟩ => ⟨S16x400x8, .f32⟩
  | .local _ .vmem, ⟨8, _⟩ => ⟨S20000x16, .f32⟩
  | .local _ .vmem, ⟨9, _⟩ => ⟨S20000x16, .f32⟩
  | .local _ .vmem, ⟨10, _⟩ => ⟨S16x32, .f32⟩
  | .local _ .vmem, ⟨11, _⟩ => ⟨S1x32, .f32⟩
  | .local _ .vmem, ⟨12, _⟩ => ⟨S20000x32, .f32⟩
  | .local _ .vmem, ⟨13, _⟩ => ⟨S20000x32, .f32⟩
  | .local _ .vmem, ⟨14, _⟩ => ⟨S8x128, .f32⟩
  | .local _ .vmem, ⟨15, _⟩ => ⟨S20000x32, .f32⟩
  | .local _ .vmem, ⟨16, _⟩ => ⟨S20000x32, .f32⟩
  | .local _ .vmem, ⟨17, _⟩ => ⟨S8x128, .f32⟩
  | .local _ .vmem, ⟨18, _⟩ => ⟨S32x8, .f32⟩
  | .local _ .vmem, ⟨19, _⟩ => ⟨S8x32, .f32⟩
  | .local _ .vmem, ⟨20, _⟩ => ⟨S1x32, .f32⟩
  | .local _ .vmem, ⟨21, _⟩ => ⟨S1x32, .f32⟩
  | .local _ .vmem, ⟨22, _⟩ => ⟨S32x64, .f32⟩
  | .local _ .vmem, ⟨23, _⟩ => ⟨S1x64, .f32⟩
  | .local _ .vmem, ⟨24, _⟩ => ⟨S20000x64, .f32⟩
  | .local _ .vmem, ⟨25, _⟩ => ⟨S20000x64, .f32⟩
  | .local _ .vmem, ⟨26, _⟩ => ⟨S8x128, .f32⟩
  | .local _ .vmem, ⟨27, _⟩ => ⟨S20000x64, .f32⟩
  | .local _ .vmem, ⟨28, _⟩ => ⟨S20000x64, .f32⟩
  | .local _ .vmem, ⟨29, _⟩ => ⟨S8x128, .f32⟩
  | .local _ .vmem, ⟨30, _⟩ => ⟨S64x8, .f32⟩
  | .local _ .vmem, ⟨31, _⟩ => ⟨S8x64, .f32⟩
  | .local _ .vmem, ⟨32, _⟩ => ⟨S1x64, .f32⟩
  | .local _ .vmem, ⟨33, _⟩ => ⟨S1x64, .f32⟩
  | .local _ .vmem, ⟨34, _⟩ => ⟨S64x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S128x8, .f32⟩
  | .local _ .vmem, ⟨39, _⟩ => ⟨S8x128, .f32⟩
  | .local _ .vmem, ⟨40, _⟩ => ⟨S128x128, .f32⟩
  | .local _ .vmem, ⟨41, _⟩ => ⟨S1x128, .f32⟩
  | .local _ .vmem, ⟨42, _⟩ => ⟨S1x128, .f32⟩
  | .local _ .vmem, ⟨43, _⟩ => ⟨S1x128, .f32⟩
  | .local _ .vmem, ⟨44, _⟩ => ⟨S16x128, .f32⟩
  | .local _ .vmem, ⟨45, _⟩ => ⟨S16x64, .f32⟩
  | _, _ => ⟨S1x3x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_c : Ref sig .tc := ⟨.hbm, 21, rfl⟩
abbrev main_v3 : Ref sig .tc := ⟨.hbm, 22, rfl⟩
abbrev main_v4 : Ref sig .tc := ⟨.hbm, 23, rfl⟩
abbrev main_cst_0 : Ref sig .tc := ⟨.hbm, 24, rfl⟩
abbrev main_v5 : Ref sig .tc := ⟨.hbm, 25, rfl⟩
abbrev main_v6 : Ref sig .tc := ⟨.hbm, 26, rfl⟩
abbrev main_c_1 : Ref sig .tc := ⟨.hbm, 27, rfl⟩
abbrev main_v7 : Ref sig .tc := ⟨.hbm, 28, rfl⟩
abbrev main_c_2 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst_3 : Ref sig .tc := ⟨.hbm, 33, rfl⟩
abbrev main_v11 : Ref sig .tc := ⟨.hbm, 34, rfl⟩
abbrev main_c_4 : Ref sig .tc := ⟨.hbm, 35, rfl⟩
abbrev main_v12 : Ref sig .tc := ⟨.hbm, 36, rfl⟩
abbrev main_c_5 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16_0 : Ref sig .tc := ⟨.hbm, 41, rfl⟩
abbrev main_v16_1 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_cst_6 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_7 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_8 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34_0 : Ref sig .tc := ⟨.hbm, 63, rfl⟩
abbrev main_v34_1 : Ref sig .tc := ⟨.hbm, 64, rfl⟩
abbrev main_v35 : Ref sig .tc := ⟨.hbm, 65, rfl⟩
abbrev main_c_9 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_call0_v3 : Ref sig .tc := ⟨.hbm, 70, rfl⟩
abbrev main_call0_v4 : Ref sig .tc := ⟨.hbm, 71, rfl⟩
abbrev main_call0_v5 : Ref sig .tc := ⟨.hbm, 72, rfl⟩
abbrev main_call0_v6 : Ref sig .tc := ⟨.hbm, 73, rfl⟩
abbrev main_call0_v7 : Ref sig .tc := ⟨.hbm, 74, rfl⟩
abbrev main_call0_v8 : Ref sig .tc := ⟨.hbm, 75, rfl⟩
abbrev main_call0_c : Ref sig .tc := ⟨.hbm, 76, rfl⟩
abbrev main_call0_v9 : Ref sig .tc := ⟨.hbm, 77, rfl⟩
abbrev main_call0_v10 : Ref sig .tc := ⟨.hbm, 78, rfl⟩
abbrev main_call0_v11 : Ref sig .tc := ⟨.hbm, 79, rfl⟩
abbrev main_call0_c_0 : Ref sig .tc := ⟨.hbm, 80, rfl⟩
abbrev main_call0_v12 : Ref sig .tc := ⟨.hbm, 81, rfl⟩
abbrev main_call0_v13 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_c_10 : Ref sig .tc := ⟨.hbm, 92, rfl⟩
abbrev main_call1_v0 : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_v7 : Ref sig .tc := ⟨.hbm, 100, rfl⟩
abbrev main_call1_v8 : Ref sig .tc := ⟨.hbm, 101, rfl⟩
abbrev main_call1_c : Ref sig .tc := ⟨.hbm, 102, rfl⟩
abbrev main_call1_v9 : Ref sig .tc := ⟨.hbm, 103, rfl⟩
abbrev main_call1_v10 : Ref sig .tc := ⟨.hbm, 104, rfl⟩
abbrev main_call1_v11 : Ref sig .tc := ⟨.hbm, 105, rfl⟩
abbrev main_call1_c_0 : Ref sig .tc := ⟨.hbm, 106, rfl⟩
abbrev main_call1_v12 : Ref sig .tc := ⟨.hbm, 107, rfl⟩
abbrev main_call1_v13 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_v50 : Ref sig .tc := ⟨.hbm, 114, rfl⟩
abbrev main_v51 : Ref sig .tc := ⟨.hbm, 115, rfl⟩
abbrev main_v52 : Ref sig .tc := ⟨.hbm, 116, rfl⟩
abbrev main_v53 : Ref sig .tc := ⟨.hbm, 117, rfl⟩
abbrev main_v54 : Ref sig .tc := ⟨.hbm, 118, rfl⟩
abbrev main_v55 : Ref sig .tc := ⟨.hbm, 119, rfl⟩
abbrev main_v56 : Ref sig .tc := ⟨.hbm, 120, rfl⟩
abbrev main_v57 : Ref sig .tc := ⟨.hbm, 121, rfl⟩
abbrev main_v58_0 : Ref sig .tc := ⟨.hbm, 122, rfl⟩
abbrev main_v58_1 : Ref sig .tc := ⟨.hbm, 123, rfl⟩
abbrev main_v59 : Ref sig .tc := ⟨.hbm, 124, rfl⟩
abbrev main_c_11 : Ref sig .tc := ⟨.hbm, 125, rfl⟩
abbrev main_call2_v0 : Ref sig .tc := ⟨.hbm, 126, rfl⟩
abbrev main_call2_v1 : Ref sig .tc := ⟨.hbm, 127, rfl⟩
abbrev main_call2_v2 : Ref sig .tc := ⟨.hbm, 128, rfl⟩
abbrev main_call2_v3 : Ref sig .tc := ⟨.hbm, 129, rfl⟩
abbrev main_call2_v4 : Ref sig .tc := ⟨.hbm, 130, rfl⟩
abbrev main_call2_v5 : Ref sig .tc := ⟨.hbm, 131, rfl⟩
abbrev main_call2_v6 : Ref sig .tc := ⟨.hbm, 132, rfl⟩
abbrev main_call2_v7 : Ref sig .tc := ⟨.hbm, 133, rfl⟩
abbrev main_call2_v8 : Ref sig .tc := ⟨.hbm, 134, rfl⟩
abbrev main_call2_c : Ref sig .tc := ⟨.hbm, 135, rfl⟩
abbrev main_call2_v9 : Ref sig .tc := ⟨.hbm, 136, rfl⟩
abbrev main_call2_v10 : Ref sig .tc := ⟨.hbm, 137, rfl⟩
abbrev main_call2_v11 : Ref sig .tc := ⟨.hbm, 138, rfl⟩
abbrev main_call2_c_0 : Ref sig .tc := ⟨.hbm, 139, rfl⟩
abbrev main_call2_v12 : Ref sig .tc := ⟨.hbm, 140, rfl⟩
abbrev main_call2_v13 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_v63 : Ref sig .tc := ⟨.hbm, 145, rfl⟩
abbrev main_v64 : Ref sig .tc := ⟨.hbm, 146, rfl⟩
abbrev main_v65 : Ref sig .tc := ⟨.hbm, 147, rfl⟩
abbrev main_v66 : Ref sig .tc := ⟨.hbm, 148, rfl⟩
abbrev main_v67 : Ref sig .tc := ⟨.hbm, 149, rfl⟩
abbrev main_v68 : Ref sig .tc := ⟨.hbm, 150, rfl⟩
abbrev main_c_12 : Ref sig .tc := ⟨.hbm, 151, rfl⟩
abbrev main_call3_v0 : Ref sig .tc := ⟨.hbm, 152, rfl⟩
abbrev main_call3_v1 : Ref sig .tc := ⟨.hbm, 153, rfl⟩
abbrev main_call3_v2 : Ref sig .tc := ⟨.hbm, 154, rfl⟩
abbrev main_call3_v3 : Ref sig .tc := ⟨.hbm, 155, rfl⟩
abbrev main_call3_v4 : Ref sig .tc := ⟨.hbm, 156, rfl⟩
abbrev main_call3_v5 : Ref sig .tc := ⟨.hbm, 157, rfl⟩
abbrev main_call3_v6 : Ref sig .tc := ⟨.hbm, 158, rfl⟩
abbrev main_call3_v7 : Ref sig .tc := ⟨.hbm, 159, rfl⟩
abbrev main_call3_v8 : Ref sig .tc := ⟨.hbm, 160, rfl⟩
abbrev main_call3_c : Ref sig .tc := ⟨.hbm, 161, rfl⟩
abbrev main_call3_v9 : Ref sig .tc := ⟨.hbm, 162, rfl⟩
abbrev main_call3_v10 : Ref sig .tc := ⟨.hbm, 163, rfl⟩
abbrev main_call3_v11 : Ref sig .tc := ⟨.hbm, 164, rfl⟩
abbrev main_call3_c_0 : Ref sig .tc := ⟨.hbm, 165, rfl⟩
abbrev main_call3_v12 : Ref sig .tc := ⟨.hbm, 166, rfl⟩
abbrev main_call3_v13 : Ref sig .tc := ⟨.hbm, 167, rfl⟩
abbrev main_v69 : Ref sig .tc := ⟨.hbm, 168, rfl⟩
abbrev main_v70 : Ref sig .tc := ⟨.hbm, 169, rfl⟩
abbrev main_v71 : Ref sig .tc := ⟨.hbm, 170, rfl⟩
abbrev main_v72 : Ref sig .tc := ⟨.hbm, 171, rfl⟩
abbrev main_v73 : Ref sig .tc := ⟨.hbm, 172, rfl⟩
abbrev main_v74 : Ref sig .tc := ⟨.hbm, 173, rfl⟩
abbrev main_v75 : Ref sig .tc := ⟨.hbm, 174, rfl⟩
abbrev main_v76 : Ref sig .tc := ⟨.hbm, 175, rfl⟩
abbrev main_v77 : Ref sig .tc := ⟨.hbm, 176, rfl⟩
abbrev main_v78 : Ref sig .tc := ⟨.hbm, 177, rfl⟩
abbrev main_c_13 : Ref sig .tc := ⟨.hbm, 178, rfl⟩
abbrev main_call4_v0 : Ref sig .tc := ⟨.hbm, 179, rfl⟩
abbrev main_call4_v1 : Ref sig .tc := ⟨.hbm, 180, rfl⟩
abbrev main_call4_v2 : Ref sig .tc := ⟨.hbm, 181, rfl⟩
abbrev main_call4_v3 : Ref sig .tc := ⟨.hbm, 182, rfl⟩
abbrev main_call4_v4 : Ref sig .tc := ⟨.hbm, 183, rfl⟩
abbrev main_call4_v5 : Ref sig .tc := ⟨.hbm, 184, rfl⟩
abbrev main_call4_v6 : Ref sig .tc := ⟨.hbm, 185, rfl⟩
abbrev main_call4_v7 : Ref sig .tc := ⟨.hbm, 186, rfl⟩
abbrev main_call4_v8 : Ref sig .tc := ⟨.hbm, 187, rfl⟩
abbrev main_call4_c : Ref sig .tc := ⟨.hbm, 188, rfl⟩
abbrev main_call4_v9 : Ref sig .tc := ⟨.hbm, 189, rfl⟩
abbrev main_call4_v10 : Ref sig .tc := ⟨.hbm, 190, rfl⟩
abbrev main_call4_v11 : Ref sig .tc := ⟨.hbm, 191, rfl⟩
abbrev main_call4_c_0 : Ref sig .tc := ⟨.hbm, 192, rfl⟩
abbrev main_call4_v12 : Ref sig .tc := ⟨.hbm, 193, rfl⟩
abbrev main_call4_v13 : Ref sig .tc := ⟨.hbm, 194, rfl⟩
abbrev main_v79 : Ref sig .tc := ⟨.hbm, 195, rfl⟩
abbrev main_v80 : Ref sig .tc := ⟨.hbm, 196, rfl⟩
abbrev main_v81 : Ref sig .tc := ⟨.hbm, 197, rfl⟩
abbrev main_v82 : Ref sig .tc := ⟨.hbm, 198, rfl⟩
abbrev main_v83 : Ref sig .tc := ⟨.hbm, 199, rfl⟩
abbrev main_v84 : Ref sig .tc := ⟨.hbm, 200, rfl⟩
abbrev main_v85 : Ref sig .tc := ⟨.hbm, 201, rfl⟩
abbrev main_v86 : Ref sig .tc := ⟨.hbm, 202, rfl⟩
abbrev main_v87 : Ref sig .tc := ⟨.hbm, 203, rfl⟩
abbrev main_c_14 : Ref sig .tc := ⟨.hbm, 204, rfl⟩
abbrev main_call5_v0 : Ref sig .tc := ⟨.hbm, 205, rfl⟩
abbrev main_call5_v1 : Ref sig .tc := ⟨.hbm, 206, rfl⟩
abbrev main_call5_v2 : Ref sig .tc := ⟨.hbm, 207, rfl⟩
abbrev main_call5_v3 : Ref sig .tc := ⟨.hbm, 208, rfl⟩
abbrev main_call5_v4 : Ref sig .tc := ⟨.hbm, 209, rfl⟩
abbrev main_call5_v5 : Ref sig .tc := ⟨.hbm, 210, rfl⟩
abbrev main_call5_v6 : Ref sig .tc := ⟨.hbm, 211, rfl⟩
abbrev main_call5_v7 : Ref sig .tc := ⟨.hbm, 212, rfl⟩
abbrev main_call5_v8 : Ref sig .tc := ⟨.hbm, 213, rfl⟩
abbrev main_call5_c : Ref sig .tc := ⟨.hbm, 214, rfl⟩
abbrev main_call5_v9 : Ref sig .tc := ⟨.hbm, 215, rfl⟩
abbrev main_call5_v10 : Ref sig .tc := ⟨.hbm, 216, rfl⟩
abbrev main_call5_v11 : Ref sig .tc := ⟨.hbm, 217, rfl⟩
abbrev main_call5_c_0 : Ref sig .tc := ⟨.hbm, 218, rfl⟩
abbrev main_call5_v12 : Ref sig .tc := ⟨.hbm, 219, rfl⟩
abbrev main_call5_v13 : Ref sig .tc := ⟨.hbm, 220, rfl⟩
abbrev main_v88 : Ref sig .tc := ⟨.hbm, 221, rfl⟩
abbrev main_v89 : Ref sig .tc := ⟨.hbm, 222, rfl⟩
abbrev main_v90 : Ref sig .tc := ⟨.hbm, 223, rfl⟩
abbrev main_v91 : Ref sig .tc := ⟨.hbm, 224, rfl⟩
abbrev main_v92 : Ref sig .tc := ⟨.hbm, 225, rfl⟩
abbrev main_v93 : Ref sig .tc := ⟨.hbm, 226, rfl⟩
abbrev main_v94 : Ref sig .tc := ⟨.hbm, 227, rfl⟩
abbrev main_v95 : Ref sig .tc := ⟨.hbm, 228, rfl⟩
abbrev main_v96 : Ref sig .tc := ⟨.hbm, 229, rfl⟩
abbrev main_v97 : Ref sig .tc := ⟨.hbm, 230, rfl⟩
abbrev main_v98 : Ref sig .tc := ⟨.hbm, 231, rfl⟩
abbrev main_v99 : Ref sig .tc := ⟨.hbm, 232, rfl⟩
abbrev main_v100 : Ref sig .tc := ⟨.hbm, 233, rfl⟩
abbrev main_v101 : Ref sig .tc := ⟨.hbm, 234, rfl⟩
abbrev main_v102 : Ref sig .tc := ⟨.hbm, 235, rfl⟩
abbrev main_v103 : Ref sig .tc := ⟨.hbm, 236, rfl⟩
abbrev main_v104 : Ref sig .tc := ⟨.hbm, 237, rfl⟩
abbrev main_v105 : Ref sig .tc := ⟨.hbm, 238, rfl⟩
abbrev main_v106 : Ref sig .tc := ⟨.hbm, 239, rfl⟩
abbrev main_v107 : Ref sig .tc := ⟨.hbm, 240, rfl⟩
abbrev main_v108 : Ref sig .tc := ⟨.hbm, 241, rfl⟩
abbrev main_v109 : Ref sig .tc := ⟨.hbm, 242, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg8_1 : Ref sig .tc := ⟨.vmem, 25, rfl⟩
abbrev cc2_stg9_0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg6_0 : Ref sig .tc := ⟨.vmem, 34, rfl⟩
abbrev cc3_stg7_0 : Ref sig .tc := ⟨.vmem, 35, rfl⟩
abbrev cc3_stg8_0 : Ref sig .tc := ⟨.vmem, 36, rfl⟩
abbrev cc3_stg9_0 : Ref sig .tc := ⟨.vmem, 37, rfl⟩
abbrev cc3_stg10_0 : Ref sig .tc := ⟨.vmem, 38, rfl⟩
abbrev cc3_stg11_0 : Ref sig .tc := ⟨.vmem, 39, rfl⟩
abbrev cc3_stg12_0 : Ref sig .tc := ⟨.vmem, 40, rfl⟩
abbrev cc3_stg13_0 : Ref sig .tc := ⟨.vmem, 41, rfl⟩
abbrev cc3_stg14_0 : Ref sig .tc := ⟨.vmem, 42, rfl⟩
abbrev cc3_stg15_0 : Ref sig .tc := ⟨.vmem, 43, rfl⟩
abbrev cc3_stg16_0 : Ref sig .tc := ⟨.vmem, 44, rfl⟩
abbrev cc3_scratch0 : Ref sig .tc := ⟨.vmem, 45, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc2_sem0_0 : DmaSem sig := 15
abbrev cc2_sem0_1 : DmaSem sig := 16
abbrev cc2_sem1_0 : DmaSem sig := 17
abbrev cc2_sem2_0 : DmaSem sig := 18
abbrev cc2_sem3_0 : DmaSem sig := 19
abbrev cc2_sem4_0 : DmaSem sig := 20
abbrev cc2_sem5_0 : DmaSem sig := 21
abbrev cc2_sem6_0 : DmaSem sig := 22
abbrev cc2_sem7_0 : DmaSem sig := 23
abbrev cc2_sem8_0 : DmaSem sig := 24
abbrev cc2_sem8_1 : DmaSem sig := 25
abbrev cc2_sem9_0 : DmaSem sig := 26
abbrev cc3_sem0_0 : DmaSem sig := 27
abbrev cc3_sem0_1 : DmaSem sig := 28
abbrev cc3_sem1_0 : DmaSem sig := 29
abbrev cc3_sem2_0 : DmaSem sig := 30
abbrev cc3_sem3_0 : DmaSem sig := 31
abbrev cc3_sem4_0 : DmaSem sig := 32
abbrev cc3_sem5_0 : DmaSem sig := 33
abbrev cc3_sem6_0 : DmaSem sig := 34
abbrev cc3_sem7_0 : DmaSem sig := 35
abbrev cc3_sem8_0 : DmaSem sig := 36
abbrev cc3_sem9_0 : DmaSem sig := 37
abbrev cc3_sem10_0 : DmaSem sig := 38
abbrev cc3_sem11_0 : DmaSem sig := 39
abbrev cc3_sem12_0 : DmaSem sig := 40
abbrev cc3_sem13_0 : DmaSem sig := 41
abbrev cc3_sem14_0 : DmaSem sig := 42
abbrev cc3_sem15_0 : DmaSem sig := 43
abbrev cc3_sem16_0 : DmaSem sig := 44

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S400x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x10240 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10240x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S400x16 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x400x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S20000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S20000x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S8x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S20000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S32x8 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S20000x64 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 1 → Memref sig .tc .vmem S8x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev grid3 : Pipeline.Grid := ⟨1, ![8], ![false]⟩

def k3_cond2 (i : grid3.Coords) : BitVec 1 :=
  let arg0 : BitVec 32 := BitVec.ofNat 32 (i 0).val
  let c7_i32 : BitVec 32 := 7#32
  let v56 : BitVec 1 := Scalar.cmpi .eq arg0 c7_i32
  let v57 : BitVec 32 := Scalar.extui v56
  let c0_i32_31 : BitVec 32 := 0#32
  let v58 : BitVec 1 := Scalar.cmpi .ne v57 c0_i32_31
  v58

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_16 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S20000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x8 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S8x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S64x128 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S1x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x128 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x128 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S128x8 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S8x128 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S128x128 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S1x128 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]

abbrev stage3_14 : Fin 1 → Memref sig .tc .vmem S1x128 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false]

abbrev stage3_15 : Fin 1 → Memref sig .tc .vmem S1x128 .f32 := fun | 0 => Memref.whole cc3_stg15_0 | ⟨_ + 1, h⟩ => absurd h (Nat.not_lt.2 (Nat.le_add_left _ _))
abbrev sem3_15 : Fin 1 → DmaSem sig := fun | 0 => cc3_sem15_0 | ⟨_ + 1, h⟩ => absurd h (Nat.not_lt.2 (Nat.le_add_left _ _))
abbrev reads3_15 : Fin grid3.rank → Bool := ![false]

abbrev stage3_16 : Fin 1 → Memref sig .tc .vmem S16x128 .f32 := fun | 0 => Memref.whole cc3_stg16_0 | ⟨_ + 1, h⟩ => absurd h (Nat.not_lt.2 (Nat.le_add_left _ _))
abbrev sem3_16 : Fin 1 → DmaSem sig := fun | 0 => cc3_sem16_0 | ⟨_ + 1, h⟩ => absurd h (Nat.not_lt.2 (Nat.le_add_left _ _))
abbrev reads3_16 : Fin grid3.rank → Bool := ![false]
-- ==== ReferenceIdeal.lean ====
abbrev S1x3x10000 : Shape := ⟨3, ![1, 3, 10000]⟩
abbrev S32x6 : Shape := ⟨2, ![32, 6]⟩
abbrev S32 : Shape := ⟨1, ![32]⟩
abbrev S64x32 : Shape := ⟨2, ![64, 32]⟩
abbrev S64 : Shape := ⟨1, ![64]⟩
abbrev S128x64 : Shape := ⟨2, ![128, 64]⟩
abbrev S128 : Shape := ⟨1, ![128]⟩
abbrev S128x128 : Shape := ⟨2, ![128, 128]⟩
abbrev S1x10000x3 : Shape := ⟨3, ![1, 10000, 3]⟩
abbrev S_ : Shape := ⟨0, ![]⟩
abbrev S1x10000 : Shape := ⟨2, ![1, 10000]⟩
abbrev S1x10000x1 : Shape := ⟨3, ![1, 10000, 1]⟩
abbrev S1x1x10000 : Shape := ⟨3, ![1, 1, 10000]⟩
abbrev S1x10000x10000 : Shape := ⟨3, ![1, 10000, 10000]⟩
abbrev S1x10000x16 : Shape := ⟨3, ![1, 10000, 16]⟩
abbrev S1x10000x16x1 : Shape := ⟨4, ![1, 10000, 16, 1]⟩
abbrev S1x10000x16x3 : Shape := ⟨4, ![1, 10000, 16, 3]⟩
abbrev S1x3x10000x16 : Shape := ⟨4, ![1, 3, 10000, 16]⟩
abbrev S1x3x10000x1 : Shape := ⟨4, ![1, 3, 10000, 1]⟩
abbrev S1x3x10000x1x16 : Shape := ⟨5, ![1, 3, 10000, 1, 16]⟩
abbrev S1x6x10000x16 : Shape := ⟨4, ![1, 6, 10000, 16]⟩
abbrev S1x10000x16x32 : Shape := ⟨4, ![1, 10000, 16, 32]⟩
abbrev S1x32x10000x16 : Shape := ⟨4, ![1, 32, 10000, 16]⟩
abbrev S1x32x1x1 : Shape := ⟨4, ![1, 32, 1, 1]⟩
abbrev S1x8x4x10000x16 : Shape := ⟨5, ![1, 8, 4, 10000, 16]⟩
abbrev S1x8 : Shape := ⟨2, ![1, 8]⟩
abbrev S1x8x1x1x1 : Shape := ⟨5, ![1, 8, 1, 1, 1]⟩
abbrev S1x10000x16x64 : Shape := ⟨4, ![1, 10000, 16, 64]⟩
abbrev S1x64x10000x16 : Shape := ⟨4, ![1, 64, 10000, 16]⟩
abbrev S1x64x1x1 : Shape := ⟨4, ![1, 64, 1, 1]⟩
abbrev S1x8x8x10000x16 : Shape := ⟨5, ![1, 8, 8, 10000, 16]⟩
abbrev S1x64x16 : Shape := ⟨3, ![1, 64, 16]⟩
abbrev S1x16x128 : Shape := ⟨3, ![1, 16, 128]⟩
abbrev S1x128x16 : Shape := ⟨3, ![1, 128, 16]⟩
abbrev S1x128x1 : Shape := ⟨3, ![1, 128, 1]⟩
abbrev S1x8x16x16 : Shape := ⟨4, ![1, 8, 16, 16]⟩
abbrev S1x8x1x1 : Shape := ⟨4, ![1, 8, 1, 1]⟩

abbrev nBuf : Space → Nat
  | .hbm => 315
  | .vmem => 0
  | .smem => 0
  | _ => 0

abbrev hbmTy0_0 (i : Nat) : BufTy := match i % 128 with
  | 0 => ⟨S1x3x10000, .f32⟩
  | 1 => ⟨S32x6, .f32⟩
  | 2 => ⟨S32, .f32⟩
  | 3 => ⟨S32, .f32⟩
  | 4 => ⟨S32, .f32⟩
  | 5 => ⟨S64x32, .f32⟩
  | 6 => ⟨S64, .f32⟩
  | 7 => ⟨S64, .f32⟩
  | 8 => ⟨S64, .f32⟩
  | 9 => ⟨S128x64, .f32⟩
  | 10 => ⟨S128, .f32⟩
  | 11 => ⟨S128, .f32⟩
  | 12 => ⟨S128, .f32⟩
  | 13 => ⟨S128x128, .f32⟩
  | 14 => ⟨S128, .f32⟩
  | 15 => ⟨S128, .f32⟩
  | 16 => ⟨S128, .f32⟩
  | 17 => ⟨S1x10000x3, .f32⟩
  | 18 => ⟨S1x10000x3, .f32⟩
  | 19 => ⟨S_, .f32⟩
  | 20 => ⟨S1x10000, .f32⟩
  | 21 => ⟨S1x10000x1, .f32⟩
  | 22 => ⟨S1x1x10000, .f32⟩
  | 23 => ⟨S1x10000x10000, .f32⟩
  | 24 => ⟨S1x10000x10000, .f32⟩
  | 25 => ⟨S1x10000x10000, .f32⟩
  | 26 => ⟨S1x10000x10000, .f32⟩
  | 27 => ⟨S_, .f32⟩
  | 28 => ⟨S1x10000x10000, .f32⟩
  | 29 => ⟨S1x10000x10000, .f32⟩
  | 30 => ⟨S1x10000x10000, .f32⟩
  | 31 => ⟨S1x10000x10000, .f32⟩
  | 32 => ⟨S1x10000x16, .f32⟩
  | 33 => ⟨S1x10000x16, .i32⟩
  | 34 => ⟨S_, .i32⟩
  | 35 => ⟨S1x10000x16, .i32⟩
  | 36 => ⟨S1x10000x16, .i1⟩
  | 37 => ⟨S_, .i32⟩
  | 38 => ⟨S1x10000x16, .i32⟩
  | 39 => ⟨S1x10000x16, .i32⟩
  | 40 => ⟨S1x10000x16, .i32⟩
  | 41 => ⟨S1x10000x16x1, .i32⟩
  | 42 => ⟨S1x10000x16x3, .f32⟩
  | 43 => ⟨S1x3x10000x16, .f32⟩
  | 44 => ⟨S1x3x10000x1, .f32⟩
  | 45 => ⟨S1x3x10000x1x16, .f32⟩
  | 46 => ⟨S1x3x10000x16, .f32⟩
  | 47 => ⟨S1x3x10000x16, .f32⟩
  | 48 => ⟨S1x6x10000x16, .f32⟩
  | 49 => ⟨S1x10000x16x32, .f32⟩
  | 50 => ⟨S1x32x10000x16, .f32⟩
  | 51 => ⟨S1x32x1x1, .f32⟩
  | 52 => ⟨S1x32x10000x16, .f32⟩
  | 53 => ⟨S1x32x10000x16, .f32⟩
  | 54 => ⟨S1x8x4x10000x16, .f32⟩
  | 55 => ⟨S_, .f32⟩
  | 56 => ⟨S1x8, .f32⟩
  | 57 => ⟨S1x8x1x1x1, .f32⟩
  | 58 => ⟨S_, .f32⟩
  | 59 => ⟨S1x8x1x1x1, .f32⟩
  | 60 => ⟨S1x8x1x1x1, .f32⟩
  | 61 => ⟨S_, .i32⟩
  | 62 => ⟨S_, .f32⟩
  | 63 => ⟨S1x8, .f32⟩
  | 64 => ⟨S1x8x1x1x1, .f32⟩
  | 65 => ⟨S_, .f32⟩
  | 66 => ⟨S1x8x1x1x1, .f32⟩
  | 67 => ⟨S1x8x1x1x1, .f32⟩
  | 68 => ⟨S1x8x4x10000x16, .f32⟩
  | 69 => ⟨S1x8x4x10000x16, .f32⟩
  | 70 => ⟨S1x8x4x10000x16, .f32⟩
  | 71 => ⟨S_, .f32⟩
  | 72 => ⟨S_, .f32⟩
  | 73 => ⟨S_, .f32⟩
  | 74 => ⟨S_, .f32⟩
  | 75 => ⟨S1x8, .f32⟩
  | 76 => ⟨S1x8x1x1x1, .f32⟩
  | 77 => ⟨S1x8x1x1x1, .f32⟩
  | 78 => ⟨S1x8x1x1x1, .f32⟩
  | 79 => ⟨S_, .f32⟩
  | 80 => ⟨S_, .i1⟩
  | 81 => ⟨S_, .f32⟩
  | 82 => ⟨S_, .f32⟩
  | 83 => ⟨S1x8x1x1x1, .f32⟩
  | 84 => ⟨S1x8x1x1x1, .f32⟩
  | 85 => ⟨S1x8x4x10000x16, .f32⟩
  | 86 => ⟨S1x8x4x10000x16, .f32⟩
  | 87 => ⟨S_, .f32⟩
  | 88 => ⟨S1x8x1x1x1, .f32⟩
  | 89 => ⟨S1x8x1x1x1, .f32⟩
  | 90 => ⟨S1x8x1x1x1, .f32⟩
  | 91 => ⟨S1x8x4x10000x16, .f32⟩
  | 92 => ⟨S1x8x4x10000x16, .f32⟩
  | 93 => ⟨S1x32x10000x16, .f32⟩
  | 94 => ⟨S1x32x1x1, .f32⟩
  | 95 => ⟨S1x32x10000x16, .f32⟩
  | 96 => ⟨S1x32x10000x16, .f32⟩
  | 97 => ⟨S1x32x1x1, .f32⟩
  | 98 => ⟨S1x32x10000x16, .f32⟩
  | 99 => ⟨S1x32x10000x16, .f32⟩
  | 100 => ⟨S_, .f32⟩
  | 101 => ⟨S1x32x10000x16, .f32⟩
  | 102 => ⟨S1x32x10000x16, .i1⟩
  | 103 => ⟨S_, .f32⟩
  | 104 => ⟨S1x32x10000x16, .f32⟩
  | 105 => ⟨S1x32x10000x16, .i1⟩
  | 106 => ⟨S_, .f32⟩
  | 107 => ⟨S_, .f32⟩
  | 108 => ⟨S1x32x10000x16, .f32⟩
  | 109 => ⟨S1x32x10000x16, .f32⟩
  | 110 => ⟨S1x32x10000x16, .f32⟩
  | 111 => ⟨S_, .f32⟩
  | 112 => ⟨S1x32x10000x16, .f32⟩
  | 113 => ⟨S1x32x10000x16, .f32⟩
  | 114 => ⟨S1x32x10000x16, .f32⟩
  | 115 => ⟨S1x10000x16x64, .f32⟩
  | 116 => ⟨S1x64x10000x16, .f32⟩
  | 117 => ⟨S1x64x1x1, .f32⟩
  | 118 => ⟨S1x64x10000x16, .f32⟩
  | 119 => ⟨S1x64x10000x16, .f32⟩
  | 120 => ⟨S1x8x8x10000x16, .f32⟩
  | 121 => ⟨S_, .f32⟩
  | 122 => ⟨S1x8, .f32⟩
  | 123 => ⟨S1x8x1x1x1, .f32⟩
  | 124 => ⟨S_, .f32⟩
  | 125 => ⟨S1x8x1x1x1, .f32⟩
  | 126 => ⟨S1x8x1x1x1, .f32⟩
  | 127 => ⟨S_, .i32⟩
  | _ => ⟨S1x3x10000, .f32⟩

abbrev hbmTy0_1 (i : Nat) : BufTy := match i % 128 with
  | 0 => ⟨S_, .f32⟩
  | 1 => ⟨S1x8, .f32⟩
  | 2 => ⟨S1x8x1x1x1, .f32⟩
  | 3 => ⟨S_, .f32⟩
  | 4 => ⟨S1x8x1x1x1, .f32⟩
  | 5 => ⟨S1x8x1x1x1, .f32⟩
  | 6 => ⟨S1x8x8x10000x16, .f32⟩
  | 7 => ⟨S1x8x8x10000x16, .f32⟩
  | 8 => ⟨S1x8x8x10000x16, .f32⟩
  | 9 => ⟨S_, .f32⟩
  | 10 => ⟨S_, .f32⟩
  | 11 => ⟨S_, .f32⟩
  | 12 => ⟨S_, .f32⟩
  | 13 => ⟨S1x8, .f32⟩
  | 14 => ⟨S1x8x1x1x1, .f32⟩
  | 15 => ⟨S1x8x1x1x1, .f32⟩
  | 16 => ⟨S1x8x1x1x1, .f32⟩
  | 17 => ⟨S_, .f32⟩
  | 18 => ⟨S_, .i1⟩
  | 19 => ⟨S_, .f32⟩
  | 20 => ⟨S_, .f32⟩
  | 21 => ⟨S1x8x1x1x1, .f32⟩
  | 22 => ⟨S1x8x1x1x1, .f32⟩
  | 23 => ⟨S1x8x8x10000x16, .f32⟩
  | 24 => ⟨S1x8x8x10000x16, .f32⟩
  | 25 => ⟨S_, .f32⟩
  | 26 => ⟨S1x8x1x1x1, .f32⟩
  | 27 => ⟨S1x8x1x1x1, .f32⟩
  | 28 => ⟨S1x8x1x1x1, .f32⟩
  | 29 => ⟨S1x8x8x10000x16, .f32⟩
  | 30 => ⟨S1x8x8x10000x16, .f32⟩
  | 31 => ⟨S1x64x10000x16, .f32⟩
  | 32 => ⟨S1x64x1x1, .f32⟩
  | 33 => ⟨S1x64x10000x16, .f32⟩
  | 34 => ⟨S1x64x10000x16, .f32⟩
  | 35 => ⟨S1x64x1x1, .f32⟩
  | 36 => ⟨S1x64x10000x16, .f32⟩
  | 37 => ⟨S1x64x10000x16, .f32⟩
  | 38 => ⟨S_, .f32⟩
  | 39 => ⟨S1x64x10000x16, .f32⟩
  | 40 => ⟨S1x64x10000x16, .i1⟩
  | 41 => ⟨S_, .f32⟩
  | 42 => ⟨S1x64x10000x16, .f32⟩
  | 43 => ⟨S1x64x10000x16, .i1⟩
  | 44 => ⟨S_, .f32⟩
  | 45 => ⟨S_, .f32⟩
  | 46 => ⟨S1x64x10000x16, .f32⟩
  | 47 => ⟨S1x64x10000x16, .f32⟩
  | 48 => ⟨S1x64x10000x16, .f32⟩
  | 49 => ⟨S_, .f32⟩
  | 50 => ⟨S1x64x10000x16, .f32⟩
  | 51 => ⟨S1x64x10000x16, .f32⟩
  | 52 => ⟨S1x64x10000x16, .f32⟩
  | 53 => ⟨S_, .f32⟩
  | 54 => ⟨S1x64x16, .f32⟩
  | 55 => ⟨S1x16x128, .f32⟩
  | 56 => ⟨S1x128x16, .f32⟩
  | 57 => ⟨S1x128x1, .f32⟩
  | 58 => ⟨S1x128x16, .f32⟩
  | 59 => ⟨S1x128x16, .f32⟩
  | 60 => ⟨S1x8x16x16, .f32⟩
  | 61 => ⟨S_, .f32⟩
  | 62 => ⟨S1x8, .f32⟩
  | 63 => ⟨S1x8x1x1, .f32⟩
  | 64 => ⟨S_, .f32⟩
  | 65 => ⟨S1x8x1x1, .f32⟩
  | 66 => ⟨S1x8x1x1, .f32⟩
  | 67 => ⟨S_, .i32⟩
  | 68 => ⟨S_, .f32⟩
  | 69 => ⟨S1x8, .f32⟩
  | 70 => ⟨S1x8x1x1, .f32⟩
  | 71 => ⟨S_, .f32⟩
  | 72 => ⟨S1x8x1x1, .f32⟩
  | 73 => ⟨S1x8x1x1, .f32⟩
  | 74 => ⟨S1x8x16x16, .f32⟩
  | 75 => ⟨S1x8x16x16, .f32⟩
  | 76 => ⟨S1x8x16x16, .f32⟩
  | 77 => ⟨S_, .f32⟩
  | 78 => ⟨S_, .f32⟩
  | 79 => ⟨S_, .f32⟩
  | 80 => ⟨S_, .f32⟩
  | 81 => ⟨S1x8, .f32⟩
  | 82 => ⟨S1x8x1x1, .f32⟩
  | 83 => ⟨S1x8x1x1, .f32⟩
  | 84 => ⟨S1x8x1x1, .f32⟩
  | 85 => ⟨S_, .f32⟩
  | 86 => ⟨S_, .i1⟩
  | 87 => ⟨S_, .f32⟩
  | 88 => ⟨S_, .f32⟩
  | 89 => ⟨S1x8x1x1, .f32⟩
  | 90 => ⟨S1x8x1x1, .f32⟩
  | 91 => ⟨S1x8x16x16, .f32⟩
  | 92 => ⟨S1x8x16x16, .f32⟩
  | 93 => ⟨S_, .f32⟩
  | 94 => ⟨S1x8x1x1, .f32⟩
  | 95 => ⟨S1x8x1x1, .f32⟩
  | 96 => ⟨S1x8x1x1, .f32⟩
  | 97 => ⟨S1x8x16x16, .f32⟩
  | 98 => ⟨S1x8x16x16, .f32⟩
  | 99 => ⟨S1x128x16, .f32⟩
  | 100 => ⟨S1x128x1, .f32⟩
  | 101 => ⟨S1x128x16, .f32⟩
  | 102 => ⟨S1x128x16, .f32⟩
  | 103 => ⟨S1x128x1, .f32⟩
  | 104 => ⟨S1x128x16, .f32⟩
  | 105 => ⟨S1x128x16, .f32⟩
  | 106 => ⟨S_, .f32⟩
  | 107 => ⟨S1x128x16, .f32⟩
  | 108 => ⟨S1x128x16, .i1⟩
  | 109 => ⟨S_, .f32⟩
  | 110 => ⟨S1x128x16, .f32⟩
  | 111 => ⟨S1x128x16, .i1⟩
  | 112 => ⟨S_, .f32⟩
  | 113 => ⟨S_, .f32⟩
  | 114 => ⟨S1x128x16, .f32⟩
  | 115 => ⟨S1x128x16, .f32⟩
  | 116 => ⟨S1x128x16, .f32⟩
  | 117 => ⟨S_, .f32⟩
  | 118 => ⟨S1x128x16, .f32⟩
  | 119 => ⟨S1x128x16, .f32⟩
  | 120 => ⟨S1x128x16, .f32⟩
  | 121 => ⟨S1x16x128, .f32⟩
  | 122 => ⟨S1x128x16, .f32⟩
  | 123 => ⟨S1x128x1, .f32⟩
  | 124 => ⟨S1x128x16, .f32⟩
  | 125 => ⟨S1x128x16, .f32⟩
  | 126 => ⟨S1x8x16x16, .f32⟩
  | 127 => ⟨S_, .f32⟩
  | _ => ⟨S1x3x10000, .f32⟩

abbrev hbmTy0_2 (i : Nat) : BufTy := match i % 128 with
  | 0 => ⟨S1x8, .f32⟩
  | 1 => ⟨S1x8x1x1, .f32⟩
  | 2 => ⟨S_, .f32⟩
  | 3 => ⟨S1x8x1x1, .f32⟩
  | 4 => ⟨S1x8x1x1, .f32⟩
  | 5 => ⟨S_, .i32⟩
  | 6 => ⟨S_, .f32⟩
  | 7 => ⟨S1x8, .f32⟩
  | 8 => ⟨S1x8x1x1, .f32⟩
  | 9 => ⟨S_, .f32⟩
  | 10 => ⟨S1x8x1x1, .f32⟩
  | 11 => ⟨S1x8x1x1, .f32⟩
  | 12 => ⟨S1x8x16x16, .f32⟩
  | 13 => ⟨S1x8x16x16, .f32⟩
  | 14 => ⟨S1x8x16x16, .f32⟩
  | 15 => ⟨S_, .f32⟩
  | 16 => ⟨S_, .f32⟩
  | 17 => ⟨S_, .f32⟩
  | 18 => ⟨S_, .f32⟩
  | 19 => ⟨S1x8, .f32⟩
  | 20 => ⟨S1x8x1x1, .f32⟩
  | 21 => ⟨S1x8x1x1, .f32⟩
  | 22 => ⟨S1x8x1x1, .f32⟩
  | 23 => ⟨S_, .f32⟩
  | 24 => ⟨S_, .i1⟩
  | 25 => ⟨S_, .f32⟩
  | 26 => ⟨S_, .f32⟩
  | 27 => ⟨S1x8x1x1, .f32⟩
  | 28 => ⟨S1x8x1x1, .f32⟩
  | 29 => ⟨S1x8x16x16, .f32⟩
  | 30 => ⟨S1x8x16x16, .f32⟩
  | 31 => ⟨S_, .f32⟩
  | 32 => ⟨S1x8x1x1, .f32⟩
  | 33 => ⟨S1x8x1x1, .f32⟩
  | 34 => ⟨S1x8x1x1, .f32⟩
  | 35 => ⟨S1x8x16x16, .f32⟩
  | 36 => ⟨S1x8x16x16, .f32⟩
  | 37 => ⟨S1x128x16, .f32⟩
  | 38 => ⟨S1x128x1, .f32⟩
  | 39 => ⟨S1x128x16, .f32⟩
  | 40 => ⟨S1x128x16, .f32⟩
  | 41 => ⟨S1x128x1, .f32⟩
  | 42 => ⟨S1x128x16, .f32⟩
  | 43 => ⟨S1x128x16, .f32⟩
  | 44 => ⟨S_, .f32⟩
  | 45 => ⟨S1x128x16, .f32⟩
  | 46 => ⟨S1x128x16, .i1⟩
  | 47 => ⟨S_, .f32⟩
  | 48 => ⟨S1x128x16, .f32⟩
  | 49 => ⟨S1x128x16, .i1⟩
  | 50 => ⟨S_, .f32⟩
  | 51 => ⟨S_, .f32⟩
  | 52 => ⟨S1x128x16, .f32⟩
  | 53 => ⟨S1x128x16, .f32⟩
  | 54 => ⟨S1x128x16, .f32⟩
  | 55 => ⟨S_, .f32⟩
  | 56 => ⟨S1x128x16, .f32⟩
  | 57 => ⟨S1x128x16, .f32⟩
  | 58 => ⟨S1x128x16, .f32⟩
  | _ => ⟨S1x3x10000, .f32⟩

abbrev hbmTy (i : Nat) : BufTy := match i / 128 with
  | 0 => hbmTy0_0 i
  | 1 => hbmTy0_1 i
  | 2 => hbmTy0_2 i
  | _ => ⟨S1x3x10000, .f32⟩

abbrev bufTy : (tb : Table) → Fin (tcTables nBuf tb) → BufTy
  | .hbm, ⟨i, _⟩ => hbmTy i
  | _, _ => ⟨S1x3x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_cst : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_values : Ref sig .tc := ⟨.hbm, 32, rfl⟩
abbrev main_indices : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_1 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_2 : Ref sig .tc := ⟨.hbm, 55, rfl⟩
abbrev main_v32 : Ref sig .tc := ⟨.hbm, 56, rfl⟩
abbrev main_v33 : Ref sig .tc := ⟨.hbm, 57, rfl⟩
abbrev main_cst_3 : Ref sig .tc := ⟨.hbm, 58, rfl⟩
abbrev main_v34 : Ref sig .tc := ⟨.hbm, 59, rfl⟩
abbrev main_v35 : Ref sig .tc := ⟨.hbm, 60, rfl⟩
abbrev main_c_4 : Ref sig .tc := ⟨.hbm, 61, rfl⟩
abbrev main_call0_cst : Ref sig .tc := ⟨.hbm, 62, rfl⟩
abbrev main_call0_v0 : Ref sig .tc := ⟨.hbm, 63, rfl⟩
abbrev main_call0_v1 : Ref sig .tc := ⟨.hbm, 64, rfl⟩
abbrev main_call0_cst_0 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_call0_v5 : Ref sig .tc := ⟨.hbm, 69, rfl⟩
abbrev main_call0_v6 : Ref sig .tc := ⟨.hbm, 70, rfl⟩
abbrev main_call0_v7 : Ref sig .tc := ⟨.hbm, 71, rfl⟩
abbrev main_call0_cst_1 : Ref sig .tc := ⟨.hbm, 72, rfl⟩
abbrev main_call0_v8 : Ref sig .tc := ⟨.hbm, 73, rfl⟩
abbrev main_call0_cst_2 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_call0_v12 : Ref sig .tc := ⟨.hbm, 78, rfl⟩
abbrev main_call0_cst_3 : Ref sig .tc := ⟨.hbm, 79, rfl⟩
abbrev main_call0_v13 : Ref sig .tc := ⟨.hbm, 80, rfl⟩
abbrev main_call0_cst_4 : Ref sig .tc := ⟨.hbm, 81, rfl⟩
abbrev main_call0_call0_v0 : Ref sig .tc := ⟨.hbm, 82, rfl⟩
abbrev main_call0_call0_v1 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_cst_5 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_v43 : Ref sig .tc := ⟨.hbm, 92, rfl⟩
abbrev main_v44 : Ref sig .tc := ⟨.hbm, 93, rfl⟩
abbrev main_v45 : Ref sig .tc := ⟨.hbm, 94, rfl⟩
abbrev main_v46 : Ref sig .tc := ⟨.hbm, 95, rfl⟩
abbrev main_v47 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_call1_cst : Ref sig .tc := ⟨.hbm, 100, rfl⟩
abbrev main_call1_v0 : Ref sig .tc := ⟨.hbm, 101, rfl⟩
abbrev main_call1_v1 : Ref sig .tc := ⟨.hbm, 102, rfl⟩
abbrev main_call1_cst_0 : Ref sig .tc := ⟨.hbm, 103, rfl⟩
abbrev main_call1_v2 : Ref sig .tc := ⟨.hbm, 104, rfl⟩
abbrev main_call1_v3 : Ref sig .tc := ⟨.hbm, 105, rfl⟩
abbrev main_call1_cst_1 : Ref sig .tc := ⟨.hbm, 106, rfl⟩
abbrev main_call1_call0_v0 : Ref sig .tc := ⟨.hbm, 107, rfl⟩
abbrev main_call1_call0_v1 : Ref sig .tc := ⟨.hbm, 108, rfl⟩
abbrev main_call1_v4 : Ref sig .tc := ⟨.hbm, 109, rfl⟩
abbrev main_call1_v5 : Ref sig .tc := ⟨.hbm, 110, rfl⟩
abbrev main_call1_cst_2 : Ref sig .tc := ⟨.hbm, 111, rfl⟩
abbrev main_call1_v6 : Ref sig .tc := ⟨.hbm, 112, rfl⟩
abbrev main_call1_v7 : Ref sig .tc := ⟨.hbm, 113, rfl⟩
abbrev main_v51 : Ref sig .tc := ⟨.hbm, 114, rfl⟩
abbrev main_v52 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_cst_6 : Ref sig .tc := ⟨.hbm, 121, rfl⟩
abbrev main_v58 : Ref sig .tc := ⟨.hbm, 122, rfl⟩
abbrev main_v59 : Ref sig .tc := ⟨.hbm, 123, rfl⟩
abbrev main_cst_7 : Ref sig .tc := ⟨.hbm, 124, rfl⟩
abbrev main_v60 : Ref sig .tc := ⟨.hbm, 125, rfl⟩
abbrev main_v61 : Ref sig .tc := ⟨.hbm, 126, rfl⟩
abbrev main_c_8 : Ref sig .tc := ⟨.hbm, 127, rfl⟩
abbrev main_call2_cst : Ref sig .tc := ⟨.hbm, 128, rfl⟩
abbrev main_call2_v0 : Ref sig .tc := ⟨.hbm, 129, rfl⟩
abbrev main_call2_v1 : Ref sig .tc := ⟨.hbm, 130, rfl⟩
abbrev main_call2_cst_0 : Ref sig .tc := ⟨.hbm, 131, rfl⟩
abbrev main_call2_v2 : Ref sig .tc := ⟨.hbm, 132, rfl⟩
abbrev main_call2_v3 : Ref sig .tc := ⟨.hbm, 133, rfl⟩
abbrev main_call2_v4 : Ref sig .tc := ⟨.hbm, 134, rfl⟩
abbrev main_call2_v5 : Ref sig .tc := ⟨.hbm, 135, rfl⟩
abbrev main_call2_v6 : Ref sig .tc := ⟨.hbm, 136, rfl⟩
abbrev main_call2_v7 : Ref sig .tc := ⟨.hbm, 137, rfl⟩
abbrev main_call2_cst_1 : Ref sig .tc := ⟨.hbm, 138, rfl⟩
abbrev main_call2_v8 : Ref sig .tc := ⟨.hbm, 139, rfl⟩
abbrev main_call2_cst_2 : Ref sig .tc := ⟨.hbm, 140, rfl⟩
abbrev main_call2_v9 : Ref sig .tc := ⟨.hbm, 141, rfl⟩
abbrev main_call2_v10 : Ref sig .tc := ⟨.hbm, 142, rfl⟩
abbrev main_call2_v11 : Ref sig .tc := ⟨.hbm, 143, rfl⟩
abbrev main_call2_v12 : Ref sig .tc := ⟨.hbm, 144, rfl⟩
abbrev main_call2_cst_3 : Ref sig .tc := ⟨.hbm, 145, rfl⟩
abbrev main_call2_v13 : Ref sig .tc := ⟨.hbm, 146, rfl⟩
abbrev main_call2_cst_4 : Ref sig .tc := ⟨.hbm, 147, rfl⟩
abbrev main_call2_call0_v0 : Ref sig .tc := ⟨.hbm, 148, rfl⟩
abbrev main_call2_call0_v1 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_cst_9 : Ref sig .tc := ⟨.hbm, 153, rfl⟩
abbrev main_v65 : Ref sig .tc := ⟨.hbm, 154, rfl⟩
abbrev main_v66 : Ref sig .tc := ⟨.hbm, 155, rfl⟩
abbrev main_v67 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_v71 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_call3_cst : Ref sig .tc := ⟨.hbm, 166, rfl⟩
abbrev main_call3_v0 : Ref sig .tc := ⟨.hbm, 167, rfl⟩
abbrev main_call3_v1 : Ref sig .tc := ⟨.hbm, 168, rfl⟩
abbrev main_call3_cst_0 : Ref sig .tc := ⟨.hbm, 169, rfl⟩
abbrev main_call3_v2 : Ref sig .tc := ⟨.hbm, 170, rfl⟩
abbrev main_call3_v3 : Ref sig .tc := ⟨.hbm, 171, rfl⟩
abbrev main_call3_cst_1 : Ref sig .tc := ⟨.hbm, 172, rfl⟩
abbrev main_call3_call0_v0 : Ref sig .tc := ⟨.hbm, 173, rfl⟩
abbrev main_call3_call0_v1 : Ref sig .tc := ⟨.hbm, 174, rfl⟩
abbrev main_call3_v4 : Ref sig .tc := ⟨.hbm, 175, rfl⟩
abbrev main_call3_v5 : Ref sig .tc := ⟨.hbm, 176, rfl⟩
abbrev main_call3_cst_2 : Ref sig .tc := ⟨.hbm, 177, rfl⟩
abbrev main_call3_v6 : Ref sig .tc := ⟨.hbm, 178, rfl⟩
abbrev main_call3_v7 : Ref sig .tc := ⟨.hbm, 179, rfl⟩
abbrev main_v77 : Ref sig .tc := ⟨.hbm, 180, rfl⟩
abbrev main_cst_10 : Ref sig .tc := ⟨.hbm, 181, rfl⟩
abbrev main_v78 : Ref sig .tc := ⟨.hbm, 182, rfl⟩
abbrev main_v79 : Ref sig .tc := ⟨.hbm, 183, rfl⟩
abbrev main_v80 : Ref sig .tc := ⟨.hbm, 184, rfl⟩
abbrev main_v81 : Ref sig .tc := ⟨.hbm, 185, rfl⟩
abbrev main_v82 : Ref sig .tc := ⟨.hbm, 186, rfl⟩
abbrev main_v83 : Ref sig .tc := ⟨.hbm, 187, rfl⟩
abbrev main_v84 : Ref sig .tc := ⟨.hbm, 188, rfl⟩
abbrev main_cst_11 : Ref sig .tc := ⟨.hbm, 189, rfl⟩
abbrev main_v85 : Ref sig .tc := ⟨.hbm, 190, rfl⟩
abbrev main_v86 : Ref sig .tc := ⟨.hbm, 191, rfl⟩
abbrev main_cst_12 : Ref sig .tc := ⟨.hbm, 192, rfl⟩
abbrev main_v87 : Ref sig .tc := ⟨.hbm, 193, rfl⟩
abbrev main_v88 : Ref sig .tc := ⟨.hbm, 194, rfl⟩
abbrev main_c_13 : Ref sig .tc := ⟨.hbm, 195, rfl⟩
abbrev main_call4_cst : Ref sig .tc := ⟨.hbm, 196, rfl⟩
abbrev main_call4_v0 : Ref sig .tc := ⟨.hbm, 197, rfl⟩
abbrev main_call4_v1 : Ref sig .tc := ⟨.hbm, 198, rfl⟩
abbrev main_call4_cst_0 : Ref sig .tc := ⟨.hbm, 199, rfl⟩
abbrev main_call4_v2 : Ref sig .tc := ⟨.hbm, 200, rfl⟩
abbrev main_call4_v3 : Ref sig .tc := ⟨.hbm, 201, rfl⟩
abbrev main_call4_v4 : Ref sig .tc := ⟨.hbm, 202, rfl⟩
abbrev main_call4_v5 : Ref sig .tc := ⟨.hbm, 203, rfl⟩
abbrev main_call4_v6 : Ref sig .tc := ⟨.hbm, 204, rfl⟩
abbrev main_call4_v7 : Ref sig .tc := ⟨.hbm, 205, rfl⟩
abbrev main_call4_cst_1 : Ref sig .tc := ⟨.hbm, 206, rfl⟩
abbrev main_call4_v8 : Ref sig .tc := ⟨.hbm, 207, rfl⟩
abbrev main_call4_cst_2 : Ref sig .tc := ⟨.hbm, 208, rfl⟩
abbrev main_call4_v9 : Ref sig .tc := ⟨.hbm, 209, rfl⟩
abbrev main_call4_v10 : Ref sig .tc := ⟨.hbm, 210, rfl⟩
abbrev main_call4_v11 : Ref sig .tc := ⟨.hbm, 211, rfl⟩
abbrev main_call4_v12 : Ref sig .tc := ⟨.hbm, 212, rfl⟩
abbrev main_call4_cst_3 : Ref sig .tc := ⟨.hbm, 213, rfl⟩
abbrev main_call4_v13 : Ref sig .tc := ⟨.hbm, 214, rfl⟩
abbrev main_call4_cst_4 : Ref sig .tc := ⟨.hbm, 215, rfl⟩
abbrev main_call4_call0_v0 : Ref sig .tc := ⟨.hbm, 216, rfl⟩
abbrev main_call4_call0_v1 : Ref sig .tc := ⟨.hbm, 217, rfl⟩
abbrev main_v89 : Ref sig .tc := ⟨.hbm, 218, rfl⟩
abbrev main_v90 : Ref sig .tc := ⟨.hbm, 219, rfl⟩
abbrev main_v91 : Ref sig .tc := ⟨.hbm, 220, rfl⟩
abbrev main_cst_14 : Ref sig .tc := ⟨.hbm, 221, rfl⟩
abbrev main_v92 : Ref sig .tc := ⟨.hbm, 222, rfl⟩
abbrev main_v93 : Ref sig .tc := ⟨.hbm, 223, rfl⟩
abbrev main_v94 : Ref sig .tc := ⟨.hbm, 224, rfl⟩
abbrev main_v95 : Ref sig .tc := ⟨.hbm, 225, rfl⟩
abbrev main_v96 : Ref sig .tc := ⟨.hbm, 226, rfl⟩
abbrev main_v97 : Ref sig .tc := ⟨.hbm, 227, rfl⟩
abbrev main_v98 : Ref sig .tc := ⟨.hbm, 228, rfl⟩
abbrev main_v99 : Ref sig .tc := ⟨.hbm, 229, rfl⟩
abbrev main_v100 : Ref sig .tc := ⟨.hbm, 230, rfl⟩
abbrev main_v101 : Ref sig .tc := ⟨.hbm, 231, rfl⟩
abbrev main_v102 : Ref sig .tc := ⟨.hbm, 232, rfl⟩
abbrev main_v103 : Ref sig .tc := ⟨.hbm, 233, rfl⟩
abbrev main_call5_cst : Ref sig .tc := ⟨.hbm, 234, rfl⟩
abbrev main_call5_v0 : Ref sig .tc := ⟨.hbm, 235, rfl⟩
abbrev main_call5_v1 : Ref sig .tc := ⟨.hbm, 236, rfl⟩
abbrev main_call5_cst_0 : Ref sig .tc := ⟨.hbm, 237, rfl⟩
abbrev main_call5_v2 : Ref sig .tc := ⟨.hbm, 238, rfl⟩
abbrev main_call5_v3 : Ref sig .tc := ⟨.hbm, 239, rfl⟩
abbrev main_call5_cst_1 : Ref sig .tc := ⟨.hbm, 240, rfl⟩
abbrev main_call5_call0_v0 : Ref sig .tc := ⟨.hbm, 241, rfl⟩
abbrev main_call5_call0_v1 : Ref sig .tc := ⟨.hbm, 242, rfl⟩
abbrev main_call5_v4 : Ref sig .tc := ⟨.hbm, 243, rfl⟩
abbrev main_call5_v5 : Ref sig .tc := ⟨.hbm, 244, rfl⟩
abbrev main_call5_cst_2 : Ref sig .tc := ⟨.hbm, 245, rfl⟩
abbrev main_call5_v6 : Ref sig .tc := ⟨.hbm, 246, rfl⟩
abbrev main_call5_v7 : Ref sig .tc := ⟨.hbm, 247, rfl⟩
abbrev main_v104 : Ref sig .tc := ⟨.hbm, 248, rfl⟩
abbrev main_v105 : Ref sig .tc := ⟨.hbm, 249, rfl⟩
abbrev main_v106 : Ref sig .tc := ⟨.hbm, 250, rfl⟩
abbrev main_v107 : Ref sig .tc := ⟨.hbm, 251, rfl⟩
abbrev main_v108 : Ref sig .tc := ⟨.hbm, 252, rfl⟩
abbrev main_v109 : Ref sig .tc := ⟨.hbm, 253, rfl⟩
abbrev main_v110 : Ref sig .tc := ⟨.hbm, 254, rfl⟩
abbrev main_cst_15 : Ref sig .tc := ⟨.hbm, 255, rfl⟩
abbrev main_v111 : Ref sig .tc := ⟨.hbm, 256, rfl⟩
abbrev main_v112 : Ref sig .tc := ⟨.hbm, 257, rfl⟩
abbrev main_cst_16 : Ref sig .tc := ⟨.hbm, 258, rfl⟩
abbrev main_v113 : Ref sig .tc := ⟨.hbm, 259, rfl⟩
abbrev main_v114 : Ref sig .tc := ⟨.hbm, 260, rfl⟩
abbrev main_c_17 : Ref sig .tc := ⟨.hbm, 261, rfl⟩
abbrev main_call6_cst : Ref sig .tc := ⟨.hbm, 262, rfl⟩
abbrev main_call6_v0 : Ref sig .tc := ⟨.hbm, 263, rfl⟩
abbrev main_call6_v1 : Ref sig .tc := ⟨.hbm, 264, rfl⟩
abbrev main_call6_cst_0 : Ref sig .tc := ⟨.hbm, 265, rfl⟩
abbrev main_call6_v2 : Ref sig .tc := ⟨.hbm, 266, rfl⟩
abbrev main_call6_v3 : Ref sig .tc := ⟨.hbm, 267, rfl⟩
abbrev main_call6_v4 : Ref sig .tc := ⟨.hbm, 268, rfl⟩
abbrev main_call6_v5 : Ref sig .tc := ⟨.hbm, 269, rfl⟩
abbrev main_call6_v6 : Ref sig .tc := ⟨.hbm, 270, rfl⟩
abbrev main_call6_v7 : Ref sig .tc := ⟨.hbm, 271, rfl⟩
abbrev main_call6_cst_1 : Ref sig .tc := ⟨.hbm, 272, rfl⟩
abbrev main_call6_v8 : Ref sig .tc := ⟨.hbm, 273, rfl⟩
abbrev main_call6_cst_2 : Ref sig .tc := ⟨.hbm, 274, rfl⟩
abbrev main_call6_v9 : Ref sig .tc := ⟨.hbm, 275, rfl⟩
abbrev main_call6_v10 : Ref sig .tc := ⟨.hbm, 276, rfl⟩
abbrev main_call6_v11 : Ref sig .tc := ⟨.hbm, 277, rfl⟩
abbrev main_call6_v12 : Ref sig .tc := ⟨.hbm, 278, rfl⟩
abbrev main_call6_cst_3 : Ref sig .tc := ⟨.hbm, 279, rfl⟩
abbrev main_call6_v13 : Ref sig .tc := ⟨.hbm, 280, rfl⟩
abbrev main_call6_cst_4 : Ref sig .tc := ⟨.hbm, 281, rfl⟩
abbrev main_call6_call0_v0 : Ref sig .tc := ⟨.hbm, 282, rfl⟩
abbrev main_call6_call0_v1 : Ref sig .tc := ⟨.hbm, 283, rfl⟩
abbrev main_v115 : Ref sig .tc := ⟨.hbm, 284, rfl⟩
abbrev main_v116 : Ref sig .tc := ⟨.hbm, 285, rfl⟩
abbrev main_v117 : Ref sig .tc := ⟨.hbm, 286, rfl⟩
abbrev main_cst_18 : Ref sig .tc := ⟨.hbm, 287, rfl⟩
abbrev main_v118 : Ref sig .tc := ⟨.hbm, 288, rfl⟩
abbrev main_v119 : Ref sig .tc := ⟨.hbm, 289, rfl⟩
abbrev main_v120 : Ref sig .tc := ⟨.hbm, 290, rfl⟩
abbrev main_v121 : Ref sig .tc := ⟨.hbm, 291, rfl⟩
abbrev main_v122 : Ref sig .tc := ⟨.hbm, 292, rfl⟩
abbrev main_v123 : Ref sig .tc := ⟨.hbm, 293, rfl⟩
abbrev main_v124 : Ref sig .tc := ⟨.hbm, 294, rfl⟩
abbrev main_v125 : Ref sig .tc := ⟨.hbm, 295, rfl⟩
abbrev main_v126 : Ref sig .tc := ⟨.hbm, 296, rfl⟩
abbrev main_v127 : Ref sig .tc := ⟨.hbm, 297, rfl⟩
abbrev main_v128 : Ref sig .tc := ⟨.hbm, 298, rfl⟩
abbrev main_v129 : Ref sig .tc := ⟨.hbm, 299, rfl⟩
abbrev main_call7_cst : Ref sig .tc := ⟨.hbm, 300, rfl⟩
abbrev main_call7_v0 : Ref sig .tc := ⟨.hbm, 301, rfl⟩
abbrev main_call7_v1 : Ref sig .tc := ⟨.hbm, 302, rfl⟩
abbrev main_call7_cst_0 : Ref sig .tc := ⟨.hbm, 303, rfl⟩
abbrev main_call7_v2 : Ref sig .tc := ⟨.hbm, 304, rfl⟩
abbrev main_call7_v3 : Ref sig .tc := ⟨.hbm, 305, rfl⟩
abbrev main_call7_cst_1 : Ref sig .tc := ⟨.hbm, 306, rfl⟩
abbrev main_call7_call0_v0 : Ref sig .tc := ⟨.hbm, 307, rfl⟩
abbrev main_call7_call0_v1 : Ref sig .tc := ⟨.hbm, 308, rfl⟩
abbrev main_call7_v4 : Ref sig .tc := ⟨.hbm, 309, rfl⟩
abbrev main_call7_v5 : Ref sig .tc := ⟨.hbm, 310, rfl⟩
abbrev main_call7_cst_2 : Ref sig .tc := ⟨.hbm, 311, rfl⟩
abbrev main_call7_v6 : Ref sig .tc := ⟨.hbm, 312, rfl⟩
abbrev main_call7_v7 : Ref sig .tc := ⟨.hbm, 313, rfl⟩
abbrev main_v130 : Ref sig .tc := ⟨.hbm, 314, rfl⟩

abbrev nD : Nat := 1
abbrev τ : Topo := Topo.v7x

variable {F : FTy → Type} [FloatOps F]
-- ==== Proof.Reg0.lean ====
/-
The selection call (region 0 of @main) over any entry contents `V`: what its body stores, its proof data and its
body obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 0 of @main: custom_call 0, `cc0__knn_body` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

abbrev r0_0 : Rect S400x8 := Rect.unit (s := S400x8) ![0, 0] S400x8.size inb_S400x8_S400x8_0_0
abbrev r0_1 : Rect S8x10240 := Rect.unit (s := S8x10240) ![0, 0] S8x10240.size inb_S8x10240_S8x10240_0_0
abbrev r0_2 : Rect S10240x8 := Rect.unit (s := S10240x8) ![0, 0] S10240x8.size inb_S10240x8_S10240x8_0_0
abbrev r0_3 : Rect S16x400x8 := Rect.unit (s := S16x400x8) ![0, 0, 0] S1x400x8.size inb_S16x400x8_S1x400x8_0_0_0
abbrev r0_4 : Rect S16x400x8 := Rect.unit (s := S16x400x8) ![1, 0, 0] S1x400x8.size inb_S16x400x8_S1x400x8_1_0_0
abbrev r0_5 : Rect S16x400x8 := Rect.unit (s := S16x400x8) ![2, 0, 0] S1x400x8.size inb_S16x400x8_S1x400x8_2_0_0
abbrev r0_6 : Rect S16x400x8 := Rect.unit (s := S16x400x8) ![3, 0, 0] S1x400x8.size inb_S16x400x8_S1x400x8_3_0_0
abbrev r0_7 : Rect S16x400x8 := Rect.unit (s := S16x400x8) ![4, 0, 0] S1x400x8.size inb_S16x400x8_S1x400x8_4_0_0
abbrev r0_8 : Rect S16x400x8 := Rect.unit (s := S16x400x8) ![5, 0, 0] S1x400x8.size inb_S16x400x8_S1x400x8_5_0_0
abbrev r0_9 : Rect S16x400x8 := Rect.unit (s := S16x400x8) ![6, 0, 0] S1x400x8.size inb_S16x400x8_S1x400x8_6_0_0
abbrev r0_10 : Rect S16x400x8 := Rect.unit (s := S16x400x8) ![7, 0, 0] S1x400x8.size inb_S16x400x8_S1x400x8_7_0_0
abbrev r0_11 : Rect S16x400x8 := Rect.unit (s := S16x400x8) ![8, 0, 0] S1x400x8.size inb_S16x400x8_S1x400x8_8_0_0
abbrev r0_12 : Rect S16x400x8 := Rect.unit (s := S16x400x8) ![9, 0, 0] S1x400x8.size inb_S16x400x8_S1x400x8_9_0_0
abbrev r0_13 : Rect S16x400x8 := Rect.unit (s := S16x400x8) ![10, 0, 0] S1x400x8.size inb_S16x400x8_S1x400x8_10_0_0
abbrev r0_14 : Rect S16x400x8 := Rect.unit (s := S16x400x8) ![11, 0, 0] S1x400x8.size inb_S16x400x8_S1x400x8_11_0_0
abbrev r0_15 : Rect S16x400x8 := Rect.unit (s := S16x400x8) ![12, 0, 0] S1x400x8.size inb_S16x400x8_S1x400x8_12_0_0
abbrev r0_16 : Rect S16x400x8 := Rect.unit (s := S16x400x8) ![13, 0, 0] S1x400x8.size inb_S16x400x8_S1x400x8_13_0_0
abbrev r0_17 : Rect S16x400x8 := Rect.unit (s := S16x400x8) ![14, 0, 0] S1x400x8.size inb_S16x400x8_S1x400x8_14_0_0
abbrev r0_18 : Rect S16x400x8 := Rect.unit (s := S16x400x8) ![15, 0, 0] S1x400x8.size inb_S16x400x8_S1x400x8_15_0_0
abbrev r0_19 : Rect S400x16 := Rect.unit (s := S400x16) ![0, 0] S400x16.size inb_S400x16_S400x16_0_0

/-! ## What the body leaves in each output window's buffer -/

/-! ### Values of the body that the stores' payloads, spelt out, would write more than once

    Each is a vector the body binds (often a part call's result), stated over the input windows' blocks and
    numbered on from the skeleton's payload functions (`k0_pay81` …, after `k0_pay80`), so that
    `out0_W` and the values after it name it instead of spelling it out ; the comment after each is the printed function's
    name for the value (a count appended where that name is bound again). -/

def k0_pay81 (x0 : Vec F S400x8 .f32) (x1 : Vec F S8x10240 .f32) (x2 : Vec F S10240x8 .f32) : IVec S400x16 32 :=
  iota .tc S400x16 32 [1] iota_S400x16_d1_w32 -- `v25`
def k0_pay82 (x0 : Vec F S400x8 .f32) (x1 : Vec F S8x10240 .f32) (x2 : Vec F S10240x8 .f32) : FVec F S1x10240 .f32 :=
  k0_pay4 (F := F) -- `v11`
def k0_pay83 (x0 : Vec F S400x8 .f32) (x1 : Vec F S8x10240 .f32) (x2 : Vec F S10240x8 .f32) : FVec F S400x10240 .f32 :=
  k0_pay5 (View.ld x0 r0_0) (View.ld x1 r0_1) -- `v24`
def k0_pay84 (x0 : Vec F S400x8 .f32) (x1 : Vec F S8x10240 .f32) (x2 : Vec F S10240x8 .f32) : FVec F S400x10240 .f32 :=
  k0_pay8 (View.ld x0 r0_0) (View.ld x1 r0_1) -- `v41`
def k0_pay85 (x0 : Vec F S400x8 .f32) (x1 : Vec F S8x10240 .f32) (x2 : Vec F S10240x8 .f32) : FVec F S400x10240 .f32 :=
  k0_pay15 (k0_pay82 x0 x1 x2) (k0_pay83 x0 x1 x2) (k0_pay84 x0 x1 x2) -- `v82`
def k0_pay86 (x0 : Vec F S400x8 .f32) (x1 : Vec F S8x10240 .f32) (x2 : Vec F S10240x8 .f32) : FVec F S400x10240 .f32 :=
  k0_pay19 (k0_pay82 x0 x1 x2) (k0_pay85 x0 x1 x2) -- `v114`
def k0_pay87 (x0 : Vec F S400x8 .f32) (x1 : Vec F S8x10240 .f32) (x2 : Vec F S10240x8 .f32) : IVec S400x10240 1 :=
  k0_pay21 (k0_pay82 x0 x1 x2) (k0_pay85 x0 x1 x2) -- `v126`
def k0_pay88 (x0 : Vec F S400x8 .f32) (x1 : Vec F S8x10240 .f32) (x2 : Vec F S10240x8 .f32) : FVec F S400x10240 .f32 :=
  k0_pay25 (k0_pay82 x0 x1 x2) (k0_pay86 x0 x1 x2) (k0_pay87 x0 x1 x2) -- `v146`
def k0_pay89 (x0 : Vec F S400x8 .f32) (x1 : Vec F S8x10240 .f32) (x2 : Vec F S10240x8 .f32) : FVec F S400x10240 .f32 :=
  k0_pay28 (k0_pay82 x0 x1 x2) (k0_pay86 x0 x1 x2) (k0_pay87 x0 x1 x2) -- `v169`
def k0_pay90 (x0 : Vec F S400x8 .f32) (x1 : Vec F S8x10240 .f32) (x2 : Vec F S10240x8 .f32) : FVec F S400x10240 .f32 :=
  k0_pay35 (k0_pay82 x0 x1 x2) (k0_pay88 x0 x1 x2) (k0_pay89 x0 x1 x2) -- `v210`
def k0_pay91 (x0 : Vec F S400x8 .f32) (x1 : Vec F S8x10240 .f32) (x2 : Vec F S10240x8 .f32) : FVec F S400x10240 .f32 :=
  k0_pay39 (k0_pay82 x0 x1 x2) (k0_pay90 x0 x1 x2) -- `v242`
def k0_pay92 (x0 : Vec F S400x8 .f32) (x1 : Vec F S8x10240 .f32) (x2 : Vec F S10240x8 .f32) : IVec S400x10240 1 :=
  k0_pay41 (k0_pay82 x0 x1 x2) (k0_pay90 x0 x1 x2) -- `v254`
def k0_pay93 (x0 : Vec F S400x8 .f32) (x1 : Vec F S8x10240 .f32) (x2 : Vec F S10240x8 .f32) : FVec F S400x10240 .f32 :=
  k0_pay45 (k0_pay82 x0 x1 x2) (k0_pay91 x0 x1 x2) (k0_pay92 x0 x1 x2) -- `v274`
def k0_pay94 (x0 : Vec F S400x8 .f32) (x1 : Vec F S8x10240 .f32) (x2 : Vec F S10240x8 .f32) : FVec F S400x10240 .f32 :=
  k0_pay48 (k0_pay82 x0 x1 x2) (k0_pay91 x0 x1 x2) (k0_pay92 x0 x1 x2) -- `v297`
def k0_pay95 (x0 : Vec F S400x8 .f32) (x1 : Vec F S8x10240 .f32) (x2 : Vec F S10240x8 .f32) : FVec F S400x10240 .f32 :=
  k0_pay55 (k0_pay82 x0 x1 x2) (k0_pay93 x0 x1 x2) (k0_pay94 x0 x1 x2) -- `v338`
def k0_pay96 (x0 : Vec F S400x8 .f32) (x1 : Vec F S8x10240 .f32) (x2 : Vec F S10240x8 .f32) : FVec F S400x10240 .f32 :=
  k0_pay59 (k0_pay82 x0 x1 x2) (k0_pay95 x0 x1 x2) -- `v370`
def k0_pay97 (x0 : Vec F S400x8 .f32) (x1 : Vec F S8x10240 .f32) (x2 : Vec F S10240x8 .f32) : IVec S400x10240 1 :=
  k0_pay61 (k0_pay82 x0 x1 x2) (k0_pay95 x0 x1 x2) -- `v382`
def k0_pay98 (x0 : Vec F S400x8 .f32) (x1 : Vec F S8x10240 .f32) (x2 : Vec F S10240x8 .f32) : FVec F S400x10240 .f32 :=
  k0_pay65 (k0_pay82 x0 x1 x2) (k0_pay96 x0 x1 x2) (k0_pay97 x0 x1 x2) -- `v402`
def k0_pay99 (x0 : Vec F S400x8 .f32) (x1 : Vec F S8x10240 .f32) (x2 : Vec F S10240x8 .f32) : FVec F S400x10240 .f32 :=
  k0_pay68 (k0_pay82 x0 x1 x2) (k0_pay96 x0 x1 x2) (k0_pay97 x0 x1 x2) -- `v425`
def k0_pay100 (x0 : Vec F S400x8 .f32) (x1 : Vec F S8x10240 .f32) (x2 : Vec F S10240x8 .f32) : FVec F S400x10240 .f32 :=
  k0_pay75 (k0_pay82 x0 x1 x2) (k0_pay98 x0 x1 x2) (k0_pay99 x0 x1 x2) -- `v466`
def k0_pay101 (x0 : Vec F S400x8 .f32) (x1 : Vec F S8x10240 .f32) (x2 : Vec F S10240x8 .f32) : IVec S400x10240 1 :=
  k0_pay80 (k0_pay82 x0 x1 x2) (k0_pay100 x0 x1 x2) -- `v510`

/-- Window 3's staging buffer after the body, from the input windows' blocks: its 1 store as pieces, LAST
    FIRST (Lib/Pipeline/FrameBody.lean `View.canon`; the payloads are the skeleton's and the values stated above). -/
def out0_3 (x0 : Vec F S400x8 .f32) (x1 : Vec F S8x10240 .f32) (x2 : Vec F S10240x8 .f32) : Vec F S400x16 .i32 :=
  View.canon [⟨r0_19, k0_pay3 (k0_pay82 x0 x1 x2) (k0_pay81 x0 x1 x2) (k0_pay79 (k0_pay82 x0 x1 x2) (k0_pay81 x0 x1 x2) (k0_pay71 (k0_pay81 x0 x1 x2) (k0_pay66 (k0_pay82 x0 x1 x2) (k0_pay81 x0 x1 x2) (k0_pay60 (k0_pay82 x0 x1 x2) (k0_pay81 x0 x1 x2) (k0_pay51 (k0_pay81 x0 x1 x2) (k0_pay46 (k0_pay82 x0 x1 x2) (k0_pay81 x0 x1 x2) (k0_pay40 (k0_pay82 x0 x1 x2) (k0_pay81 x0 x1 x2) (k0_pay31 (k0_pay81 x0 x1 x2) (k0_pay26 (k0_pay82 x0 x1 x2) (k0_pay81 x0 x1 x2) (k0_pay20 (k0_pay82 x0 x1 x2) (k0_pay81 x0 x1 x2) (k0_pay11 (k0_pay81 x0 x1 x2) k0_pay6 (k0_pay7 (View.ld x0 r0_0) (View.ld x1 r0_1))) (k0_pay12 (k0_pay82 x0 x1 x2) (k0_pay83 x0 x1 x2) (k0_pay84 x0 x1 x2)) (k0_pay85 x0 x1 x2)) (k0_pay87 x0 x1 x2)) (k0_pay27 (k0_pay82 x0 x1 x2) (k0_pay86 x0 x1 x2) (k0_pay87 x0 x1 x2))) (k0_pay32 (k0_pay82 x0 x1 x2) (k0_pay88 x0 x1 x2) (k0_pay89 x0 x1 x2)) (k0_pay90 x0 x1 x2)) (k0_pay92 x0 x1 x2)) (k0_pay47 (k0_pay82 x0 x1 x2) (k0_pay91 x0 x1 x2) (k0_pay92 x0 x1 x2))) (k0_pay52 (k0_pay82 x0 x1 x2) (k0_pay93 x0 x1 x2) (k0_pay94 x0 x1 x2)) (k0_pay95 x0 x1 x2)) (k0_pay97 x0 x1 x2)) (k0_pay67 (k0_pay82 x0 x1 x2) (k0_pay96 x0 x1 x2) (k0_pay97 x0 x1 x2))) (k0_pay72 (k0_pay82 x0 x1 x2) (k0_pay98 x0 x1 x2) (k0_pay99 x0 x1 x2)) (k0_pay100 x0 x1 x2)) (k0_pay101 x0 x1 x2)⟩]

/-- Its stores tile the buffer (checked by evaluation), so they cover it. -/
theorem cover0_3 (p0 : Vec F S400x16 .i32) (y : S400x16.Idx) :
    ∃ pc ∈ ([⟨r0_19, p0⟩] : List (View.Piece (Elt F) S400x16 .i32)), y ∈ pc.1.set :=
  View.cover_of_tiled [⟨r0_19, p0⟩] S400x16.size (by rfl) y

/-- Window 4's staging buffer after the body, from the input windows' blocks: its 16 stores as pieces, LAST
    FIRST (Lib/Pipeline/FrameBody.lean `View.canon`; the payloads are the skeleton's and the values stated above). -/
def out0_4 (x0 : Vec F S400x8 .f32) (x1 : Vec F S8x10240 .f32) (x2 : Vec F S10240x8 .f32) : Vec F S16x400x8 .f32 :=
  View.canon [⟨r0_18, k0_pay2 (k0_pay82 x0 x1 x2) (k0_pay101 x0 x1 x2) (View.ld x2 r0_2)⟩,
    ⟨r0_17, k0_pay78 (k0_pay82 x0 x1 x2) (k0_pay100 x0 x1 x2) (View.ld x2 r0_2)⟩,
    ⟨r0_16, k0_pay74 (k0_pay82 x0 x1 x2) (k0_pay98 x0 x1 x2) (k0_pay99 x0 x1 x2) (View.ld x2 r0_2)⟩,
    ⟨r0_15, k0_pay69 (k0_pay99 x0 x1 x2) (View.ld x2 r0_2)⟩,
    ⟨r0_14, k0_pay64 (k0_pay82 x0 x1 x2) (k0_pay97 x0 x1 x2) (View.ld x2 r0_2)⟩,
    ⟨r0_13, k0_pay58 (k0_pay82 x0 x1 x2) (k0_pay95 x0 x1 x2) (View.ld x2 r0_2)⟩,
    ⟨r0_12, k0_pay54 (k0_pay82 x0 x1 x2) (k0_pay93 x0 x1 x2) (k0_pay94 x0 x1 x2) (View.ld x2 r0_2)⟩,
    ⟨r0_11, k0_pay49 (k0_pay94 x0 x1 x2) (View.ld x2 r0_2)⟩,
    ⟨r0_10, k0_pay44 (k0_pay82 x0 x1 x2) (k0_pay92 x0 x1 x2) (View.ld x2 r0_2)⟩,
    ⟨r0_9, k0_pay38 (k0_pay82 x0 x1 x2) (k0_pay90 x0 x1 x2) (View.ld x2 r0_2)⟩,
    ⟨r0_8, k0_pay34 (k0_pay82 x0 x1 x2) (k0_pay88 x0 x1 x2) (k0_pay89 x0 x1 x2) (View.ld x2 r0_2)⟩,
    ⟨r0_7, k0_pay29 (k0_pay89 x0 x1 x2) (View.ld x2 r0_2)⟩,
    ⟨r0_6, k0_pay24 (k0_pay82 x0 x1 x2) (k0_pay87 x0 x1 x2) (View.ld x2 r0_2)⟩,
    ⟨r0_5, k0_pay18 (k0_pay82 x0 x1 x2) (k0_pay85 x0 x1 x2) (View.ld x2 r0_2)⟩,
    ⟨r0_4, k0_pay14 (k0_pay82 x0 x1 x2) (k0_pay83 x0 x1 x2) (k0_pay84 x0 x1 x2) (View.ld x2 r0_2)⟩,
    ⟨r0_3, k0_pay9 (k0_pay84 x0 x1 x2) (View.ld x2 r0_2)⟩]

/-- Its stores tile the buffer (checked by evaluation), so they cover it. -/
theorem cover0_4 (p0 : Vec F S1x400x8 .f32) (p1 : Vec F S1x400x8 .f32) (p2 : Vec F S1x400x8 .f32) (p3 : Vec F S1x400x8 .f32) (p4 : Vec F S1x400x8 .f32) (p5 : Vec F S1x400x8 .f32) (p6 : Vec F S1x400x8 .f32) (p7 : Vec F S1x400x8 .f32) (p8 : Vec F S1x400x8 .f32) (p9 : Vec F S1x400x8 .f32) (p10 : Vec F S1x400x8 .f32) (p11 : Vec F S1x400x8 .f32) (p12 : Vec F S1x400x8 .f32) (p13 : Vec F S1x400x8 .f32) (p14 : Vec F S1x400x8 .f32) (p15 : Vec F S1x400x8 .f32) (y : S16x400x8.Idx) :
    ∃ pc ∈ ([⟨r0_18, p0⟩, ⟨r0_17, p1⟩, ⟨r0_16, p2⟩, ⟨r0_15, p3⟩, ⟨r0_14, p4⟩, ⟨r0_13, p5⟩, ⟨r0_12, p6⟩, ⟨r0_11, p7⟩, ⟨r0_10, p8⟩, ⟨r0_9, p9⟩, ⟨r0_8, p10⟩, ⟨r0_7, p11⟩, ⟨r0_6, p12⟩, ⟨r0_5, p13⟩, ⟨r0_4, p14⟩, ⟨r0_3, p15⟩] : List (View.Piece (Elt F) S16x400x8 .f32)), y ∈ pc.1.set :=
  View.cover_of_tiled [⟨r0_18, p0⟩, ⟨r0_17, p1⟩, ⟨r0_16, p2⟩, ⟨r0_15, p3⟩, ⟨r0_14, p4⟩, ⟨r0_13, p5⟩, ⟨r0_12, p6⟩, ⟨r0_11, p7⟩, ⟨r0_10, p8⟩, ⟨r0_9, p9⟩, ⟨r0_8, p10⟩, ⟨r0_7, p11⟩, ⟨r0_6, p12⟩, ⟨r0_5, p13⟩, ⟨r0_4, p14⟩, ⟨r0_3, p15⟩] S1x400x8.size (by rfl) y

/-! ## The body's triple -/

set_option maxHeartbeats 5689800 in
/-- The kernel body on whole staging memrefs, the inputs' at read contents `xW` and the outputs' at anything, runs to
    the continuation holding the inputs' as they were and each output's at `out0_W` of the inputs': the printed functions
    are their skeletons (`Gen.*_eq_skeleton`), which `sl_exec` runs (Lib/Exec.lean), through every part call. -/
theorem sound_kernel0 (c : Dev nD) (E : Set ℕ) (i : grid0.Coords) (arg1 : Memref sig .tc .vmem S400x8 .f32) (harg1 : arg1.IsWhole) (arg2 : Memref sig .tc .vmem S8x10240 .f32) (harg2 : arg2.IsWhole) (arg3 : Memref sig .tc .vmem S10240x8 .f32) (harg3 : arg3.IsWhole) (arg4 : Memref sig .tc .vmem S400x16 .i32) (harg4 : arg4.IsWhole) (arg5 : Memref sig .tc .vmem S16x400x8 .f32) (harg5 : arg5.IsWhole)
    (x0 : Vec F S400x8 .f32) (x1 : Vec F S8x10240 .f32) (x2 : Vec F S10240x8 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2) ∗ owns (c : Thread nD τ) arg5 fullShare (out0_4 x0 x1 x2)) -∗ K ⟨⟩))
      ⊢ wp frame (wpE (defs₀ (F := F)) Variants.none c none) E (cc0__knn_body i arg1 harg1 arg2 harg2 arg3 harg3 arg4 harg4 arg5 harg5) K := by
  simp only [cc0__knn_body_eq_skeleton]; unfold cc0__knn_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (View.read_writes_eq_canon _ _ _ (cover0_3 _)).trans ?_
    rfl
  iexists _; isplitr
  swap; · iexact H4
  ipureintro
  refine (View.read_writes_eq_canon _ _ _ (cover0_4 _ _ _ _ _ _ _ _ _ _ _ _ _ _ _ _)).trans ?_
  rfl

/-! ## The pipeline's proof data -/

/-- The proof data of pipeline 0 on core `c`: the arrays as the region finds them (`V`); after the body at
    point `t` each input's buffer at its block and each output's at `out0_W` of the input blocks; the invariant the
    class's (Lib/Pipeline/Frame.lean `ΦA`: the scoped rest and the generator register, untouched); nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
    | ⟨4, _⟩ => out0_4 (iblk0 V c 0 t) (iblk0 V c 1 t) (iblk0 V c 2 t)
  Φ _ := Pipeline.ΦA spec0 c
  q _ := fullShare
  owed _ := 0

/-- The proof data's arrays are the region-entry contents, by projecting the definition (`dsimp`): a region record cites
    this for its arrays rather than have Lean unfold `V`, the fold through @main up to the region's entry. -/
theorem A_eq0 (c : Dev nD) (w : Fin cfg0.W) : (dat0 V c).A w = V c (Pipeline.arrRef spec0 w) := by
  dsimp only [dat0]

/-- What the body leaves, window by window (the proof data's `match` reduced by `dsimp`, never `rfl`: Lib/Pipeline.lean `Dat`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]
theorem after0_4 (c : Dev nD) (t : Fin cfg0.N) : (dat0 V c).after 4 t = out0_4 (iblk0 V c 0 t) (iblk0 V c 1 t) (iblk0 V c 2 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks (`before0_W`), so `sound_kernel0` applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Whole

end
-- ==== Proof.Reg1.lean ====
/-
The first convolution call (region 1 of @main) over any entry contents `V`: what its body stores, its proof data and
its body obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 1 of @main: custom_call 1, `cc1__c1_body` (pipeline 1), at the entry contents `V` — class R -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 0).val) 0#32)) 0#32) = 1#1
/-- It holds at the first point only — by arithmetic of the point. -/
theorem hcond1_0 : ∀ t : Fin cfg1.N, cond1_0 (grid1.coords t) ↔ t.val % 8 = 0 :=
  (fun t => by
    have ht : t.val < 8 := Nat.lt_of_lt_of_eq t.isLt N_1
    have e0 : (grid1.coords t 0).val = t.val / 1 % 8 := Pipeline.Grid.coords_val t 0 (by decide) rfl
    simp only [cond1_0, e0]
    word_cmp
   : ∀ t : Fin grid1.N, cond1_0 (grid1.coords t) ↔ t.val % 8 = 0)

/-! ## The kernel body on any staging memrefs: a subtype the run finds -/

/-- One staging buffer of output window 3, through which its contents are stated (`View.read_writes_of_cover`: the
    choice does not matter). -/
abbrev VO1_3 : View sig .tc .vmem S20000x32 .f32 := (Memref.whole cc1_stg3_0 : Memref sig .tc .vmem S20000x32 .f32).view
/-- One staging buffer of output window 4, through which its contents are stated (`View.read_writes_of_cover`: the
    choice does not matter). -/
abbrev VO1_4 : View sig .tc .vmem S8x128 .f32 := (Memref.whole cc1_stg4_0 : Memref sig .tc .vmem S8x128 .f32).view
/-- Each window's current staging memref at point `t`, spelled as the pipeline passes it (`bodyAt1`), and its wholeness. -/
abbrev ms1_0 (t : Fin cfg1.N) : Memref sig .tc .vmem S20000x16 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S20000x32 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S8x128 .f32 := win1_4.stage (cfg1.slots t 4)
abbrev hs1_4 (t : Fin cfg1.N) : (ms1_4 t).IsWhole := hstage1_4 ((cfg1.slots t 4).cast nbuf1_4)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg1 : Memref sig .tc .vmem S20000x16 .f32) (harg1 : arg1.IsWhole) (arg2 : Memref sig .tc .vmem S16x32 .f32) (harg2 : arg2.IsWhole) (arg3 : Memref sig .tc .vmem S1x32 .f32) (harg3 : arg3.IsWhole) (arg4 : Memref sig .tc .vmem S20000x32 .f32) (harg4 : arg4.IsWhole) (arg5 : Memref sig .tc .vmem S8x128 .f32) (harg5 : arg5.IsWhole) (hc0 : cond1_0 i)
    (x0 : Vec F S20000x16 .f32) (x1 : Vec F S16x32 .f32) (x2 : Vec F S1x32 .f32) :
    Σ' (L3 : List (View.Piece (Elt F) S20000x32 .f32)), { L4 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f L4)) -∗ K ⟨⟩))
          ⊢ wp frame (wpE (defs₀ (F := F)) Variants.none c none) E (cc1__c1_body i arg1 harg1 arg2 harg2 arg3 harg3 arg4 harg4 arg5 harg5) K } := by
  refine ⟨?_, ?_, fun E K => ?run⟩
  case run =>
    simp only [cc1__c1_body_eq_skeleton]; unfold cc1__c1_body_skel
    unfold owns
    iintro ⟨⟨%f0, %hf0, H0⟩, ⟨%f1, %hf1, H1⟩, ⟨%f2, %hf2, H2⟩, ⟨%d3, %f3, -, H3⟩, ⟨%d4, %f4, -, H4⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact H4

/-- Case A's pieces for output 3 tile its block (1 store of `S20000x32`, checked by the kernel's evaluation: Lib/Ring.lean `Piece.tiledL`, linear in the pieces, through a loop's `@[irreducible]` trip theorem too), so they cover it. -/
theorem cover1_A_3 (c : Dev nD) (i : grid1.Coords) (arg1 : Memref sig .tc .vmem S20000x16 .f32) (harg1 : arg1.IsWhole) (arg2 : Memref sig .tc .vmem S16x32 .f32) (harg2 : arg2.IsWhole) (arg3 : Memref sig .tc .vmem S1x32 .f32) (harg3 : arg3.IsWhole) (arg4 : Memref sig .tc .vmem S20000x32 .f32) (harg4 : arg4.IsWhole) (arg5 : Memref sig .tc .vmem S8x128 .f32) (harg5 : arg5.IsWhole) (hc0 : cond1_0 i)
    (x0 : Vec F S20000x16 .f32) (x1 : Vec F S16x32 .f32) (x2 : Vec F S1x32 .f32) (y : S20000x32.Idx) :
    ∃ pc ∈ (kernelRun1_A c i arg1 harg1 arg2 harg2 arg3 harg3 arg4 harg4 arg5 harg5 hc0 x0 x1 x2).1, y ∈ pc.1.set :=
  View.cover_of_tiledL (kernelRun1_A c i arg1 harg1 arg2 harg2 arg3 harg3 arg4 harg4 arg5 harg5 hc0 x0 x1 x2).1 S20000x32.size (by sl_kernel_rfl) y

/-- What case A leaves in output 3's staging buffer: its pieces read back over junk. -/
def out1_A_3 (c : Dev nD) (i : grid1.Coords) (arg1 : Memref sig .tc .vmem S20000x16 .f32) (harg1 : arg1.IsWhole) (arg2 : Memref sig .tc .vmem S16x32 .f32) (harg2 : arg2.IsWhole) (arg3 : Memref sig .tc .vmem S1x32 .f32) (harg3 : arg3.IsWhole) (arg4 : Memref sig .tc .vmem S20000x32 .f32) (harg4 : arg4.IsWhole) (arg5 : Memref sig .tc .vmem S8x128 .f32) (harg5 : arg5.IsWhole) (hc0 : cond1_0 i)
    (x0 : Vec F S20000x16 .f32) (x1 : Vec F S16x32 .f32) (x2 : Vec F S1x32 .f32) : Vec F S20000x32 .f32 :=
  VO1_3.read (Elt F) (VO1_3.writes (Elt F) VO1_3.junk (kernelRun1_A c i arg1 harg1 arg2 harg2 arg3 harg3 arg4 harg4 arg5 harg5 hc0 x0 x1 x2).1)

/-- Case A's pieces for output 4 are of SEVERAL sizes (3 stores of `S1x32`, `S8x128`): cut into blocks of `![1, 32]` they tile its block (checked by the kernel's evaluation: Lib/Ring.lean `Piece.tiledBy`), so they cover it. -/
theorem cover1_A_4 (c : Dev nD) (i : grid1.Coords) (arg1 : Memref sig .tc .vmem S20000x16 .f32) (harg1 : arg1.IsWhole) (arg2 : Memref sig .tc .vmem S16x32 .f32) (harg2 : arg2.IsWhole) (arg3 : Memref sig .tc .vmem S1x32 .f32) (harg3 : arg3.IsWhole) (arg4 : Memref sig .tc .vmem S20000x32 .f32) (harg4 : arg4.IsWhole) (arg5 : Memref sig .tc .vmem S8x128 .f32) (harg5 : arg5.IsWhole) (hc0 : cond1_0 i)
    (x0 : Vec F S20000x16 .f32) (x1 : Vec F S16x32 .f32) (x2 : Vec F S1x32 .f32) (y : S8x128.Idx) :
    ∃ pc ∈ (kernelRun1_A c i arg1 harg1 arg2 harg2 arg3 harg3 arg4 harg4 arg5 harg5 hc0 x0 x1 x2).2.1, y ∈ pc.1.set :=
  View.cover_of_tiledBy (kernelRun1_A c i arg1 harg1 arg2 harg2 arg3 harg3 arg4 harg4 arg5 harg5 hc0 x0 x1 x2).2.1 ![1, 32] (by sl_kernel_rfl) y

/-- What case A leaves in output 4's staging buffer: its pieces read back over junk. -/
def out1_A_4 (c : Dev nD) (i : grid1.Coords) (arg1 : Memref sig .tc .vmem S20000x16 .f32) (harg1 : arg1.IsWhole) (arg2 : Memref sig .tc .vmem S16x32 .f32) (harg2 : arg2.IsWhole) (arg3 : Memref sig .tc .vmem S1x32 .f32) (harg3 : arg3.IsWhole) (arg4 : Memref sig .tc .vmem S20000x32 .f32) (harg4 : arg4.IsWhole) (arg5 : Memref sig .tc .vmem S8x128 .f32) (harg5 : arg5.IsWhole) (hc0 : cond1_0 i)
    (x0 : Vec F S20000x16 .f32) (x1 : Vec F S16x32 .f32) (x2 : Vec F S1x32 .f32) : Vec F S8x128 .f32 :=
  VO1_4.read (Elt F) (VO1_4.writes (Elt F) VO1_4.junk (kernelRun1_A c i arg1 harg1 arg2 harg2 arg3 harg3 arg4 harg4 arg5 harg5 hc0 x0 x1 x2).2.1)

-- (the run's proof term is large: the definition's epilogue — `abstractNestedProofs` — walks it past the default budget)
set_option maxHeartbeats 1000000 in
/-- What the body's stores leave in each output's staging memref, as pieces (last first) IN CASE B (`scf.if` 0 not taken: points 1, 2, … 7: 7 of 8), WITH the
    proof that on whole staging memrefs — the inputs' at their contents, the outputs it reads before covering (4) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg1 : Memref sig .tc .vmem S20000x16 .f32) (harg1 : arg1.IsWhole) (arg2 : Memref sig .tc .vmem S16x32 .f32) (harg2 : arg2.IsWhole) (arg3 : Memref sig .tc .vmem S1x32 .f32) (harg3 : arg3.IsWhole) (arg4 : Memref sig .tc .vmem S20000x32 .f32) (harg4 : arg4.IsWhole) (arg5 : Memref sig .tc .vmem S8x128 .f32) (harg5 : arg5.IsWhole) (hc0 : ¬cond1_0 i)
    (x0 : Vec F S20000x16 .f32) (x1 : Vec F S16x32 .f32) (x2 : Vec F S1x32 .f32) (xo4 : Vec F S8x128 .f32) :
    Σ' (L3 : List (View.Piece (Elt F) S20000x32 .f32)), { L4 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xo4
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (arg5.view.loc (c : Thread nD τ) ↦[arg5.view.set]{fullShare} arg5.view.writes (Elt F) (harg5.unread xo4) L4)) -∗ K ⟨⟩))
          ⊢ wp frame (wpE (defs₀ (F := F)) Variants.none c none) E (cc1__c1_body i arg1 harg1 arg2 harg2 arg3 harg3 arg4 harg4 arg5 harg5) K } := by
  refine ⟨?_, ?_, fun E K => ?run⟩
  case run =>
    simp only [cc1__c1_body_eq_skeleton]; unfold cc1__c1_body_skel
    unfold owns
    iintro ⟨⟨%f0, %hf0, H0⟩, ⟨%f1, %hf1, H1⟩, ⟨%f2, %hf2, H2⟩, ⟨%d3, %f3, -, H3⟩, ⟨%f4, %hf4, H4⟩, Hk⟩
    obtain rfl := harg1.eq_unread hf0; obtain rfl := harg2.eq_unread hf1; obtain rfl := harg3.eq_unread hf2; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexact H4

/-- Case B's pieces for output 3 tile its block (1 store of `S20000x32`, checked by the kernel's evaluation: Lib/Ring.lean `Piece.tiledL`, linear in the pieces, through a loop's `@[irreducible]` trip theorem too), so they cover it. -/
theorem cover1_B_3 (c : Dev nD) (i : grid1.Coords) (arg1 : Memref sig .tc .vmem S20000x16 .f32) (harg1 : arg1.IsWhole) (arg2 : Memref sig .tc .vmem S16x32 .f32) (harg2 : arg2.IsWhole) (arg3 : Memref sig .tc .vmem S1x32 .f32) (harg3 : arg3.IsWhole) (arg4 : Memref sig .tc .vmem S20000x32 .f32) (harg4 : arg4.IsWhole) (arg5 : Memref sig .tc .vmem S8x128 .f32) (harg5 : arg5.IsWhole) (hc0 : ¬cond1_0 i)
    (x0 : Vec F S20000x16 .f32) (x1 : Vec F S16x32 .f32) (x2 : Vec F S1x32 .f32) (xo4 : Vec F S8x128 .f32) (y : S20000x32.Idx) :
    ∃ pc ∈ (kernelRun1_B c i arg1 harg1 arg2 harg2 arg3 harg3 arg4 harg4 arg5 harg5 hc0 x0 x1 x2 xo4).1, y ∈ pc.1.set :=
  View.cover_of_tiledL (kernelRun1_B c i arg1 harg1 arg2 harg2 arg3 harg3 arg4 harg4 arg5 harg5 hc0 x0 x1 x2 xo4).1 S20000x32.size (by sl_kernel_rfl) y

/-- What case B leaves in output 3's staging buffer: its pieces read back over junk. -/
def out1_B_3 (c : Dev nD) (i : grid1.Coords) (arg1 : Memref sig .tc .vmem S20000x16 .f32) (harg1 : arg1.IsWhole) (arg2 : Memref sig .tc .vmem S16x32 .f32) (harg2 : arg2.IsWhole) (arg3 : Memref sig .tc .vmem S1x32 .f32) (harg3 : arg3.IsWhole) (arg4 : Memref sig .tc .vmem S20000x32 .f32) (harg4 : arg4.IsWhole) (arg5 : Memref sig .tc .vmem S8x128 .f32) (harg5 : arg5.IsWhole) (hc0 : ¬cond1_0 i)
    (x0 : Vec F S20000x16 .f32) (x1 : Vec F S16x32 .f32) (x2 : Vec F S1x32 .f32) (xo4 : Vec F S8x128 .f32) : Vec F S20000x32 .f32 :=
  VO1_3.read (Elt F) (VO1_3.writes (Elt F) VO1_3.junk (kernelRun1_B c i arg1 harg1 arg2 harg2 arg3 harg3 arg4 harg4 arg5 harg5 hc0 x0 x1 x2 xo4).1)

/-- What case B leaves in output 4's staging buffer: its stores read back over what the point before left there (they do not cover the block). -/
def out1_B_4 (c : Dev nD) (i : grid1.Coords) (arg1 : Memref sig .tc .vmem S20000x16 .f32) (harg1 : arg1.IsWhole) (arg2 : Memref sig .tc .vmem S16x32 .f32) (harg2 : arg2.IsWhole) (arg3 : Memref sig .tc .vmem S1x32 .f32) (harg3 : arg3.IsWhole) (arg4 : Memref sig .tc .vmem S20000x32 .f32) (harg4 : arg4.IsWhole) (arg5 : Memref sig .tc .vmem S8x128 .f32) (harg5 : arg5.IsWhole) (hc0 : ¬cond1_0 i)
    (x0 : Vec F S20000x16 .f32) (x1 : Vec F S16x32 .f32) (x2 : Vec F S1x32 .f32) (xo4 : Vec F S8x128 .f32) : Vec F S8x128 .f32 :=
  arg5.view.read (Elt F) (arg5.view.writes (Elt F) (harg5.unread xo4) (kernelRun1_B c i arg1 harg1 arg2 harg2 arg3 harg3 arg4 harg4 arg5 harg5 hc0 x0 x1 x2 xo4).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S20000x32 .f32 × Vec F S8x128 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 8 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 8 = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a point of case B: that case's contents, over what the point before left. -/
theorem outsAt1_B (c : Dev nD) (t : Fin cfg1.N) (h0 : ¬t.val % 8 = 0) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).2, out1_B_4 c (grid1.coords t) (ms1_0 t) (hs1_0 t) (ms1_1 t) (hs1_1 t) (ms1_2 t) (hs1_2 t) (ms1_3 t) (hs1_3 t) (ms1_4 t) (hs1_4 t) (fun h => h0 ((hcond1_0 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at
    point `t` each input's buffer at its block and the outputs' at `outsAt1`; the invariant the class's
    (Lib/Pipeline/Frame.lean `ΦA`: the scoped rest and the generator register); nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2
  Φ _ := Pipeline.ΦA spec1 c
  q _ := fullShare
  owed _ := 0

/-- The proof data's arrays are the region-entry contents, by projecting the definition (`dsimp`): a region record cites
    this for its arrays rather than have Lean unfold `V`, the fold through @main up to the region's entry. -/
theorem A_eq1 (c : Dev nD) (w : Fin cfg1.W) : (dat1 V c).A w = V c (Pipeline.arrRef spec1 w) := by
  dsimp only [dat1]

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a point of case B output 4's current staging buffer holds what the body left at the point before: the point is
    not the first, the buffer was not written back between (`flush1_4`), the window is live and uncut (Lib/Pipeline/Frame.lean
    `Dat.before_out_kept`). -/
theorem before1_4_B (c : Dev nD) (t : Fin cfg1.N) (h0 : ¬t.val % 8 = 0) (d) :
    (dat1 V c).before 4 t d = (outsAt1 V c (t.val - 1) (Nat.lt_of_le_of_lt (Nat.sub_le _ _) t.isLt)).2 := by
  have hN : t.val < 8 := lt_of_lt_of_eq t.isLt (show cfg1.N = 8 from N_1)
  rw [Dat.before_out_kept _ 4 rfl t (by omega) (Bool.eq_false_iff.mpr fun h => by have := (flush1_4 _).mp h; dsimp only at this; omega)
    (fun _ => rfl) (fun _ _ => rfl)]
  dsimp only [dat1]

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t))

set_option maxHeartbeats 800000 in
/-- The body at any point: the inputs' memrefs hold their blocks (`before1_W`); the closed forms say which case the point is in (`by_cases`), an output the case reads before covering holds what the point before left (`before1_W_κ`); so the
    run applies; the invariant passes through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4]
  have hN : t.val < 8 := lt_of_lt_of_eq t.isLt (show cfg1.N = 8 from N_1)
  by_cases h0 : t.val % 8 = 0
  · rw [outsAt1_A V c t h0]
    unfold out1_A_3 out1_A_4; (try dsimp only)
    iintro ⟨HΦ, Ho, ⟨%d0, H0⟩, ⟨%d1, H1⟩, ⟨%d2, H2⟩, ⟨%d3, H3⟩, ⟨%d4, H4⟩⟩
    iapply ((kernelRun1_A c (grid1.coords t) _ _ _ _ _ _ _ _ _ _ ((hcond1_0 t).mpr h0) (iblk1 V c 0 t) (iblk1 V c 1 t) (iblk1 V c 2 t)).2.2 Set.univ _)
    isplitl [H0]; · iexact H0
    isplitl [H1]; · iexact H1
    isplitl [H2]; · iexact H2
    isplitl [H3]; · iexists _; iexact H3
    isplitl [H4]; · iexists _; iexact H4
    iintro ⟨H0, H1, H2, ⟨%e3, H3⟩, ⟨%e4, H4⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_A_3 c _ _ _ _ _ _ _ _ _ _ _ _ _ _ _)
    unfold owns; iexists _; isplitr
    swap; · iexact H4
    ipureintro; exact View.read_writes_of_cover _ _ _ _ _ (cover1_A_4 c _ _ _ _ _ _ _ _ _ _ _ _ _ _ _)
  · rw [outsAt1_B V c t h0]
    simp only [before1_4_B V c t h0]
    unfold out1_B_3 out1_B_4; (try dsimp only)
    iintro ⟨HΦ, Ho, ⟨%d0, H0⟩, ⟨%d1, H1⟩, ⟨%d2, H2⟩, ⟨%d3, H3⟩, ⟨%d4, H4⟩⟩
    iapply ((kernelRun1_B c (grid1.coords t) _ _ _ _ _ _ _ _ _ _ (fun h => h0 ((hcond1_0 t).mp h)) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [H4]; · iexact H4
    iintro ⟨H0, H1, H2, ⟨%e3, H3⟩, H4⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_B_3 c _ _ _ _ _ _ _ _ _ _ _ _ _ _ _ _)
    unfold owns; iexists _; isplitr
    swap; · iexact H4
    ipureintro; rfl

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Whole

end
-- ==== Proof.Reg2.lean ====
/-
The second convolution call (region 2 of @main) over any entry contents `V`: what its body stores, its proof data and
its body obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # REGION 2 of @main: custom_call 2, `cc2__c2_body` (pipeline 2), at the entry contents `V` — class R -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before2_7_of {c : Dev nD} (dat : Dat τ (Elt F) Unit ℕ (UR sig nD τ) ℕ cfg2 c) (hA : dat.A 7 = V c (Pipeline.arrRef spec2 7))
    (hafter : ∀ t, dat.after 7 t = iblk2 V c 7 t) (t : Fin cfg2.N) (d) : dat.before 7 t d = iblk2 V c 7 t :=
  (dat.before_in_eq_fetched 7 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's `scf.if` 0 (`k2_h1`), from the grid coordinates (the skeleton's scalar
    chain substituted). -/
abbrev cond2_0 (i : grid2.Coords) : Prop := (Scalar.cmpi .ne (Scalar.extui (Scalar.cmpi .eq (BitVec.ofNat 32 (i 0).val) 0#32)) 0#32) = 1#1
/-- It holds at the first point only — by arithmetic of the point. -/
theorem hcond2_0 : ∀ t : Fin cfg2.N, cond2_0 (grid2.coords t) ↔ t.val % 8 = 0 :=
  (fun t => by
    have ht : t.val < 8 := Nat.lt_of_lt_of_eq t.isLt N_2
    have e0 : (grid2.coords t 0).val = t.val / 1 % 8 := Pipeline.Grid.coords_val t 0 (by decide) rfl
    simp only [cond2_0, e0]
    word_cmp
   : ∀ t : Fin grid2.N, cond2_0 (grid2.coords t) ↔ t.val % 8 = 0)

/-! ## The kernel body on any staging memrefs: a subtype the run finds -/

/-- One staging buffer of output window 8, through which its contents are stated (`View.read_writes_of_cover`: the
    choice does not matter). -/
abbrev VO2_8 : View sig .tc .vmem S20000x64 .f32 := (Memref.whole cc2_stg8_0 : Memref sig .tc .vmem S20000x64 .f32).view
/-- One staging buffer of output window 9, through which its contents are stated (`View.read_writes_of_cover`: the
    choice does not matter). -/
abbrev VO2_9 : View sig .tc .vmem S8x128 .f32 := (Memref.whole cc2_stg9_0 : Memref sig .tc .vmem S8x128 .f32).view
/-- Each window's current staging memref at point `t`, spelled as the pipeline passes it (`bodyAt2`), and its wholeness. -/
abbrev ms2_0 (t : Fin cfg2.N) : Memref sig .tc .vmem S20000x32 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S8x128 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S32x8 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S1x32 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S1x32 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S32x64 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S1x64 .f32 := win2_7.stage (cfg2.slots t 7)
abbrev hs2_7 (t : Fin cfg2.N) : (ms2_7 t).IsWhole := hstage2_7 ((cfg2.slots t 7).cast nbuf2_7)
abbrev ms2_8 (t : Fin cfg2.N) : Memref sig .tc .vmem S20000x64 .f32 := win2_8.stage (cfg2.slots t 8)
abbrev hs2_8 (t : Fin cfg2.N) : (ms2_8 t).IsWhole := hstage2_8 ((cfg2.slots t 8).cast nbuf2_8)
abbrev ms2_9 (t : Fin cfg2.N) : Memref sig .tc .vmem S8x128 .f32 := win2_9.stage (cfg2.slots t 9)
abbrev hs2_9 (t : Fin cfg2.N) : (ms2_9 t).IsWhole := hstage2_9 ((cfg2.slots t 9).cast nbuf2_9)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_A (c : Dev nD) (i : grid2.Coords) (arg1 : Memref sig .tc .vmem S20000x32 .f32) (harg1 : arg1.IsWhole) (arg2 : Memref sig .tc .vmem S8x128 .f32) (harg2 : arg2.IsWhole) (arg3 : Memref sig .tc .vmem S32x8 .f32) (harg3 : arg3.IsWhole) (arg4 : Memref sig .tc .vmem S8x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x64 .f32) (harg8 : arg8.IsWhole) (arg9 : Memref sig .tc .vmem S20000x64 .f32) (harg9 : arg9.IsWhole) (arg10 : Memref sig .tc .vmem S8x128 .f32) (harg10 : arg10.IsWhole) (hc0 : cond2_0 i)
    (x0 : Vec F S20000x32 .f32) (x1 : Vec F S8x128 .f32) (x2 : Vec F S32x8 .f32) (x3 : Vec F S8x32 .f32) (x4 : Vec F S1x32 .f32) (x5 : Vec F S1x32 .f32) (x6 : Vec F S32x64 .f32) (x7 : Vec F S1x64 .f32) :
    Σ' (L8 : List (View.Piece (Elt F) S20000x64 .f32)), { L9 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9)) -∗ K ⟨⟩))
          ⊢ wp frame (wpE (defs₀ (F := F)) Variants.none c none) E (cc2__c2_body i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc2__c2_body_eq_skeleton]; unfold cc2__c2_body_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexists _; iexact H9

/-- Case A's pieces for output 8 tile its block (1 store of `S20000x64`, checked by the kernel's evaluation: Lib/Ring.lean `Piece.tiledL`, linear in the pieces, through a loop's `@[irreducible]` trip theorem too), so they cover it. -/
theorem cover2_A_8 (c : Dev nD) (i : grid2.Coords) (arg1 : Memref sig .tc .vmem S20000x32 .f32) (harg1 : arg1.IsWhole) (arg2 : Memref sig .tc .vmem S8x128 .f32) (harg2 : arg2.IsWhole) (arg3 : Memref sig .tc .vmem S32x8 .f32) (harg3 : arg3.IsWhole) (arg4 : Memref sig .tc .vmem S8x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x64 .f32) (harg8 : arg8.IsWhole) (arg9 : Memref sig .tc .vmem S20000x64 .f32) (harg9 : arg9.IsWhole) (arg10 : Memref sig .tc .vmem S8x128 .f32) (harg10 : arg10.IsWhole) (hc0 : cond2_0 i)
    (x0 : Vec F S20000x32 .f32) (x1 : Vec F S8x128 .f32) (x2 : Vec F S32x8 .f32) (x3 : Vec F S8x32 .f32) (x4 : Vec F S1x32 .f32) (x5 : Vec F S1x32 .f32) (x6 : Vec F S32x64 .f32) (x7 : Vec F S1x64 .f32) (y : S20000x64.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4 x5 x6 x7).1, y ∈ pc.1.set :=
  View.cover_of_tiledL (kernelRun2_A c i arg1 harg1 arg2 harg2 arg3 harg3 arg4 harg4 arg5 harg5 arg6 harg6 arg7 harg7 arg8 harg8 arg9 harg9 arg10 harg10 hc0 x0 x1 x2 x3 x4 x5 x6 x7).1 S20000x64.size (by sl_kernel_rfl) y

/-- What case A leaves in output 8's staging buffer: its pieces read back over junk. -/
def out2_A_8 (c : Dev nD) (i : grid2.Coords) (arg1 : Memref sig .tc .vmem S20000x32 .f32) (harg1 : arg1.IsWhole) (arg2 : Memref sig .tc .vmem S8x128 .f32) (harg2 : arg2.IsWhole) (arg3 : Memref sig .tc .vmem S32x8 .f32) (harg3 : arg3.IsWhole) (arg4 : Memref sig .tc .vmem S8x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x64 .f32) (harg8 : arg8.IsWhole) (arg9 : Memref sig .tc .vmem S20000x64 .f32) (harg9 : arg9.IsWhole) (arg10 : Memref sig .tc .vmem S8x128 .f32) (harg10 : arg10.IsWhole) (hc0 : cond2_0 i)
    (x0 : Vec F S20000x32 .f32) (x1 : Vec F S8x128 .f32) (x2 : Vec F S32x8 .f32) (x3 : Vec F S8x32 .f32) (x4 : Vec F S1x32 .f32) (x5 : Vec F S1x32 .f32) (x6 : Vec F S32x64 .f32) (x7 : Vec F S1x64 .f32) : Vec F S20000x64 .f32 :=
  VO2_8.read (Elt F) (VO2_8.writes (Elt F) VO2_8.junk (kernelRun2_A c i arg1 harg1 arg2 harg2 arg3 harg3 arg4 harg4 arg5 harg5 arg6 harg6 arg7 harg7 arg8 harg8 arg9 harg9 arg10 harg10 hc0 x0 x1 x2 x3 x4 x5 x6 x7).1)

/-- Case A's pieces for output 9 are of SEVERAL sizes (3 stores of `S1x64`, `S8x128`): cut into blocks of `![1, 64]` they tile its block (checked by the kernel's evaluation: Lib/Ring.lean `Piece.tiledBy`), so they cover it. -/
theorem cover2_A_9 (c : Dev nD) (i : grid2.Coords) (arg1 : Memref sig .tc .vmem S20000x32 .f32) (harg1 : arg1.IsWhole) (arg2 : Memref sig .tc .vmem S8x128 .f32) (harg2 : arg2.IsWhole) (arg3 : Memref sig .tc .vmem S32x8 .f32) (harg3 : arg3.IsWhole) (arg4 : Memref sig .tc .vmem S8x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x64 .f32) (harg8 : arg8.IsWhole) (arg9 : Memref sig .tc .vmem S20000x64 .f32) (harg9 : arg9.IsWhole) (arg10 : Memref sig .tc .vmem S8x128 .f32) (harg10 : arg10.IsWhole) (hc0 : cond2_0 i)
    (x0 : Vec F S20000x32 .f32) (x1 : Vec F S8x128 .f32) (x2 : Vec F S32x8 .f32) (x3 : Vec F S8x32 .f32) (x4 : Vec F S1x32 .f32) (x5 : Vec F S1x32 .f32) (x6 : Vec F S32x64 .f32) (x7 : Vec F S1x64 .f32) (y : S8x128.Idx) :
    ∃ pc ∈ (kernelRun2_A c i arg1 harg1 arg2 harg2 arg3 harg3 arg4 harg4 arg5 harg5 arg6 harg6 arg7 harg7 arg8 harg8 arg9 harg9 arg10 harg10 hc0 x0 x1 x2 x3 x4 x5 x6 x7).2.1, y ∈ pc.1.set :=
  View.cover_of_tiledBy (kernelRun2_A c i arg1 harg1 arg2 harg2 arg3 harg3 arg4 harg4 arg5 harg5 arg6 harg6 arg7 harg7 arg8 harg8 arg9 harg9 arg10 harg10 hc0 x0 x1 x2 x3 x4 x5 x6 x7).2.1 ![1, 64] (by sl_kernel_rfl) y

/-- What case A leaves in output 9's staging buffer: its pieces read back over junk. -/
def out2_A_9 (c : Dev nD) (i : grid2.Coords) (arg1 : Memref sig .tc .vmem S20000x32 .f32) (harg1 : arg1.IsWhole) (arg2 : Memref sig .tc .vmem S8x128 .f32) (harg2 : arg2.IsWhole) (arg3 : Memref sig .tc .vmem S32x8 .f32) (harg3 : arg3.IsWhole) (arg4 : Memref sig .tc .vmem S8x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x64 .f32) (harg8 : arg8.IsWhole) (arg9 : Memref sig .tc .vmem S20000x64 .f32) (harg9 : arg9.IsWhole) (arg10 : Memref sig .tc .vmem S8x128 .f32) (harg10 : arg10.IsWhole) (hc0 : cond2_0 i)
    (x0 : Vec F S20000x32 .f32) (x1 : Vec F S8x128 .f32) (x2 : Vec F S32x8 .f32) (x3 : Vec F S8x32 .f32) (x4 : Vec F S1x32 .f32) (x5 : Vec F S1x32 .f32) (x6 : Vec F S32x64 .f32) (x7 : Vec F S1x64 .f32) : Vec F S8x128 .f32 :=
  VO2_9.read (Elt F) (VO2_9.writes (Elt F) VO2_9.junk (kernelRun2_A c i arg1 harg1 arg2 harg2 arg3 harg3 arg4 harg4 arg5 harg5 arg6 harg6 arg7 harg7 arg8 harg8 arg9 harg9 arg10 harg10 hc0 x0 x1 x2 x3 x4 x5 x6 x7).2.1)

-- (the run's proof term is large: the definition's epilogue — `abstractNestedProofs` — walks it past the default budget)
set_option maxHeartbeats 1000000 in
/-- What the body's stores leave in each output's staging memref, as pieces (last first) IN CASE B (`scf.if` 0 not taken: points 1, 2, … 7: 7 of 8), WITH the
    proof that on whole staging memrefs — the inputs' at their contents, the outputs it reads before covering (9) at their running contents `xo·`, the other outputs' at
    anything, the body runs to the continuation holding the inputs' as they were,
    each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun2_B (c : Dev nD) (i : grid2.Coords) (arg1 : Memref sig .tc .vmem S20000x32 .f32) (harg1 : arg1.IsWhole) (arg2 : Memref sig .tc .vmem S8x128 .f32) (harg2 : arg2.IsWhole) (arg3 : Memref sig .tc .vmem S32x8 .f32) (harg3 : arg3.IsWhole) (arg4 : Memref sig .tc .vmem S8x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x64 .f32) (harg8 : arg8.IsWhole) (arg9 : Memref sig .tc .vmem S20000x64 .f32) (harg9 : arg9.IsWhole) (arg10 : Memref sig .tc .vmem S8x128 .f32) (harg10 : arg10.IsWhole) (hc0 : ¬cond2_0 i)
    (x0 : Vec F S20000x32 .f32) (x1 : Vec F S8x128 .f32) (x2 : Vec F S32x8 .f32) (x3 : Vec F S8x32 .f32) (x4 : Vec F S1x32 .f32) (x5 : Vec F S1x32 .f32) (x6 : Vec F S32x64 .f32) (x7 : Vec F S1x64 .f32) (xo9 : Vec F S8x128 .f32) :
    Σ' (L8 : List (View.Piece (Elt F) S20000x64 .f32)), { L9 : List (View.Piece (Elt F) S8x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ owns (c : Thread nD τ) arg10 fullShare xo9
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (arg10.view.loc (c : Thread nD τ) ↦[arg10.view.set]{fullShare} arg10.view.writes (Elt F) (harg10.unread xo9) L9)) -∗ K ⟨⟩))
          ⊢ wp frame (wpE (defs₀ (F := F)) Variants.none c none) E (cc2__c2_body i arg1 harg1 arg2 harg2 arg3 harg3 arg4 harg4 arg5 harg5 arg6 harg6 arg7 harg7 arg8 harg8 arg9 harg9 arg10 harg10) K } := by
  refine ⟨?_, ?_, fun E K => ?run⟩
  case run =>
    simp only [cc2__c2_body_eq_skeleton]; unfold cc2__c2_body_skel
    simp only [k2_part1_eq_skeleton, k2_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg10.eq_unread hf9
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    iexact H9

/-- Case B's pieces for output 8 tile its block (1 store of `S20000x64`, checked by the kernel's evaluation: Lib/Ring.lean `Piece.tiledL`, linear in the pieces, through a loop's `@[irreducible]` trip theorem too), so they cover it. -/
theorem cover2_B_8 (c : Dev nD) (i : grid2.Coords) (arg1 : Memref sig .tc .vmem S20000x32 .f32) (harg1 : arg1.IsWhole) (arg2 : Memref sig .tc .vmem S8x128 .f32) (harg2 : arg2.IsWhole) (arg3 : Memref sig .tc .vmem S32x8 .f32) (harg3 : arg3.IsWhole) (arg4 : Memref sig .tc .vmem S8x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x64 .f32) (harg8 : arg8.IsWhole) (arg9 : Memref sig .tc .vmem S20000x64 .f32) (harg9 : arg9.IsWhole) (arg10 : Memref sig .tc .vmem S8x128 .f32) (harg10 : arg10.IsWhole) (hc0 : ¬cond2_0 i)
    (x0 : Vec F S20000x32 .f32) (x1 : Vec F S8x128 .f32) (x2 : Vec F S32x8 .f32) (x3 : Vec F S8x32 .f32) (x4 : Vec F S1x32 .f32) (x5 : Vec F S1x32 .f32) (x6 : Vec F S32x64 .f32) (x7 : Vec F S1x64 .f32) (xo9 : Vec F S8x128 .f32) (y : S20000x64.Idx) :
    ∃ pc ∈ (kernelRun2_B c i arg1 harg1 arg2 harg2 arg3 harg3 arg4 harg4 arg5 harg5 arg6 harg6 arg7 harg7 arg8 harg8 arg9 harg9 arg10 harg10 hc0 x0 x1 x2 x3 x4 x5 x6 x7 xo9).1, y ∈ pc.1.set :=
  View.cover_of_tiledL (kernelRun2_B c i arg1 harg1 arg2 harg2 arg3 harg3 arg4 harg4 arg5 harg5 arg6 harg6 arg7 harg7 arg8 harg8 arg9 harg9 arg10 harg10 hc0 x0 x1 x2 x3 x4 x5 x6 x7 xo9).1 S20000x64.size (by sl_kernel_rfl) y

/-- What case B leaves in output 8's staging buffer: its pieces read back over junk. -/
def out2_B_8 (c : Dev nD) (i : grid2.Coords) (arg1 : Memref sig .tc .vmem S20000x32 .f32) (harg1 : arg1.IsWhole) (arg2 : Memref sig .tc .vmem S8x128 .f32) (harg2 : arg2.IsWhole) (arg3 : Memref sig .tc .vmem S32x8 .f32) (harg3 : arg3.IsWhole) (arg4 : Memref sig .tc .vmem S8x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x64 .f32) (harg8 : arg8.IsWhole) (arg9 : Memref sig .tc .vmem S20000x64 .f32) (harg9 : arg9.IsWhole) (arg10 : Memref sig .tc .vmem S8x128 .f32) (harg10 : arg10.IsWhole) (hc0 : ¬cond2_0 i)
    (x0 : Vec F S20000x32 .f32) (x1 : Vec F S8x128 .f32) (x2 : Vec F S32x8 .f32) (x3 : Vec F S8x32 .f32) (x4 : Vec F S1x32 .f32) (x5 : Vec F S1x32 .f32) (x6 : Vec F S32x64 .f32) (x7 : Vec F S1x64 .f32) (xo9 : Vec F S8x128 .f32) : Vec F S20000x64 .f32 :=
  VO2_8.read (Elt F) (VO2_8.writes (Elt F) VO2_8.junk (kernelRun2_B c i arg1 harg1 arg2 harg2 arg3 harg3 arg4 harg4 arg5 harg5 arg6 harg6 arg7 harg7 arg8 harg8 arg9 harg9 arg10 harg10 hc0 x0 x1 x2 x3 x4 x5 x6 x7 xo9).1)

/-- What case B leaves in output 9's staging buffer: its stores read back over what the point before left there (they do not cover the block). -/
def out2_B_9 (c : Dev nD) (i : grid2.Coords) (arg1 : Memref sig .tc .vmem S20000x32 .f32) (harg1 : arg1.IsWhole) (arg2 : Memref sig .tc .vmem S8x128 .f32) (harg2 : arg2.IsWhole) (arg3 : Memref sig .tc .vmem S32x8 .f32) (harg3 : arg3.IsWhole) (arg4 : Memref sig .tc .vmem S8x32 .f32) (harg4 : arg4.IsWhole) (arg5 : Memref sig .tc .vmem S1x32 .f32) (harg5 : arg5.IsWhole) (arg6 : Memref sig .tc .vmem S1x32 .f32) (harg6 : arg6.IsWhole) (arg7 : Memref sig .tc .vmem S32x64 .f32) (harg7 : arg7.IsWhole) (arg8 : Memref sig .tc .vmem S1x64 .f32) (harg8 : arg8.IsWhole) (arg9 : Memref sig .tc .vmem S20000x64 .f32) (harg9 : arg9.IsWhole) (arg10 : Memref sig .tc .vmem S8x128 .f32) (harg10 : arg10.IsWhole) (hc0 : ¬cond2_0 i)
    (x0 : Vec F S20000x32 .f32) (x1 : Vec F S8x128 .f32) (x2 : Vec F S32x8 .f32) (x3 : Vec F S8x32 .f32) (x4 : Vec F S1x32 .f32) (x5 : Vec F S1x32 .f32) (x6 : Vec F S32x64 .f32) (x7 : Vec F S1x64 .f32) (xo9 : Vec F S8x128 .f32) : Vec F S8x128 .f32 :=
  arg10.view.read (Elt F) (arg10.view.writes (Elt F) (harg10.unread xo9) (kernelRun2_B c i arg1 harg1 arg2 harg2 arg3 harg3 arg4 harg4 arg5 harg5 arg6 harg6 arg7 harg7 arg8 harg8 arg9 harg9 arg10 harg10 hc0 x0 x1 x2 x3 x4 x5 x6 x7 xo9).2.1)

/-! ## What the outputs hold after each point -/

/-- THE ACCUMULATION. What the outputs' staging buffers hold after the body at position `n` (a tuple, in window order):
    the case the closed forms select at `n`, run at the point's memrefs and input blocks, an output it reads before covering
    at what this leaves at `n - 1` (its buffer is not written back between: `before2_W_κ`). An assignment of the conditions no point meets is no case (`False.elim`). -/
def outsAt2 (c : Dev nD) : (n : ℕ) → n < cfg2.N → Vec F S20000x64 .f32 × Vec F S8x128 .f32
  | 0, hn => (out2_A_8 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩), out2_A_9 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩) (iblk2 V c 7 ⟨0, hn⟩))
  | n + 1, hn =>
    if h0 : (n + 1) % 8 = 0 then
      (out2_A_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩), out2_A_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) ((hcond2_0 ⟨n + 1, hn⟩).mpr h0) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩))
    else
      (out2_B_8 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2, out2_B_9 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (fun h => h0 ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) (iblk2 V c 7 ⟨n + 1, hn⟩) (outsAt2 c n (Nat.lt_of_succ_lt hn)).2)

/-- `outsAt2` at a point of case A: that case's contents. -/
theorem outsAt2_A (c : Dev nD) (t : Fin cfg2.N) (h0 : t.val % 8 = 0) :
    outsAt2 V c t.val t.isLt = (out2_A_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) ((hcond2_0 t).mpr h0) (iblk2 V c 0 t) (iblk2 V c 1 t) (iblk2 V c 2 t) (iblk2 V c 3 t) (iblk2 V c 4 t) (iblk2 V c 5 t) (iblk2 V c 6 t) (iblk2 V c 7 t), out2_A_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) ((hcond2_0 t).mpr h0) (iblk2 V c 0 t) (iblk2 V c 1 t) (iblk2 V c 2 t) (iblk2 V c 3 t) (iblk2 V c 4 t) (iblk2 V c 5 t) (iblk2 V c 6 t) (iblk2 V c 7 t)) := by
  obtain ⟨n, hn⟩ := t
  cases n with
  | zero => exact rfl
  | succ n => exact (dif_pos h0).trans rfl

/-- `outsAt2` at a point of case B: that case's contents, over what the point before left. -/
theorem outsAt2_B (c : Dev nD) (t : Fin cfg2.N) (h0 : ¬t.val % 8 = 0) :
    outsAt2 V c t.val t.isLt = (out2_B_8 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2, out2_B_9 c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 2 on core `c`: the arrays as the region finds them (`V`); after the body at
    point `t` each input's buffer at its block and the outputs' at `outsAt2`; the invariant the class's
    (Lib/Pipeline/Frame.lean `ΦA`: the scoped rest and the generator register); nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => iblk2 V c 7 t
    | ⟨8, _⟩ => (outsAt2 V c t.val t.isLt).1
    | ⟨9, _⟩ => (outsAt2 V c t.val t.isLt).2
  Φ _ := Pipeline.ΦA spec2 c
  q _ := fullShare
  owed _ := 0

/-- The proof data's arrays are the region-entry contents, by projecting the definition (`dsimp`): a region record cites
    this for its arrays rather than have Lean unfold `V`, the fold through @main up to the region's entry. -/
theorem A_eq2 (c : Dev nD) (w : Fin cfg2.W) : (dat2 V c).A w = V c (Pipeline.arrRef spec2 w) := by
  dsimp only [dat2]

/-- What the body leaves, window by window (the proof data's `match` reduced by `dsimp`). -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = iblk2 V c 7 t := by dsimp only [dat2]
theorem after2_8 (c : Dev nD) (t : Fin cfg2.N) : (dat2 V c).after 8 t = (outsAt2 V c t.val t.isLt).1 := by dsimp only [dat2]
theorem after2_9 (c : Dev nD) (t : Fin cfg2.N) : (dat2 V c).after 9 t = (outsAt2 V c t.val t.isLt).2 := by dsimp only [dat2]

/-- Each input's current staging buffer holds its block at every point, fetched there or not (`beforeK_W_of`). -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d
theorem before2_5 (c : Dev nD) (t : Fin cfg2.N) (d) : (dat2 V c).before 5 t d = iblk2 V c 5 t :=
  before2_5_of V (dat2 V c) (A_eq2 V c 5) (after2_5 V c) t d
theorem before2_6 (c : Dev nD) (t : Fin cfg2.N) (d) : (dat2 V c).before 6 t d = iblk2 V c 6 t :=
  before2_6_of V (dat2 V c) (A_eq2 V c 6) (after2_6 V c) t d
theorem before2_7 (c : Dev nD) (t : Fin cfg2.N) (d) : (dat2 V c).before 7 t d = iblk2 V c 7 t :=
  before2_7_of V (dat2 V c) (A_eq2 V c 7) (after2_7 V c) t d
/-- At a point of case B output 9's current staging buffer holds what the body left at the point before: the point is
    not the first, the buffer was not written back between (`flush2_9`), the window is live and uncut (Lib/Pipeline/Frame.lean
    `Dat.before_out_kept`). -/
theorem before2_9_B (c : Dev nD) (t : Fin cfg2.N) (h0 : ¬t.val % 8 = 0) (d) :
    (dat2 V c).before 9 t d = (outsAt2 V c (t.val - 1) (Nat.lt_of_le_of_lt (Nat.sub_le _ _) t.isLt)).2 := by
  have hN : t.val < 8 := lt_of_lt_of_eq t.isLt (show cfg2.N = 8 from N_2)
  rw [Dat.before_out_kept _ 9 rfl t (by omega) (Bool.eq_false_iff.mpr fun h => by have := (flush2_9 _).mp h; dsimp only at this; omega)
    (fun _ => rfl) (fun _ _ => rfl)]
  dsimp only [dat2]

/-! ## The body obligation, at a generic point -/

/-- What the body is called with at point `t` (Lib/Pipeline.lean `BodyObligation`'s precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d))
    ∗ (∃ d, owns (c : Thread nD τ) (ms2_8 t) fullShare ((dat2 V c).before 8 t d))
    ∗ (∃ d, owns (c : Thread nD τ) (ms2_9 t) fullShare ((dat2 V c).before 9 t d)))

/-- and what it returns. -/
def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t)
    ∗ owns (c : Thread nD τ) (ms2_6 t) fullShare ((dat2 V c).after 6 t)
    ∗ owns (c : Thread nD τ) (ms2_7 t) fullShare ((dat2 V c).after 7 t)
    ∗ owns (c : Thread nD τ) (ms2_8 t) fullShare ((dat2 V c).after 8 t)
    ∗ owns (c : Thread nD τ) (ms2_9 t) fullShare ((dat2 V c).after 9 t))

set_option maxHeartbeats 1600000 in
/-- The body at any point: the inputs' memrefs hold their blocks (`before2_W`); the closed forms say which case the point is in (`by_cases`), an output the case reads before covering holds what the point before left (`before2_W_κ`); so the
    run applies; the invariant passes through unread; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6, before2_7]
  rw [show (dat2 V c).Φ t.succ = (dat2 V c).Φ t.castSucc from rfl,
    show (dat2 V c).owesAt () t.succ = (dat2 V c).owesAt () t.castSucc from rfl,
    after2_0, after2_1, after2_2, after2_3, after2_4, after2_5, after2_6, after2_7, after2_8, after2_9]
  have hN : t.val < 8 := lt_of_lt_of_eq t.isLt (show cfg2.N = 8 from N_2)
  by_cases h0 : t.val % 8 = 0
  · rw [outsAt2_A V c t h0]
    unfold out2_A_8 out2_A_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun2_A c (grid2.coords t) _ _ _ _ _ _ _ _ _ _ _ _ _ _ _ _ _ _ _ _ ((hcond2_0 t).mpr h0) (iblk2 V c 0 t) (iblk2 V c 1 t) (iblk2 V c 2 t) (iblk2 V c 3 t) (iblk2 V c 4 t) (iblk2 V c 5 t) (iblk2 V c 6 t) (iblk2 V c 7 t)).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    iintro ⟨H0, H1, H2, H3, H4, H5, H6, H7, ⟨%e8, H8⟩, ⟨%e9, H9⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover2_A_8 c _ _ _ _ _ _ _ _ _ _ _ _ _ _ _ _ _ _ _ _ _ _ _ _ _ _ _ _ _ _)
    unfold owns; iexists _; isplitr
    swap; · iexact H9
    ipureintro; exact View.read_writes_of_cover _ _ _ _ _ (cover2_A_9 c _ _ _ _ _ _ _ _ _ _ _ _ _ _ _ _ _ _ _ _ _ _ _ _ _ _ _ _ _ _)
  · rw [outsAt2_B V c t h0]
    simp only [before2_9_B V c t h0]
    unfold out2_B_8 out2_B_9; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply ((kernelRun2_B c (grid2.coords t) _ _ _ _ _ _ _ _ _ _ _ _ _ _ _ _ _ _ _ _ (fun h => h0 ((hcond2_0 t).mp h)) (iblk2 V c 0 t) (iblk2 V c 1 t) (iblk2 V c 2 t) (iblk2 V c 3 t) (iblk2 V c 4 t) (iblk2 V c 5 t) (iblk2 V c 6 t) (iblk2 V c 7 t) _).2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexact H9
    iintro ⟨H0, H1, H2, H3, H4, H5, H6, H7, ⟨%e8, H8⟩, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_of_cover _ _ _ _ _ (cover2_B_8 c _ _ _ _ _ _ _ _ _ _ _ _ _ _ _ _ _ _ _ _ _ _ _ _ _ _ _ _ _ _ _)
    unfold owns; iexists _; isplitr
    swap; · iexact H9
    ipureintro; rfl

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point: the body's triple restated (Lib/Pipeline/FrameBody.lean `triple_restated`). -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.KernelIdeal.Whole

end
-- ==== Proof.Reg3.lean ====
/-
The last call (region 3 of @main) over any entry contents `V`: its windows, the cases of its body and the scratch
buffer it carries from point to point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_5_of {c : Dev nD} (dat : Dat τ (Elt F) Unit ℕ (UR sig nD τ) ℕ cfg3 c) (hA : dat.A 5 = V c (Pipeline.arrRef spec3 5))
    (hafter : ∀ t, dat.after 5 t = iblk3 V c 5 t) (t : Fin cfg3.N) (d) : dat.before 5 t d = iblk3 V c 5 t :=
  (dat.before_in_eq_fetched 5 rfl (fun _ => rfl) (fun _ _ _ => rfl) (fun t => by rw [hafter]; unfold Dat.blockOf iblk3; rw [hA]; try rfl) t d).trans
    (by unfold Dat.fetched Dat.blockOf iblk3; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_6_of {c : Dev nD} (dat : Dat τ (Elt F) Unit ℕ (UR sig nD τ) ℕ cfg3 c) (hA : dat.A 6 = V c (Pipeline.arrRef spec3 6))
    (hafter : ∀ t, dat.after 6 t = iblk3 V c 6 t) (t : Fin cfg3.N) (d) : dat.before 6 t d = iblk3 V c 6 t :=
  (dat.before_in_eq_fetched 6 rfl (fun _ => rfl) (fun _ _ _ => rfl) (fun t => by rw [hafter]; unfold Dat.blockOf iblk3; rw [hA]; try rfl) t d).trans
    (by unfold Dat.fetched Dat.blockOf iblk3; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_7_of {c : Dev nD} (dat : Dat τ (Elt F) Unit ℕ (UR sig nD τ) ℕ cfg3 c) (hA : dat.A 7 = V c (Pipeline.arrRef spec3 7))
    (hafter : ∀ t, dat.after 7 t = iblk3 V c 7 t) (t : Fin cfg3.N) (d) : dat.before 7 t d = iblk3 V c 7 t :=
  (dat.before_in_eq_fetched 7 rfl (fun _ => rfl) (fun _ _ _ => rfl) (fun t => by rw [hafter]; unfold Dat.blockOf iblk3; rw [hA]; try rfl) t d).trans
    (by unfold Dat.fetched Dat.blockOf iblk3; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_8_of {c : Dev nD} (dat : Dat τ (Elt F) Unit ℕ (UR sig nD τ) ℕ cfg3 c) (hA : dat.A 8 = V c (Pipeline.arrRef spec3 8))
    (hafter : ∀ t, dat.after 8 t = iblk3 V c 8 t) (t : Fin cfg3.N) (d) : dat.before 8 t d = iblk3 V c 8 t :=
  (dat.before_in_eq_fetched 8 rfl (fun _ => rfl) (fun _ _ _ => rfl) (fun t => by rw [hafter]; unfold Dat.blockOf iblk3; rw [hA]; try rfl) t d).trans
    (by unfold Dat.fetched Dat.blockOf iblk3; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_9_of {c : Dev nD} (dat : Dat τ (Elt F) Unit ℕ (UR sig nD τ) ℕ cfg3 c) (hA : dat.A 9 = V c (Pipeline.arrRef spec3 9))
    (hafter : ∀ t, dat.after 9 t = iblk3 V c 9 t) (t : Fin cfg3.N) (d) : dat.before 9 t d = iblk3 V c 9 t :=
  (dat.before_in_eq_fetched 9 rfl (fun _ => rfl) (fun _ _ _ => rfl) (fun t => by rw [hafter]; unfold Dat.blockOf iblk3; rw [hA]; try rfl) t d).trans
    (by unfold Dat.fetched Dat.blockOf iblk3; rw [hA]; try rfl)
/-- Input window 10's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_10_of {c : Dev nD} (dat : Dat τ (Elt F) Unit ℕ (UR sig nD τ) ℕ cfg3 c) (hA : dat.A 10 = V c (Pipeline.arrRef spec3 10))
    (hafter : ∀ t, dat.after 10 t = iblk3 V c 10 t) (t : Fin cfg3.N) (d) : dat.before 10 t d = iblk3 V c 10 t :=
  (dat.before_in_eq_fetched 10 rfl (fun _ => rfl) (fun _ _ _ => rfl) (fun t => by rw [hafter]; unfold Dat.blockOf iblk3; rw [hA]; try rfl) t d).trans
    (by unfold Dat.fetched Dat.blockOf iblk3; rw [hA]; try rfl)
/-- Input window 11's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_11_of {c : Dev nD} (dat : Dat τ (Elt F) Unit ℕ (UR sig nD τ) ℕ cfg3 c) (hA : dat.A 11 = V c (Pipeline.arrRef spec3 11))
    (hafter : ∀ t, dat.after 11 t = iblk3 V c 11 t) (t : Fin cfg3.N) (d) : dat.before 11 t d = iblk3 V c 11 t :=
  (dat.before_in_eq_fetched 11 rfl (fun _ => rfl) (fun _ _ _ => rfl) (fun t => by rw [hafter]; unfold Dat.blockOf iblk3; rw [hA]; try rfl) t d).trans
    (by unfold Dat.fetched Dat.blockOf iblk3; rw [hA]; try rfl)
/-- Input window 12's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_12_of {c : Dev nD} (dat : Dat τ (Elt F) Unit ℕ (UR sig nD τ) ℕ cfg3 c) (hA : dat.A 12 = V c (Pipeline.arrRef spec3 12))
    (hafter : ∀ t, dat.after 12 t = iblk3 V c 12 t) (t : Fin cfg3.N) (d) : dat.before 12 t d = iblk3 V c 12 t :=
  (dat.before_in_eq_fetched 12 rfl (fun _ => rfl) (fun _ _ _ => rfl) (fun t => by rw [hafter]; unfold Dat.blockOf iblk3; rw [hA]; try rfl) t d).trans
    (by unfold Dat.fetched Dat.blockOf iblk3; rw [hA]; try rfl)
/-- Input window 13's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_13_of {c : Dev nD} (dat : Dat τ (Elt F) Unit ℕ (UR sig nD τ) ℕ cfg3 c) (hA : dat.A 13 = V c (Pipeline.arrRef spec3 13))
    (hafter : ∀ t, dat.after 13 t = iblk3 V c 13 t) (t : Fin cfg3.N) (d) : dat.before 13 t d = iblk3 V c 13 t :=
  (dat.before_in_eq_fetched 13 rfl (fun _ => rfl) (fun _ _ _ => rfl) (fun t => by rw [hafter]; unfold Dat.blockOf iblk3; rw [hA]; try rfl) t d).trans
    (by unfold Dat.fetched Dat.blockOf iblk3; rw [hA]; try rfl)
/-- Input window 14's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_14_of {c : Dev nD} (dat : Dat τ (Elt F) Unit ℕ (UR sig nD τ) ℕ cfg3 c) (hA : dat.A 14 = V c (Pipeline.arrRef spec3 14))
    (hafter : ∀ t, dat.after 14 t = iblk3 V c 14 t) (t : Fin cfg3.N) (d) : dat.before 14 t d = iblk3 V c 14 t :=
  (dat.before_in_eq_fetched 14 rfl (fun _ => rfl) (fun _ _ _ => rfl) (fun t => by rw [hafter]; unfold Dat.blockOf iblk3; rw [hA]; try rfl) t d).trans
    (by unfold Dat.fetched Dat.blockOf iblk3; rw [hA]; try rfl)
/-- Input window 15's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before3_15_of {c : Dev nD} (dat : Dat τ (Elt F) Unit ℕ (UR sig nD τ) ℕ cfg3 c) (hA : dat.A 15 = V c (Pipeline.arrRef spec3 15))
    (hafter : ∀ t, dat.after 15 t = iblk3 V c 15 t) (t : Fin cfg3.N) (d) : dat.before 15 t d = iblk3 V c 15 t :=
  (dat.before_in_eq_fetched 15 rfl (fun _ => rfl) (fun _ _ _ => rfl) (fun t => by rw [hafter]; unfold Dat.blockOf iblk3; rw [hA]; try rfl) t d).trans
    (by unfold Dat.fetched Dat.blockOf iblk3; rw [hA]; try rfl)

/-! ## The frame claim's post from the frame run's -/

/-- The condition of the body's `scf.if` 0 (`k3_h1`), from the grid coordinates (the skeleton's scalar
    chain substituted). -/
abbrev cond3_0 (i : grid3.Coords) : Prop := (Scalar.cmpi .ne (Scalar.extui (Scalar.cmpi .eq (BitVec.ofNat 32 (i 0).val) 0#32)) 0#32) = 1#1
/-- It holds at the first point only — by arithmetic of the point. -/
theorem hcond3_0 : ∀ t : Fin cfg3.N, cond3_0 (grid3.coords t) ↔ t.val % 8 = 0 :=
  (fun t => by
    have ht : t.val < 8 := Nat.lt_of_lt_of_eq t.isLt N_3
    have e0 : (grid3.coords t 0).val = t.val / 1 % 8 := Pipeline.Grid.coords_val t 0 (by decide) rfl
    simp only [cond3_0, e0]
    word_cmp
   : ∀ t : Fin grid3.N, cond3_0 (grid3.coords t) ↔ t.val % 8 = 0)

/-- The condition of the body's `scf.if` 1 (`k3_h2`), from the grid coordinates (the skeleton's scalar
    chain substituted). -/
abbrev cond3_1 (i : grid3.Coords) : Prop := k3_cond2 i = 1#1
/-- It holds at the last point only — by arithmetic of the point. -/
theorem hcond3_1 : ∀ t : Fin cfg3.N, cond3_1 (grid3.coords t) ↔ t.val % 8 = 7 :=
  (fun t => by
    have ht : t.val < 8 := Nat.lt_of_lt_of_eq t.isLt N_3
    have e0 : (grid3.coords t 0).val = t.val / 1 % 8 := Pipeline.Grid.coords_val t 0 (by decide) rfl
    simp only [cond3_1, k3_cond2, e0]
    word_cmp
   : ∀ t : Fin grid3.N, cond3_1 (grid3.coords t) ↔ t.val % 8 = 7)

/-! ## Where the windows are idle (the printed configuration's table `Cfg.idle`) -/

/-- Window 0 is never idle (an input). -/
theorem liveAt3_0 : ∀ t : Fin cfg3.N, cfg3.idle 0 (grid3.coords t) = false := fun _ => rfl
/-- Window 1 is never idle (an input). -/
theorem liveAt3_1 : ∀ t : Fin cfg3.N, cfg3.idle 1 (grid3.coords t) = false := fun _ => rfl
/-- Window 2 is never idle (an input). -/
theorem liveAt3_2 : ∀ t : Fin cfg3.N, cfg3.idle 2 (grid3.coords t) = false := fun _ => rfl
/-- Window 3 is never idle (an input). -/
theorem liveAt3_3 : ∀ t : Fin cfg3.N, cfg3.idle 3 (grid3.coords t) = false := fun _ => rfl
/-- Window 4 is never idle (an input). -/
theorem liveAt3_4 : ∀ t : Fin cfg3.N, cfg3.idle 4 (grid3.coords t) = false := fun _ => rfl
/-- Window 5 is never idle (an input). -/
theorem liveAt3_5 : ∀ t : Fin cfg3.N, cfg3.idle 5 (grid3.coords t) = false := fun _ => rfl
/-- Window 6 is never idle (an input). -/
theorem liveAt3_6 : ∀ t : Fin cfg3.N, cfg3.idle 6 (grid3.coords t) = false := fun _ => rfl
/-- Window 7 is never idle (an input). -/
theorem liveAt3_7 : ∀ t : Fin cfg3.N, cfg3.idle 7 (grid3.coords t) = false := fun _ => rfl
/-- Window 8 is never idle (an input). -/
theorem liveAt3_8 : ∀ t : Fin cfg3.N, cfg3.idle 8 (grid3.coords t) = false := fun _ => rfl
/-- Window 9 is never idle (an input). -/
theorem liveAt3_9 : ∀ t : Fin cfg3.N, cfg3.idle 9 (grid3.coords t) = false := fun _ => rfl
/-- Window 10 is never idle (an input). -/
theorem liveAt3_10 : ∀ t : Fin cfg3.N, cfg3.idle 10 (grid3.coords t) = false := fun _ => rfl
/-- Window 11 is never idle (an input). -/
theorem liveAt3_11 : ∀ t : Fin cfg3.N, cfg3.idle 11 (grid3.coords t) = false := fun _ => rfl
/-- Window 12 is never idle (an input). -/
theorem liveAt3_12 : ∀ t : Fin cfg3.N, cfg3.idle 12 (grid3.coords t) = false := fun _ => rfl
/-- Window 13 is never idle (an input). -/
theorem liveAt3_13 : ∀ t : Fin cfg3.N, cfg3.idle 13 (grid3.coords t) = false := fun _ => rfl
/-- Window 14 is never idle (an input). -/
theorem liveAt3_14 : ∀ t : Fin cfg3.N, cfg3.idle 14 (grid3.coords t) = false := fun _ => rfl
/-- Window 15 is never idle (an input). -/
theorem liveAt3_15 : ∀ t : Fin cfg3.N, cfg3.idle 15 (grid3.coords t) = false := fun _ => rfl
/-- At the points of case A the printed configuration (`Cfg.idle`) calls output 16 idle: the case stores nothing into it. -/
theorem idleAt3_16_A : ∀ t : Fin cfg3.N, cond3_0 (grid3.coords t) → ¬cond3_1 (grid3.coords t) → cfg3.idle 16 (grid3.coords t) = true := by decide +kernel
/-- At the points of case A the pipeline does not write output 16's block back. -/
theorem noFlush3_16_A : ∀ t : Fin cfg3.N, cond3_0 (grid3.coords t) → ¬cond3_1 (grid3.coords t) → (cfg3.win 16).flush t = false := by decide +kernel
/-- At the points of case B the printed configuration (`Cfg.idle`) calls output 16 idle: the case stores nothing into it. -/
theorem idleAt3_16_B : ∀ t : Fin cfg3.N, ¬cond3_0 (grid3.coords t) → ¬cond3_1 (grid3.coords t) → cfg3.idle 16 (grid3.coords t) = true := by decide +kernel
/-- At the points of case B the pipeline does not write output 16's block back. -/
theorem noFlush3_16_B : ∀ t : Fin cfg3.N, ¬cond3_0 (grid3.coords t) → ¬cond3_1 (grid3.coords t) → (cfg3.win 16).flush t = false := by decide +kernel
/-- At the points of case C the printed configuration (`Cfg.idle`) calls output 16 live: the case stores into it. -/
theorem liveAt3_16_C : ∀ t : Fin cfg3.N, ¬cond3_0 (grid3.coords t) → cond3_1 (grid3.coords t) → cfg3.idle 16 (grid3.coords t) = false := by decide +kernel

/-! ## The kernel body on any staging memrefs: a subtype the run finds -/

/-- One staging buffer of output window 16, through which its contents are stated (`View.read_writes_of_cover`: the
    choice does not matter). -/
abbrev VO3_16 : View sig .tc .vmem S16x128 .f32 := (Memref.whole cc3_stg16_0 : Memref sig .tc .vmem S16x128 .f32).view
/-- Each window's current staging memref at point `t`, spelled as the pipeline passes it (`bodyAt3`), and its wholeness. -/
abbrev ms3_0 (t : Fin cfg3.N) : Memref sig .tc .vmem S20000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S8x128 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S64x8 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S8x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x64 .f32 := win3_5.stage (cfg3.slots t 5)
abbrev hs3_5 (t : Fin cfg3.N) : (ms3_5 t).IsWhole := hstage3_5 ((cfg3.slots t 5).cast nbuf3_5)
abbrev ms3_6 (t : Fin cfg3.N) : Memref sig .tc .vmem S64x128 .f32 := win3_6.stage (cfg3.slots t 6)
abbrev hs3_6 (t : Fin cfg3.N) : (ms3_6 t).IsWhole := hstage3_6 ((cfg3.slots t 6).cast nbuf3_6)
abbrev ms3_7 (t : Fin cfg3.N) : Memref sig .tc .vmem S1x128 .f32 := win3_7.stage (cfg3.slots t 7)
abbrev hs3_7 (t : Fin cfg3.N) : (ms3_7 t).IsWhole := hstage3_7 ((cfg3.slots t 7).cast nbuf3_7)
abbrev ms3_8 (t : Fin cfg3.N) : Memref sig .tc .vmem S1x128 .f32 := win3_8.stage (cfg3.slots t 8)
abbrev hs3_8 (t : Fin cfg3.N) : (ms3_8 t).IsWhole := hstage3_8 ((cfg3.slots t 8).cast nbuf3_8)
abbrev ms3_9 (t : Fin cfg3.N) : Memref sig .tc .vmem S1x128 .f32 := win3_9.stage (cfg3.slots t 9)
abbrev hs3_9 (t : Fin cfg3.N) : (ms3_9 t).IsWhole := hstage3_9 ((cfg3.slots t 9).cast nbuf3_9)
abbrev ms3_10 (t : Fin cfg3.N) : Memref sig .tc .vmem S128x8 .f32 := win3_10.stage (cfg3.slots t 10)
abbrev hs3_10 (t : Fin cfg3.N) : (ms3_10 t).IsWhole := hstage3_10 ((cfg3.slots t 10).cast nbuf3_10)
abbrev ms3_11 (t : Fin cfg3.N) : Memref sig .tc .vmem S8x128 .f32 := win3_11.stage (cfg3.slots t 11)
abbrev hs3_11 (t : Fin cfg3.N) : (ms3_11 t).IsWhole := hstage3_11 ((cfg3.slots t 11).cast nbuf3_11)
abbrev ms3_12 (t : Fin cfg3.N) : Memref sig .tc .vmem S128x128 .f32 := win3_12.stage (cfg3.slots t 12)
abbrev hs3_12 (t : Fin cfg3.N) : (ms3_12 t).IsWhole := hstage3_12 ((cfg3.slots t 12).cast nbuf3_12)
abbrev ms3_13 (t : Fin cfg3.N) : Memref sig .tc .vmem S1x128 .f32 := win3_13.stage (cfg3.slots t 13)
abbrev hs3_13 (t : Fin cfg3.N) : (ms3_13 t).IsWhole := hstage3_13 ((cfg3.slots t 13).cast nbuf3_13)
abbrev ms3_14 (t : Fin cfg3.N) : Memref sig .tc .vmem S1x128 .f32 := win3_14.stage (cfg3.slots t 14)
abbrev hs3_14 (t : Fin cfg3.N) : (ms3_14 t).IsWhole := hstage3_14 ((cfg3.slots t 14).cast nbuf3_14)
abbrev ms3_15 (t : Fin cfg3.N) : Memref sig .tc .vmem S1x128 .f32 := win3_15.stage (cfg3.slots t 15)
abbrev hs3_15 (t : Fin cfg3.N) : (ms3_15 t).IsWhole := hstage3_15 ((cfg3.slots t 15).cast nbuf3_15)
abbrev ms3_16 (t : Fin cfg3.N) : Memref sig .tc .vmem S16x128 .f32 := win3_16.stage (cfg3.slots t 16)
abbrev hs3_16 (t : Fin cfg3.N) : (ms3_16 t).IsWhole := hstage3_16 ((cfg3.slots t 16).cast nbuf3_16)
/-- The scratch operands: whole scoped buffers of the kernel's own, passed beside the windows. -/
abbrev scM3_0 : Memref sig .tc .vmem S16x64 .f32 := Memref.whole cc3_scratch0
/-- The scratch `arg18` the kernel carries between points, as a view: what it holds is stated through it. -/
abbrev VS3_0 : View sig .tc .vmem S16x64 .f32 := scM3_0.view

/-- What the region carries untouched beside the scratch buffer: the other scoped buffers and the generator register. -/
def side (c : Dev nD) : sProp 𝕄 :=
  iprop(Pipeline.scopedRestBut (Ix := Unit) (Name := ℕ) (U := UR sig nD τ) (Lvl := ℕ) (Val := Elt F) spec3 c [cc3_scratch0] ∗ (∃ r, prngReg c r))

/-- The region's invariant with the scratch buffer as a memref owned at some contents. -/
theorem PhiA3_eq (c : Dev nD) :
    (Pipeline.ΦA spec3 c : sProp 𝕄)
      = iprop(iprop((∃ d, owns (c : Thread nD τ) scM3_0 fullShare d)) ∗ side c) := by
  unfold Pipeline.ΦA side; rw [scopedRest3_split]; simp only [scM3_0, owns_whole]
  exact equiv_iff.mp ⟨Idealize.SL.BI.sep_assoc, Idealize.SL.BI.sep_assoc'⟩

end Cert.KernelIdeal.Whole

end
-- ==== Proof.Reg3A.lean ====
/-
The body of the last call in case A: what its stores leave.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Reg3

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0), WITH the
    proof that on whole staging memrefs — the inputs' at their contents, the outputs it leaves idle (16: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_A (c : Dev nD) (i : grid3.Coords) (arg1 : Memref sig .tc .vmem S20000x64 .f32) (harg1 : arg1.IsWhole) (arg2 : Memref sig .tc .vmem S8x128 .f32) (harg2 : arg2.IsWhole) (arg3 : Memref sig .tc .vmem S64x8 .f32) (harg3 : arg3.IsWhole) (arg4 : Memref sig .tc .vmem S8x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x8 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S16x128 .f32) (harg17 : arg17.IsWhole) (arg18 : Memref sig .tc .vmem S16x64 .f32) (harg18 : arg18.IsWhole) (hc0 : cond3_0 i) (hc1 : ¬cond3_1 i)
    (x0 : Vec F S20000x64 .f32) (x1 : Vec F S8x128 .f32) (x2 : Vec F S64x8 .f32) (x3 : Vec F S8x64 .f32) (x4 : Vec F S1x64 .f32) (x5 : Vec F S1x64 .f32) (x6 : Vec F S64x128 .f32) (x7 : Vec F S1x128 .f32) (x8 : Vec F S1x128 .f32) (x9 : Vec F S1x128 .f32) (x10 : Vec F S128x8 .f32) (x11 : Vec F S8x128 .f32) (x12 : Vec F S128x128 .f32) (x13 : Vec F S1x128 .f32) (x14 : Vec F S1x128 .f32) (x15 : Vec F S1x128 .f32) :
    Σ' (L16 : List (View.Piece (Elt F) S16x128 .f32)), { LS0 : List (View.Piece (Elt F) S16x64 .f32) //
      ∀ (xi16 : Vec F S16x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare xi16 ∗ (∃ d, owns (c : Thread nD τ) arg18 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare xi16 ∗ (∃ f, arg18.view.loc (c : Thread nD τ) ↦[arg18.view.set]{fullShare} arg18.view.writes (Elt F) f LS0)) -∗ K ⟨⟩))
          ⊢ wp frame (wpE (defs₀ (F := F)) Variants.none c none) E (cc3__c3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, fun xi16 E K => ?run⟩
  case run =>
    simp only [cc3__c3_body_eq_skeleton]; unfold cc3__c3_body_skel
    simp only [k3_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    iexists _; iexact HS0

end Cert.KernelIdeal.Whole

end
-- ==== Proof.Reg3B.lean ====
/-
The body of the last call in case B: what its stores leave.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Reg3

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, 3, 4, 5, 6), WITH the
    proof that on whole staging memrefs — the inputs' at their contents, the outputs it leaves idle (16: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_B (c : Dev nD) (i : grid3.Coords) (arg1 : Memref sig .tc .vmem S20000x64 .f32) (harg1 : arg1.IsWhole) (arg2 : Memref sig .tc .vmem S8x128 .f32) (harg2 : arg2.IsWhole) (arg3 : Memref sig .tc .vmem S64x8 .f32) (harg3 : arg3.IsWhole) (arg4 : Memref sig .tc .vmem S8x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x8 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S16x128 .f32) (harg17 : arg17.IsWhole) (arg18 : Memref sig .tc .vmem S16x64 .f32) (harg18 : arg18.IsWhole) (hc0 : ¬cond3_0 i) (hc1 : ¬cond3_1 i)
    (x0 : Vec F S20000x64 .f32) (x1 : Vec F S8x128 .f32) (x2 : Vec F S64x8 .f32) (x3 : Vec F S8x64 .f32) (x4 : Vec F S1x64 .f32) (x5 : Vec F S1x64 .f32) (x6 : Vec F S64x128 .f32) (x7 : Vec F S1x128 .f32) (x8 : Vec F S1x128 .f32) (x9 : Vec F S1x128 .f32) (x10 : Vec F S128x8 .f32) (x11 : Vec F S8x128 .f32) (x12 : Vec F S128x128 .f32) (x13 : Vec F S1x128 .f32) (x14 : Vec F S1x128 .f32) (x15 : Vec F S1x128 .f32) (xs0 : Vec F S16x64 .f32) :
    Σ' (L16 : List (View.Piece (Elt F) S16x128 .f32)), { LS0 : List (View.Piece (Elt F) S16x64 .f32) //
      ∀ (xi16 : Vec F S16x128 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare xi16 ∗ owns (c : Thread nD τ) arg18 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare xi16 ∗ (∃ f, arg18.view.loc (c : Thread nD τ) ↦[arg18.view.set]{fullShare} arg18.view.writes (Elt F) f LS0)) -∗ K ⟨⟩))
          ⊢ wp frame (wpE (defs₀ (F := F)) Variants.none c none) E (cc3__c3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], ?_, fun xi16 E K => ?run⟩
  case run =>
    simp only [cc3__c3_body_eq_skeleton]; unfold cc3__c3_body_skel
    simp only [k3_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    iexists _; iexact HS0

end Cert.KernelIdeal.Whole

end
-- ==== Proof.Reg3C.lean ====
/-
The body of the last call in case C: what its stores leave.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Reg3

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE C (`scf.if` 0 not taken, `scf.if` 1 taken: points 7), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun3_C (c : Dev nD) (i : grid3.Coords) (arg1 : Memref sig .tc .vmem S20000x64 .f32) (harg1 : arg1.IsWhole) (arg2 : Memref sig .tc .vmem S8x128 .f32) (harg2 : arg2.IsWhole) (arg3 : Memref sig .tc .vmem S64x8 .f32) (harg3 : arg3.IsWhole) (arg4 : Memref sig .tc .vmem S8x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x8 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S16x128 .f32) (harg17 : arg17.IsWhole) (arg18 : Memref sig .tc .vmem S16x64 .f32) (harg18 : arg18.IsWhole) (hc0 : ¬cond3_0 i) (hc1 : cond3_1 i)
    (x0 : Vec F S20000x64 .f32) (x1 : Vec F S8x128 .f32) (x2 : Vec F S64x8 .f32) (x3 : Vec F S8x64 .f32) (x4 : Vec F S1x64 .f32) (x5 : Vec F S1x64 .f32) (x6 : Vec F S64x128 .f32) (x7 : Vec F S1x128 .f32) (x8 : Vec F S1x128 .f32) (x9 : Vec F S1x128 .f32) (x10 : Vec F S128x8 .f32) (x11 : Vec F S8x128 .f32) (x12 : Vec F S128x128 .f32) (x13 : Vec F S1x128 .f32) (x14 : Vec F S1x128 .f32) (x15 : Vec F S1x128 .f32) (xs0 : Vec F S16x64 .f32) :
    Σ' (L16 : List (View.Piece (Elt F) S16x128 .f32)), { LS0 : List (View.Piece (Elt F) S16x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d) ∗ owns (c : Thread nD τ) arg18 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f LS0)) -∗ K ⟨⟩))
          ⊢ wp frame (wpE (defs₀ (F := F)) Variants.none c none) E (cc3__c3_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, fun E K => ?run⟩
  case run =>
    simp only [cc3__c3_body_eq_skeleton]; unfold cc3__c3_body_skel
    simp only [k3_part3_eq_skeleton, k3_part1_eq_skeleton, k3_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg18.eq_unread hfs0
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]; · iexists _; iexact H16
    iexists _; iexact HS0

end Cert.KernelIdeal.Whole

end
-- ==== Proof.Reg3D.lean ====
/-
The last call: what its output and its scratch hold after each point, its proof data and its body obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Reg3A
public import proofs.«01_k».proof.Proof.Reg3B
public import proofs.«01_k».proof.Proof.Reg3C

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Case A stores nothing into output 16 (the window is idle at its points and not written back there):
    no pieces — a placeholder (junk read back) that nothing consults, since at these points the window is neither
    written back nor read at the next point (Lib/Pipeline.lean "Idle points"). -/
def out3_A_16 (c : Dev nD) (i : grid3.Coords) (arg1 : Memref sig .tc .vmem S20000x64 .f32) (harg1 : arg1.IsWhole) (arg2 : Memref sig .tc .vmem S8x128 .f32) (harg2 : arg2.IsWhole) (arg3 : Memref sig .tc .vmem S64x8 .f32) (harg3 : arg3.IsWhole) (arg4 : Memref sig .tc .vmem S8x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x8 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S16x128 .f32) (harg17 : arg17.IsWhole) (arg18 : Memref sig .tc .vmem S16x64 .f32) (harg18 : arg18.IsWhole) (hc0 : cond3_0 i) (hc1 : ¬cond3_1 i)
    (x0 : Vec F S20000x64 .f32) (x1 : Vec F S8x128 .f32) (x2 : Vec F S64x8 .f32) (x3 : Vec F S8x64 .f32) (x4 : Vec F S1x64 .f32) (x5 : Vec F S1x64 .f32) (x6 : Vec F S64x128 .f32) (x7 : Vec F S1x128 .f32) (x8 : Vec F S1x128 .f32) (x9 : Vec F S1x128 .f32) (x10 : Vec F S128x8 .f32) (x11 : Vec F S8x128 .f32) (x12 : Vec F S128x128 .f32) (x13 : Vec F S1x128 .f32) (x14 : Vec F S1x128 .f32) (x15 : Vec F S1x128 .f32) : Vec F S16x128 .f32 :=
  VO3_16.read (Elt F) (VO3_16.writes (Elt F) VO3_16.junk (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15).1)

/-- Case A's pieces for scratch `arg18`, which the kernel carries between points, cover it: 2 pieces of `S16x64` tiling it (Lib/Ring.lean `Piece.tiledL`). -/
theorem scover3_A_0 (c : Dev nD) (i : grid3.Coords) (arg1 : Memref sig .tc .vmem S20000x64 .f32) (harg1 : arg1.IsWhole) (arg2 : Memref sig .tc .vmem S8x128 .f32) (harg2 : arg2.IsWhole) (arg3 : Memref sig .tc .vmem S64x8 .f32) (harg3 : arg3.IsWhole) (arg4 : Memref sig .tc .vmem S8x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x8 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S16x128 .f32) (harg17 : arg17.IsWhole) (arg18 : Memref sig .tc .vmem S16x64 .f32) (harg18 : arg18.IsWhole) (hc0 : cond3_0 i) (hc1 : ¬cond3_1 i)
    (x0 : Vec F S20000x64 .f32) (x1 : Vec F S8x128 .f32) (x2 : Vec F S64x8 .f32) (x3 : Vec F S8x64 .f32) (x4 : Vec F S1x64 .f32) (x5 : Vec F S1x64 .f32) (x6 : Vec F S64x128 .f32) (x7 : Vec F S1x128 .f32) (x8 : Vec F S1x128 .f32) (x9 : Vec F S1x128 .f32) (x10 : Vec F S128x8 .f32) (x11 : Vec F S8x128 .f32) (x12 : Vec F S128x128 .f32) (x13 : Vec F S1x128 .f32) (x14 : Vec F S1x128 .f32) (x15 : Vec F S1x128 .f32) (y : S16x64.Idx) :
    ∃ pc ∈ (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15).2.1, y ∈ pc.1.set :=
  View.cover_of_tiledL (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15).2.1 S16x64.size (by sl_kernel_rfl) y

/-- What case A leaves in scratch `arg18`: its pieces read back over junk. -/
def sout3_A_0 (c : Dev nD) (i : grid3.Coords) (arg1 : Memref sig .tc .vmem S20000x64 .f32) (harg1 : arg1.IsWhole) (arg2 : Memref sig .tc .vmem S8x128 .f32) (harg2 : arg2.IsWhole) (arg3 : Memref sig .tc .vmem S64x8 .f32) (harg3 : arg3.IsWhole) (arg4 : Memref sig .tc .vmem S8x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x8 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S16x128 .f32) (harg17 : arg17.IsWhole) (arg18 : Memref sig .tc .vmem S16x64 .f32) (harg18 : arg18.IsWhole) (hc0 : cond3_0 i) (hc1 : ¬cond3_1 i)
    (x0 : Vec F S20000x64 .f32) (x1 : Vec F S8x128 .f32) (x2 : Vec F S64x8 .f32) (x3 : Vec F S8x64 .f32) (x4 : Vec F S1x64 .f32) (x5 : Vec F S1x64 .f32) (x6 : Vec F S64x128 .f32) (x7 : Vec F S1x128 .f32) (x8 : Vec F S1x128 .f32) (x9 : Vec F S1x128 .f32) (x10 : Vec F S128x8 .f32) (x11 : Vec F S8x128 .f32) (x12 : Vec F S128x128 .f32) (x13 : Vec F S1x128 .f32) (x14 : Vec F S1x128 .f32) (x15 : Vec F S1x128 .f32) : Vec F S16x64 .f32 :=
  VS3_0.read (Elt F) (VS3_0.writes (Elt F) VS3_0.junk (kernelRun3_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15).2.1)

/-- Case B stores nothing into output 16 (the window is idle at its points and not written back there):
    no pieces — a placeholder (junk read back) that nothing consults, since at these points the window is neither
    written back nor read at the next point (Lib/Pipeline.lean "Idle points"). -/
def out3_B_16 (c : Dev nD) (i : grid3.Coords) (arg1 : Memref sig .tc .vmem S20000x64 .f32) (harg1 : arg1.IsWhole) (arg2 : Memref sig .tc .vmem S8x128 .f32) (harg2 : arg2.IsWhole) (arg3 : Memref sig .tc .vmem S64x8 .f32) (harg3 : arg3.IsWhole) (arg4 : Memref sig .tc .vmem S8x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x8 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S16x128 .f32) (harg17 : arg17.IsWhole) (arg18 : Memref sig .tc .vmem S16x64 .f32) (harg18 : arg18.IsWhole) (hc0 : ¬cond3_0 i) (hc1 : ¬cond3_1 i)
    (x0 : Vec F S20000x64 .f32) (x1 : Vec F S8x128 .f32) (x2 : Vec F S64x8 .f32) (x3 : Vec F S8x64 .f32) (x4 : Vec F S1x64 .f32) (x5 : Vec F S1x64 .f32) (x6 : Vec F S64x128 .f32) (x7 : Vec F S1x128 .f32) (x8 : Vec F S1x128 .f32) (x9 : Vec F S1x128 .f32) (x10 : Vec F S128x8 .f32) (x11 : Vec F S8x128 .f32) (x12 : Vec F S128x128 .f32) (x13 : Vec F S1x128 .f32) (x14 : Vec F S1x128 .f32) (x15 : Vec F S1x128 .f32) (xs0 : Vec F S16x64 .f32) : Vec F S16x128 .f32 :=
  VO3_16.read (Elt F) (VO3_16.writes (Elt F) VO3_16.junk (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 xs0).1)

/-- Case B's pieces for scratch `arg18`, which the kernel carries between points, cover it: 1 piece of `S16x64` tiling it (Lib/Ring.lean `Piece.tiledL`). -/
theorem scover3_B_0 (c : Dev nD) (i : grid3.Coords) (arg1 : Memref sig .tc .vmem S20000x64 .f32) (harg1 : arg1.IsWhole) (arg2 : Memref sig .tc .vmem S8x128 .f32) (harg2 : arg2.IsWhole) (arg3 : Memref sig .tc .vmem S64x8 .f32) (harg3 : arg3.IsWhole) (arg4 : Memref sig .tc .vmem S8x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x8 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S16x128 .f32) (harg17 : arg17.IsWhole) (arg18 : Memref sig .tc .vmem S16x64 .f32) (harg18 : arg18.IsWhole) (hc0 : ¬cond3_0 i) (hc1 : ¬cond3_1 i)
    (x0 : Vec F S20000x64 .f32) (x1 : Vec F S8x128 .f32) (x2 : Vec F S64x8 .f32) (x3 : Vec F S8x64 .f32) (x4 : Vec F S1x64 .f32) (x5 : Vec F S1x64 .f32) (x6 : Vec F S64x128 .f32) (x7 : Vec F S1x128 .f32) (x8 : Vec F S1x128 .f32) (x9 : Vec F S1x128 .f32) (x10 : Vec F S128x8 .f32) (x11 : Vec F S8x128 .f32) (x12 : Vec F S128x128 .f32) (x13 : Vec F S1x128 .f32) (x14 : Vec F S1x128 .f32) (x15 : Vec F S1x128 .f32) (xs0 : Vec F S16x64 .f32) (y : S16x64.Idx) :
    ∃ pc ∈ (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 xs0).2.1, y ∈ pc.1.set :=
  View.cover_of_tiledL (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 xs0).2.1 S16x64.size (by sl_kernel_rfl) y

/-- What case B leaves in scratch `arg18`: its pieces read back over junk. -/
def sout3_B_0 (c : Dev nD) (i : grid3.Coords) (arg1 : Memref sig .tc .vmem S20000x64 .f32) (harg1 : arg1.IsWhole) (arg2 : Memref sig .tc .vmem S8x128 .f32) (harg2 : arg2.IsWhole) (arg3 : Memref sig .tc .vmem S64x8 .f32) (harg3 : arg3.IsWhole) (arg4 : Memref sig .tc .vmem S8x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x8 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S16x128 .f32) (harg17 : arg17.IsWhole) (arg18 : Memref sig .tc .vmem S16x64 .f32) (harg18 : arg18.IsWhole) (hc0 : ¬cond3_0 i) (hc1 : ¬cond3_1 i)
    (x0 : Vec F S20000x64 .f32) (x1 : Vec F S8x128 .f32) (x2 : Vec F S64x8 .f32) (x3 : Vec F S8x64 .f32) (x4 : Vec F S1x64 .f32) (x5 : Vec F S1x64 .f32) (x6 : Vec F S64x128 .f32) (x7 : Vec F S1x128 .f32) (x8 : Vec F S1x128 .f32) (x9 : Vec F S1x128 .f32) (x10 : Vec F S128x8 .f32) (x11 : Vec F S8x128 .f32) (x12 : Vec F S128x128 .f32) (x13 : Vec F S1x128 .f32) (x14 : Vec F S1x128 .f32) (x15 : Vec F S1x128 .f32) (xs0 : Vec F S16x64 .f32) : Vec F S16x64 .f32 :=
  VS3_0.read (Elt F) (VS3_0.writes (Elt F) VS3_0.junk (kernelRun3_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 xs0).2.1)

/-- Case C's pieces for output 16 tile its block (1 store of `S16x128`, checked by the kernel's evaluation: Lib/Ring.lean `Piece.tiledL`, linear in the pieces, through a loop's `@[irreducible]` trip theorem too), so they cover it. -/
theorem cover3_C_16 (c : Dev nD) (i : grid3.Coords) (arg1 : Memref sig .tc .vmem S20000x64 .f32) (harg1 : arg1.IsWhole) (arg2 : Memref sig .tc .vmem S8x128 .f32) (harg2 : arg2.IsWhole) (arg3 : Memref sig .tc .vmem S64x8 .f32) (harg3 : arg3.IsWhole) (arg4 : Memref sig .tc .vmem S8x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x8 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S16x128 .f32) (harg17 : arg17.IsWhole) (arg18 : Memref sig .tc .vmem S16x64 .f32) (harg18 : arg18.IsWhole) (hc0 : ¬cond3_0 i) (hc1 : cond3_1 i)
    (x0 : Vec F S20000x64 .f32) (x1 : Vec F S8x128 .f32) (x2 : Vec F S64x8 .f32) (x3 : Vec F S8x64 .f32) (x4 : Vec F S1x64 .f32) (x5 : Vec F S1x64 .f32) (x6 : Vec F S64x128 .f32) (x7 : Vec F S1x128 .f32) (x8 : Vec F S1x128 .f32) (x9 : Vec F S1x128 .f32) (x10 : Vec F S128x8 .f32) (x11 : Vec F S8x128 .f32) (x12 : Vec F S128x128 .f32) (x13 : Vec F S1x128 .f32) (x14 : Vec F S1x128 .f32) (x15 : Vec F S1x128 .f32) (xs0 : Vec F S16x64 .f32) (y : S16x128.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 xs0).1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 xs0).1 S16x128.size (by sl_kernel_rfl) y

/-- What case C leaves in output 16's staging buffer: its pieces read back over junk. -/
def out3_C_16 (c : Dev nD) (i : grid3.Coords) (arg1 : Memref sig .tc .vmem S20000x64 .f32) (harg1 : arg1.IsWhole) (arg2 : Memref sig .tc .vmem S8x128 .f32) (harg2 : arg2.IsWhole) (arg3 : Memref sig .tc .vmem S64x8 .f32) (harg3 : arg3.IsWhole) (arg4 : Memref sig .tc .vmem S8x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x8 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S16x128 .f32) (harg17 : arg17.IsWhole) (arg18 : Memref sig .tc .vmem S16x64 .f32) (harg18 : arg18.IsWhole) (hc0 : ¬cond3_0 i) (hc1 : cond3_1 i)
    (x0 : Vec F S20000x64 .f32) (x1 : Vec F S8x128 .f32) (x2 : Vec F S64x8 .f32) (x3 : Vec F S8x64 .f32) (x4 : Vec F S1x64 .f32) (x5 : Vec F S1x64 .f32) (x6 : Vec F S64x128 .f32) (x7 : Vec F S1x128 .f32) (x8 : Vec F S1x128 .f32) (x9 : Vec F S1x128 .f32) (x10 : Vec F S128x8 .f32) (x11 : Vec F S8x128 .f32) (x12 : Vec F S128x128 .f32) (x13 : Vec F S1x128 .f32) (x14 : Vec F S1x128 .f32) (x15 : Vec F S1x128 .f32) (xs0 : Vec F S16x64 .f32) : Vec F S16x128 .f32 :=
  VO3_16.read (Elt F) (VO3_16.writes (Elt F) VO3_16.junk (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 xs0).1)

/-- Case C's pieces for scratch `arg18`, which the kernel carries between points, cover it: 1 piece of `S16x64` tiling it (Lib/Ring.lean `Piece.tiledL`). -/
theorem scover3_C_0 (c : Dev nD) (i : grid3.Coords) (arg1 : Memref sig .tc .vmem S20000x64 .f32) (harg1 : arg1.IsWhole) (arg2 : Memref sig .tc .vmem S8x128 .f32) (harg2 : arg2.IsWhole) (arg3 : Memref sig .tc .vmem S64x8 .f32) (harg3 : arg3.IsWhole) (arg4 : Memref sig .tc .vmem S8x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x8 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S16x128 .f32) (harg17 : arg17.IsWhole) (arg18 : Memref sig .tc .vmem S16x64 .f32) (harg18 : arg18.IsWhole) (hc0 : ¬cond3_0 i) (hc1 : cond3_1 i)
    (x0 : Vec F S20000x64 .f32) (x1 : Vec F S8x128 .f32) (x2 : Vec F S64x8 .f32) (x3 : Vec F S8x64 .f32) (x4 : Vec F S1x64 .f32) (x5 : Vec F S1x64 .f32) (x6 : Vec F S64x128 .f32) (x7 : Vec F S1x128 .f32) (x8 : Vec F S1x128 .f32) (x9 : Vec F S1x128 .f32) (x10 : Vec F S128x8 .f32) (x11 : Vec F S8x128 .f32) (x12 : Vec F S128x128 .f32) (x13 : Vec F S1x128 .f32) (x14 : Vec F S1x128 .f32) (x15 : Vec F S1x128 .f32) (xs0 : Vec F S16x64 .f32) (y : S16x64.Idx) :
    ∃ pc ∈ (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 xs0).2.1, y ∈ pc.1.set :=
  View.cover_of_tiledL (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 xs0).2.1 S16x64.size (by sl_kernel_rfl) y

/-- What case C leaves in scratch `arg18`: its pieces read back over junk. -/
def sout3_C_0 (c : Dev nD) (i : grid3.Coords) (arg1 : Memref sig .tc .vmem S20000x64 .f32) (harg1 : arg1.IsWhole) (arg2 : Memref sig .tc .vmem S8x128 .f32) (harg2 : arg2.IsWhole) (arg3 : Memref sig .tc .vmem S64x8 .f32) (harg3 : arg3.IsWhole) (arg4 : Memref sig .tc .vmem S8x64 .f32) (harg4 : arg4.IsWhole) (arg5 : Memref sig .tc .vmem S1x64 .f32) (harg5 : arg5.IsWhole) (arg6 : Memref sig .tc .vmem S1x64 .f32) (harg6 : arg6.IsWhole) (arg7 : Memref sig .tc .vmem S64x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (arg11 : Memref sig .tc .vmem S128x8 .f32) (harg11 : arg11.IsWhole) (arg12 : Memref sig .tc .vmem S8x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S1x128 .f32) (harg15 : arg15.IsWhole) (arg16 : Memref sig .tc .vmem S1x128 .f32) (harg16 : arg16.IsWhole) (arg17 : Memref sig .tc .vmem S16x128 .f32) (harg17 : arg17.IsWhole) (arg18 : Memref sig .tc .vmem S16x64 .f32) (harg18 : arg18.IsWhole) (hc0 : ¬cond3_0 i) (hc1 : cond3_1 i)
    (x0 : Vec F S20000x64 .f32) (x1 : Vec F S8x128 .f32) (x2 : Vec F S64x8 .f32) (x3 : Vec F S8x64 .f32) (x4 : Vec F S1x64 .f32) (x5 : Vec F S1x64 .f32) (x6 : Vec F S64x128 .f32) (x7 : Vec F S1x128 .f32) (x8 : Vec F S1x128 .f32) (x9 : Vec F S1x128 .f32) (x10 : Vec F S128x8 .f32) (x11 : Vec F S8x128 .f32) (x12 : Vec F S128x128 .f32) (x13 : Vec F S1x128 .f32) (x14 : Vec F S1x128 .f32) (x15 : Vec F S1x128 .f32) (xs0 : Vec F S16x64 .f32) : Vec F S16x64 .f32 :=
  VS3_0.read (Elt F) (VS3_0.writes (Elt F) VS3_0.junk (kernelRun3_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 hc1 x0 x1 x2 x3 x4 x5 x6 x7 x8 x9 x10 x11 x12 x13 x14 x15 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before3_W_κ`). An assignment of the conditions no point meets is no case (`False.elim`). -/
def outsAt3 (c : Dev nD) : (n : ℕ) → n < cfg3.N → Vec F S16x128 .f32 × Vec F S16x64 .f32
  | 0, hn => (out3_A_16 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) (ms3_11 ⟨0, hn⟩) (hs3_11 ⟨0, hn⟩) (ms3_12 ⟨0, hn⟩) (hs3_12 ⟨0, hn⟩) (ms3_13 ⟨0, hn⟩) (hs3_13 ⟨0, hn⟩) (ms3_14 ⟨0, hn⟩) (hs3_14 ⟨0, hn⟩) (ms3_15 ⟨0, hn⟩) (hs3_15 ⟨0, hn⟩) (ms3_16 ⟨0, hn⟩) (hs3_16 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩) (iblk3 V c 9 ⟨0, hn⟩) (iblk3 V c 10 ⟨0, hn⟩) (iblk3 V c 11 ⟨0, hn⟩) (iblk3 V c 12 ⟨0, hn⟩) (iblk3 V c 13 ⟨0, hn⟩) (iblk3 V c 14 ⟨0, hn⟩) (iblk3 V c 15 ⟨0, hn⟩), sout3_A_0 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) (ms3_6 ⟨0, hn⟩) (hs3_6 ⟨0, hn⟩) (ms3_7 ⟨0, hn⟩) (hs3_7 ⟨0, hn⟩) (ms3_8 ⟨0, hn⟩) (hs3_8 ⟨0, hn⟩) (ms3_9 ⟨0, hn⟩) (hs3_9 ⟨0, hn⟩) (ms3_10 ⟨0, hn⟩) (hs3_10 ⟨0, hn⟩) (ms3_11 ⟨0, hn⟩) (hs3_11 ⟨0, hn⟩) (ms3_12 ⟨0, hn⟩) (hs3_12 ⟨0, hn⟩) (ms3_13 ⟨0, hn⟩) (hs3_13 ⟨0, hn⟩) (ms3_14 ⟨0, hn⟩) (hs3_14 ⟨0, hn⟩) (ms3_15 ⟨0, hn⟩) (hs3_15 ⟨0, hn⟩) (ms3_16 ⟨0, hn⟩) (hs3_16 ⟨0, hn⟩) scM3_0 (Memref.isWhole_whole _) ((hcond3_0 ⟨0, hn⟩).mpr (Nat.zero_mod _)) (fun h => (fun h => by (try dsimp only at h); omega) ((hcond3_1 ⟨0, hn⟩).mp h)) (iblk3 V c 0 ⟨0, hn⟩) (iblk3 V c 1 ⟨0, hn⟩) (iblk3 V c 2 ⟨0, hn⟩) (iblk3 V c 3 ⟨0, hn⟩) (iblk3 V c 4 ⟨0, hn⟩) (iblk3 V c 5 ⟨0, hn⟩) (iblk3 V c 6 ⟨0, hn⟩) (iblk3 V c 7 ⟨0, hn⟩) (iblk3 V c 8 ⟨0, hn⟩) (iblk3 V c 9 ⟨0, hn⟩) (iblk3 V c 10 ⟨0, hn⟩) (iblk3 V c 11 ⟨0, hn⟩) (iblk3 V c 12 ⟨0, hn⟩) (iblk3 V c 13 ⟨0, hn⟩) (iblk3 V c 14 ⟨0, hn⟩) (iblk3 V c 15 ⟨0, hn⟩))
  | n + 1, hn =>
    if h0 : (n + 1) % 8 = 0 then
      if h1 : (n + 1) % 8 = 7 then
        False.elim (by have hN : n + 1 < 8 := lt_of_lt_of_eq hn (show cfg3.N = 8 from N_3); omega)
      else
        (out3_A_16 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) (ms3_13 ⟨n + 1, hn⟩) (hs3_13 ⟨n + 1, hn⟩) (ms3_14 ⟨n + 1, hn⟩) (hs3_14 ⟨n + 1, hn⟩) (ms3_15 ⟨n + 1, hn⟩) (hs3_15 ⟨n + 1, hn⟩) (ms3_16 ⟨n + 1, hn⟩) (hs3_16 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (iblk3 V c 10 ⟨n + 1, hn⟩) (iblk3 V c 11 ⟨n + 1, hn⟩) (iblk3 V c 12 ⟨n + 1, hn⟩) (iblk3 V c 13 ⟨n + 1, hn⟩) (iblk3 V c 14 ⟨n + 1, hn⟩) (iblk3 V c 15 ⟨n + 1, hn⟩), sout3_A_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) (ms3_13 ⟨n + 1, hn⟩) (hs3_13 ⟨n + 1, hn⟩) (ms3_14 ⟨n + 1, hn⟩) (hs3_14 ⟨n + 1, hn⟩) (ms3_15 ⟨n + 1, hn⟩) (hs3_15 ⟨n + 1, hn⟩) (ms3_16 ⟨n + 1, hn⟩) (hs3_16 ⟨n + 1, hn⟩) scM3_0 (Memref.isWhole_whole _) ((hcond3_0 ⟨n + 1, hn⟩).mpr h0) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (iblk3 V c 10 ⟨n + 1, hn⟩) (iblk3 V c 11 ⟨n + 1, hn⟩) (iblk3 V c 12 ⟨n + 1, hn⟩) (iblk3 V c 13 ⟨n + 1, hn⟩) (iblk3 V c 14 ⟨n + 1, hn⟩) (iblk3 V c 15 ⟨n + 1, hn⟩))
    else
      if h1 : (n + 1) % 8 = 7 then
        (out3_C_16 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) (ms3_13 ⟨n + 1, hn⟩) (hs3_13 ⟨n + 1, hn⟩) (ms3_14 ⟨n + 1, hn⟩) (hs3_14 ⟨n + 1, hn⟩) (ms3_15 ⟨n + 1, hn⟩) (hs3_15 ⟨n + 1, hn⟩) (ms3_16 ⟨n + 1, hn⟩) (hs3_16 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (iblk3 V c 10 ⟨n + 1, hn⟩) (iblk3 V c 11 ⟨n + 1, hn⟩) (iblk3 V c 12 ⟨n + 1, hn⟩) (iblk3 V c 13 ⟨n + 1, hn⟩) (iblk3 V c 14 ⟨n + 1, hn⟩) (iblk3 V c 15 ⟨n + 1, hn⟩) (outsAt3 c n (Nat.lt_of_succ_lt hn)).2, sout3_C_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) (ms3_13 ⟨n + 1, hn⟩) (hs3_13 ⟨n + 1, hn⟩) (ms3_14 ⟨n + 1, hn⟩) (hs3_14 ⟨n + 1, hn⟩) (ms3_15 ⟨n + 1, hn⟩) (hs3_15 ⟨n + 1, hn⟩) (ms3_16 ⟨n + 1, hn⟩) (hs3_16 ⟨n + 1, hn⟩) scM3_0 (Memref.isWhole_whole _) (fun h => h0 ((hcond3_0 ⟨n + 1, hn⟩).mp h)) ((hcond3_1 ⟨n + 1, hn⟩).mpr h1) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (iblk3 V c 10 ⟨n + 1, hn⟩) (iblk3 V c 11 ⟨n + 1, hn⟩) (iblk3 V c 12 ⟨n + 1, hn⟩) (iblk3 V c 13 ⟨n + 1, hn⟩) (iblk3 V c 14 ⟨n + 1, hn⟩) (iblk3 V c 15 ⟨n + 1, hn⟩) (outsAt3 c n (Nat.lt_of_succ_lt hn)).2)
      else
        (out3_B_16 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) (ms3_13 ⟨n + 1, hn⟩) (hs3_13 ⟨n + 1, hn⟩) (ms3_14 ⟨n + 1, hn⟩) (hs3_14 ⟨n + 1, hn⟩) (ms3_15 ⟨n + 1, hn⟩) (hs3_15 ⟨n + 1, hn⟩) (ms3_16 ⟨n + 1, hn⟩) (hs3_16 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (iblk3 V c 10 ⟨n + 1, hn⟩) (iblk3 V c 11 ⟨n + 1, hn⟩) (iblk3 V c 12 ⟨n + 1, hn⟩) (iblk3 V c 13 ⟨n + 1, hn⟩) (iblk3 V c 14 ⟨n + 1, hn⟩) (iblk3 V c 15 ⟨n + 1, hn⟩) (outsAt3 c n (Nat.lt_of_succ_lt hn)).2, sout3_B_0 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (ms3_6 ⟨n + 1, hn⟩) (hs3_6 ⟨n + 1, hn⟩) (ms3_7 ⟨n + 1, hn⟩) (hs3_7 ⟨n + 1, hn⟩) (ms3_8 ⟨n + 1, hn⟩) (hs3_8 ⟨n + 1, hn⟩) (ms3_9 ⟨n + 1, hn⟩) (hs3_9 ⟨n + 1, hn⟩) (ms3_10 ⟨n + 1, hn⟩) (hs3_10 ⟨n + 1, hn⟩) (ms3_11 ⟨n + 1, hn⟩) (hs3_11 ⟨n + 1, hn⟩) (ms3_12 ⟨n + 1, hn⟩) (hs3_12 ⟨n + 1, hn⟩) (ms3_13 ⟨n + 1, hn⟩) (hs3_13 ⟨n + 1, hn⟩) (ms3_14 ⟨n + 1, hn⟩) (hs3_14 ⟨n + 1, hn⟩) (ms3_15 ⟨n + 1, hn⟩) (hs3_15 ⟨n + 1, hn⟩) (ms3_16 ⟨n + 1, hn⟩) (hs3_16 ⟨n + 1, hn⟩) scM3_0 (Memref.isWhole_whole _) (fun h => h0 ((hcond3_0 ⟨n + 1, hn⟩).mp h)) (fun h => h1 ((hcond3_1 ⟨n + 1, hn⟩).mp h)) (iblk3 V c 0 ⟨n + 1, hn⟩) (iblk3 V c 1 ⟨n + 1, hn⟩) (iblk3 V c 2 ⟨n + 1, hn⟩) (iblk3 V c 3 ⟨n + 1, hn⟩) (iblk3 V c 4 ⟨n + 1, hn⟩) (iblk3 V c 5 ⟨n + 1, hn⟩) (iblk3 V c 6 ⟨n + 1, hn⟩) (iblk3 V c 7 ⟨n + 1, hn⟩) (iblk3 V c 8 ⟨n + 1, hn⟩) (iblk3 V c 9 ⟨n + 1, hn⟩) (iblk3 V c 10 ⟨n + 1, hn⟩) (iblk3 V c 11 ⟨n + 1, hn⟩) (iblk3 V c 12 ⟨n + 1, hn⟩) (iblk3 V c 13 ⟨n + 1, hn⟩) (iblk3 V c 14 ⟨n + 1, hn⟩) (iblk3 V c 15 ⟨n + 1, hn⟩) (outsAt3 c n (Nat.lt_of_succ_lt hn)).2)

/-- `outsAt3` at a point of case A: that case's contents. -/
theorem outsAt3_A (c : Dev nD) (t : Fin cfg3.N) (h0 : t.val % 8 = 0) (h1 : ¬t.val % 8 = 7) :
    outsAt3 V c t.val t.isLt = (out3_A_16 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (ms3_13 t) (hs3_13 t) (ms3_14 t) (hs3_14 t) (ms3_15 t) (hs3_15 t) (ms3_16 t) (hs3_16 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t), sout3_A_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (ms3_13 t) (hs3_13 t) (ms3_14 t) (hs3_14 t) (ms3_15 t) (hs3_15 t) (ms3_16 t) (hs3_16 t) scM3_0 (Memref.isWhole_whole _) ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t)) := by
  obtain ⟨n, hn⟩ := t
  cases n with
  | zero => exact rfl
  | succ n => exact (dif_pos h0).trans ((dif_neg h1).trans rfl)

/-- `outsAt3` at a point of case B: that case's contents, over what the point before left. -/
theorem outsAt3_B (c : Dev nD) (t : Fin cfg3.N) (h0 : ¬t.val % 8 = 0) (h1 : ¬t.val % 8 = 7) :
    outsAt3 V c t.val t.isLt = (out3_B_16 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (ms3_13 t) (hs3_13 t) (ms3_14 t) (hs3_14 t) (ms3_15 t) (hs3_15 t) (ms3_16 t) (hs3_16 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (outsAt3 V c (t.val - 1) (Nat.lt_of_le_of_lt (Nat.sub_le _ _) t.isLt)).2, sout3_B_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (ms3_13 t) (hs3_13 t) (ms3_14 t) (hs3_14 t) (ms3_15 t) (hs3_15 t) (ms3_16 t) (hs3_16 t) scM3_0 (Memref.isWhole_whole _) (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt3` at a point of case C: that case's contents, over what the point before left. -/
theorem outsAt3_C (c : Dev nD) (t : Fin cfg3.N) (h0 : ¬t.val % 8 = 0) (h1 : t.val % 8 = 7) :
    outsAt3 V c t.val t.isLt = (out3_C_16 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (ms3_13 t) (hs3_13 t) (ms3_14 t) (hs3_14 t) (ms3_15 t) (hs3_15 t) (ms3_16 t) (hs3_16 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (outsAt3 V c (t.val - 1) (Nat.lt_of_le_of_lt (Nat.sub_le _ _) t.isLt)).2, sout3_C_0 c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (ms3_8 t) (hs3_8 t) (ms3_9 t) (hs3_9 t) (ms3_10 t) (hs3_10 t) (ms3_11 t) (hs3_11 t) (ms3_12 t) (hs3_12 t) (ms3_13 t) (hs3_13 t) (ms3_14 t) (hs3_14 t) (ms3_15 t) (hs3_15 t) (ms3_16 t) (hs3_16 t) scM3_0 (Memref.isWhole_whole _) (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) (outsAt3 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt3`'s scratch components), the others at anything, and the generator register
    at some state. -/
def PhiS (c : Dev nD) : (n : ℕ) → n ≤ cfg3.N → sProp 𝕄
  | 0, _ => Pipeline.ΦA spec3 c
  | n + 1, hn => iprop(iprop(owns (c : Thread nD τ) scM3_0 fullShare ((outsAt3 V c n hn).2)) ∗ side c)

theorem PhiS_zero (c : Dev nD) (n : ℕ) (h : n ≤ cfg3.N) (hz : n = 0) : PhiS V c n h = Pipeline.ΦA spec3 c := by
  subst hz; rfl

/-- After point `n` (before point `n + 1`): the carried scratch at that point's contents. -/
theorem PhiS_succ (c : Dev nD) (n : ℕ) (hn : n < cfg3.N) :
    PhiS V c (n + 1) hn = iprop(iprop(owns (c : Thread nD τ) scM3_0 fullShare ((outsAt3 V c n hn).2)) ∗ side c) := rfl

/-- Before a point that is not the first: the carried scratch at what the point before left. -/
theorem PhiS_pos (c : Dev nD) (n : ℕ) (h : n ≤ cfg3.N) (hz : n ≠ 0) :
    PhiS V c n h = iprop(iprop(owns (c : Thread nD τ) scM3_0 fullShare ((outsAt3 V c (n - 1) (by omega)).2)) ∗ side c) := by
  cases n with
  | zero => exact absurd rfl hz
  | succ n => rfl

/-! ## The pipeline's proof data -/

/-- The proof data of the one pipeline on core `c`: the arrays as the region finds them (`V`); after the body at
    point `t` each input's buffer at its block and the outputs' at `outsAt3`; the invariant the class's
    (`PhiS`: the class's `ΦA` before the first point, then the scoped rest with the carried scratch at `outsAt3`'s component);
    nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => iblk3 V c 5 t
    | ⟨6, _⟩ => iblk3 V c 6 t
    | ⟨7, _⟩ => iblk3 V c 7 t
    | ⟨8, _⟩ => iblk3 V c 8 t
    | ⟨9, _⟩ => iblk3 V c 9 t
    | ⟨10, _⟩ => iblk3 V c 10 t
    | ⟨11, _⟩ => iblk3 V c 11 t
    | ⟨12, _⟩ => iblk3 V c 12 t
    | ⟨13, _⟩ => iblk3 V c 13 t
    | ⟨14, _⟩ => iblk3 V c 14 t
    | ⟨15, _⟩ => iblk3 V c 15 t
    | ⟨16, _⟩ => (outsAt3 V c t.val t.isLt).1
    | ⟨_ + 17, h⟩ => absurd h (Nat.not_lt.2 (Nat.le_add_left _ _))
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq3 (c : Dev nD) (w : Fin cfg3.W) : (dat3 V c).A w = V c (Pipeline.arrRef spec3 w) := by
  dsimp only [dat3]

/-- The invariant at a point's start (the proof data at `t.castSucc`), restated at `t.val`. -/
theorem PhiS_castSucc (c : Dev nD) (t : Fin cfg3.N) :
    (dat3 V c).Φ t.castSucc = PhiS V c t.val (Nat.le_of_lt t.isLt) := by
  dsimp only [dat3]; exact Pipeline.Dat.Φ_castSucc (PhiS V c) t

/-- What the body leaves, window by window (the proof data's `match` reduced by `dsimp`). -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = iblk3 V c 5 t := by dsimp only [dat3]
theorem after3_6 (c : Dev nD) (t : Fin cfg3.N) : (dat3 V c).after 6 t = iblk3 V c 6 t := by dsimp only [dat3]
theorem after3_7 (c : Dev nD) (t : Fin cfg3.N) : (dat3 V c).after 7 t = iblk3 V c 7 t := by dsimp only [dat3]
theorem after3_8 (c : Dev nD) (t : Fin cfg3.N) : (dat3 V c).after 8 t = iblk3 V c 8 t := by dsimp only [dat3]
theorem after3_9 (c : Dev nD) (t : Fin cfg3.N) : (dat3 V c).after 9 t = iblk3 V c 9 t := by dsimp only [dat3]
theorem after3_10 (c : Dev nD) (t : Fin cfg3.N) : (dat3 V c).after 10 t = iblk3 V c 10 t := by dsimp only [dat3]
theorem after3_11 (c : Dev nD) (t : Fin cfg3.N) : (dat3 V c).after 11 t = iblk3 V c 11 t := by dsimp only [dat3]
theorem after3_12 (c : Dev nD) (t : Fin cfg3.N) : (dat3 V c).after 12 t = iblk3 V c 12 t := by dsimp only [dat3]
theorem after3_13 (c : Dev nD) (t : Fin cfg3.N) : (dat3 V c).after 13 t = iblk3 V c 13 t := by dsimp only [dat3]
theorem after3_14 (c : Dev nD) (t : Fin cfg3.N) : (dat3 V c).after 14 t = iblk3 V c 14 t := by dsimp only [dat3]
theorem after3_15 (c : Dev nD) (t : Fin cfg3.N) : (dat3 V c).after 15 t = iblk3 V c 15 t := by dsimp only [dat3]
theorem after3_16 (c : Dev nD) (t : Fin cfg3.N) : (dat3 V c).after 16 t = (outsAt3 V c t.val t.isLt).1 := by dsimp only [dat3]

/-- Each input's current staging buffer holds its block at every point, fetched there or not (`beforeK_W_of`). -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d
theorem before3_5 (c : Dev nD) (t : Fin cfg3.N) (d) : (dat3 V c).before 5 t d = iblk3 V c 5 t :=
  before3_5_of V (dat3 V c) (A_eq3 V c 5) (after3_5 V c) t d
theorem before3_6 (c : Dev nD) (t : Fin cfg3.N) (d) : (dat3 V c).before 6 t d = iblk3 V c 6 t :=
  before3_6_of V (dat3 V c) (A_eq3 V c 6) (after3_6 V c) t d
theorem before3_7 (c : Dev nD) (t : Fin cfg3.N) (d) : (dat3 V c).before 7 t d = iblk3 V c 7 t :=
  before3_7_of V (dat3 V c) (A_eq3 V c 7) (after3_7 V c) t d
theorem before3_8 (c : Dev nD) (t : Fin cfg3.N) (d) : (dat3 V c).before 8 t d = iblk3 V c 8 t :=
  before3_8_of V (dat3 V c) (A_eq3 V c 8) (after3_8 V c) t d
theorem before3_9 (c : Dev nD) (t : Fin cfg3.N) (d) : (dat3 V c).before 9 t d = iblk3 V c 9 t :=
  before3_9_of V (dat3 V c) (A_eq3 V c 9) (after3_9 V c) t d
theorem before3_10 (c : Dev nD) (t : Fin cfg3.N) (d) : (dat3 V c).before 10 t d = iblk3 V c 10 t :=
  before3_10_of V (dat3 V c) (A_eq3 V c 10) (after3_10 V c) t d
theorem before3_11 (c : Dev nD) (t : Fin cfg3.N) (d) : (dat3 V c).before 11 t d = iblk3 V c 11 t :=
  before3_11_of V (dat3 V c) (A_eq3 V c 11) (after3_11 V c) t d
theorem before3_12 (c : Dev nD) (t : Fin cfg3.N) (d) : (dat3 V c).before 12 t d = iblk3 V c 12 t :=
  before3_12_of V (dat3 V c) (A_eq3 V c 12) (after3_12 V c) t d
theorem before3_13 (c : Dev nD) (t : Fin cfg3.N) (d) : (dat3 V c).before 13 t d = iblk3 V c 13 t :=
  before3_13_of V (dat3 V c) (A_eq3 V c 13) (after3_13 V c) t d
theorem before3_14 (c : Dev nD) (t : Fin cfg3.N) (d) : (dat3 V c).before 14 t d = iblk3 V c 14 t :=
  before3_14_of V (dat3 V c) (A_eq3 V c 14) (after3_14 V c) t d
theorem before3_15 (c : Dev nD) (t : Fin cfg3.N) (d) : (dat3 V c).before 15 t d = iblk3 V c 15 t :=
  before3_15_of V (dat3 V c) (A_eq3 V c 15) (after3_15 V c) t d

/-! ## The body obligation, at a generic point -/

/-- What the body is called with at point `t` (Lib/Pipeline.lean `BodyObligation`'s precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d))
    ∗ (∃ d, owns (c : Thread nD τ) (ms3_6 t) fullShare ((dat3 V c).before 6 t d))
    ∗ (∃ d, owns (c : Thread nD τ) (ms3_7 t) fullShare ((dat3 V c).before 7 t d))
    ∗ (∃ d, owns (c : Thread nD τ) (ms3_8 t) fullShare ((dat3 V c).before 8 t d))
    ∗ (∃ d, owns (c : Thread nD τ) (ms3_9 t) fullShare ((dat3 V c).before 9 t d))
    ∗ (∃ d, owns (c : Thread nD τ) (ms3_10 t) fullShare ((dat3 V c).before 10 t d))
    ∗ (∃ d, owns (c : Thread nD τ) (ms3_11 t) fullShare ((dat3 V c).before 11 t d))
    ∗ (∃ d, owns (c : Thread nD τ) (ms3_12 t) fullShare ((dat3 V c).before 12 t d))
    ∗ (∃ d, owns (c : Thread nD τ) (ms3_13 t) fullShare ((dat3 V c).before 13 t d))
    ∗ (∃ d, owns (c : Thread nD τ) (ms3_14 t) fullShare ((dat3 V c).before 14 t d))
    ∗ (∃ d, owns (c : Thread nD τ) (ms3_15 t) fullShare ((dat3 V c).before 15 t d))
    ∗ (∃ d, owns (c : Thread nD τ) (ms3_16 t) fullShare ((dat3 V c).before 16 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t
    ∗ (dat3 V c).leavesExact 4 t
    ∗ (dat3 V c).leavesExact 5 t
    ∗ (dat3 V c).leavesExact 6 t
    ∗ (dat3 V c).leavesExact 7 t
    ∗ (dat3 V c).leavesExact 8 t
    ∗ (dat3 V c).leavesExact 9 t
    ∗ (dat3 V c).leavesExact 10 t
    ∗ (dat3 V c).leavesExact 11 t
    ∗ (dat3 V c).leavesExact 12 t
    ∗ (dat3 V c).leavesExact 13 t
    ∗ (dat3 V c).leavesExact 14 t
    ∗ (dat3 V c).leavesExact 15 t
    ∗ (dat3 V c).leavesExact 16 t)

set_option maxHeartbeats 19200000 in
/-- The body at any point: the inputs' memrefs hold their blocks (`before3_W`); the closed forms say which case the point is in (`by_cases`), an output the case reads before covering holds what the point before left (`before3_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4, before3_5, before3_6, before3_7, before3_8, before3_9, before3_10, before3_11, before3_12, before3_13, before3_14, before3_15]
  rw [show (dat3 V c).owesAt () t.succ = (dat3 V c).owesAt () t.castSucc from rfl]
  rw [show (dat3 V c).Φ t.succ = PhiS V c (t.val + 1) t.isLt from rfl, PhiS_succ]
  have hN : t.val < 8 := lt_of_lt_of_eq t.isLt (show cfg3.N = 8 from N_3)
  by_cases h0 : t.val % 8 = 0
  · by_cases h1 : t.val % 8 = 7
    · exfalso; omega
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5 t], after3_5]
      rw [show (dat3 V c).leavesExact 6 t = owns (c : Thread nD τ) (ms3_6 t) fullShare ((dat3 V c).after 6 t) from by
      unfold Dat.leavesExact; rw [liveAt3_6 t], after3_6]
      rw [show (dat3 V c).leavesExact 7 t = owns (c : Thread nD τ) (ms3_7 t) fullShare ((dat3 V c).after 7 t) from by
      unfold Dat.leavesExact; rw [liveAt3_7 t], after3_7]
      rw [show (dat3 V c).leavesExact 8 t = owns (c : Thread nD τ) (ms3_8 t) fullShare ((dat3 V c).after 8 t) from by
      unfold Dat.leavesExact; rw [liveAt3_8 t], after3_8]
      rw [show (dat3 V c).leavesExact 9 t = owns (c : Thread nD τ) (ms3_9 t) fullShare ((dat3 V c).after 9 t) from by
      unfold Dat.leavesExact; rw [liveAt3_9 t], after3_9]
      rw [show (dat3 V c).leavesExact 10 t = owns (c : Thread nD τ) (ms3_10 t) fullShare ((dat3 V c).after 10 t) from by
      unfold Dat.leavesExact; rw [liveAt3_10 t], after3_10]
      rw [show (dat3 V c).leavesExact 11 t = owns (c : Thread nD τ) (ms3_11 t) fullShare ((dat3 V c).after 11 t) from by
      unfold Dat.leavesExact; rw [liveAt3_11 t], after3_11]
      rw [show (dat3 V c).leavesExact 12 t = owns (c : Thread nD τ) (ms3_12 t) fullShare ((dat3 V c).after 12 t) from by
      unfold Dat.leavesExact; rw [liveAt3_12 t], after3_12]
      rw [show (dat3 V c).leavesExact 13 t = owns (c : Thread nD τ) (ms3_13 t) fullShare ((dat3 V c).after 13 t) from by
      unfold Dat.leavesExact; rw [liveAt3_13 t], after3_13]
      rw [show (dat3 V c).leavesExact 14 t = owns (c : Thread nD τ) (ms3_14 t) fullShare ((dat3 V c).after 14 t) from by
      unfold Dat.leavesExact; rw [liveAt3_14 t], after3_14]
      rw [show (dat3 V c).leavesExact 15 t = owns (c : Thread nD τ) (ms3_15 t) fullShare ((dat3 V c).after 15 t) from by
      unfold Dat.leavesExact; rw [liveAt3_15 t], after3_15]
      rw [Dat.leavesExact_idle (dat3 V c) 16 t (idleAt3_16_A t ((hcond3_0 t).mpr h0) (fun h => h1 ((hcond3_1 t).mp h))) (noFlush3_16_A t ((hcond3_0 t).mpr h0) (fun h => h1 ((hcond3_1 t).mp h)))]
      by_cases hz : t.val = 0
      · rw [PhiS_castSucc V c t, PhiS_zero V c _ _ hz, PhiA3_eq]
        rw [outsAt3_A V c t h0 h1]
        unfold sout3_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun3_A c (grid3.coords t) _ _ _ _ _ _ _ _ _ _ _ _ _ _ _ _ _ _ _ _ _ _ _ _ _ _ _ _ _ _ _ _ _ _ _ _ ((hcond3_0 t).mpr h0) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [HS0]; · iexact HS0
        iintro ⟨H0, H1, H2, H3, H4, H5, H6, H7, H8, H9, H10, H11, H12, H13, H14, H15, H16, ⟨%es0, HS0⟩⟩
        isplitl [HS0 Hg]
        · isplitl [HS0]
          · unfold owns; iexists _; isplitr
            swap; · iexact HS0
            ipureintro; exact View.read_writes_of_cover _ _ _ _ _ (scover3_A_0 c _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        iexists _; iexact H16
      · exfalso; have hN : t.val < 8 := lt_of_lt_of_eq t.isLt (show cfg3.N = 8 from N_3); omega
  · by_cases h1 : t.val % 8 = 7
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5 t], after3_5]
      rw [show (dat3 V c).leavesExact 6 t = owns (c : Thread nD τ) (ms3_6 t) fullShare ((dat3 V c).after 6 t) from by
      unfold Dat.leavesExact; rw [liveAt3_6 t], after3_6]
      rw [show (dat3 V c).leavesExact 7 t = owns (c : Thread nD τ) (ms3_7 t) fullShare ((dat3 V c).after 7 t) from by
      unfold Dat.leavesExact; rw [liveAt3_7 t], after3_7]
      rw [show (dat3 V c).leavesExact 8 t = owns (c : Thread nD τ) (ms3_8 t) fullShare ((dat3 V c).after 8 t) from by
      unfold Dat.leavesExact; rw [liveAt3_8 t], after3_8]
      rw [show (dat3 V c).leavesExact 9 t = owns (c : Thread nD τ) (ms3_9 t) fullShare ((dat3 V c).after 9 t) from by
      unfold Dat.leavesExact; rw [liveAt3_9 t], after3_9]
      rw [show (dat3 V c).leavesExact 10 t = owns (c : Thread nD τ) (ms3_10 t) fullShare ((dat3 V c).after 10 t) from by
      unfold Dat.leavesExact; rw [liveAt3_10 t], after3_10]
      rw [show (dat3 V c).leavesExact 11 t = owns (c : Thread nD τ) (ms3_11 t) fullShare ((dat3 V c).after 11 t) from by
      unfold Dat.leavesExact; rw [liveAt3_11 t], after3_11]
      rw [show (dat3 V c).leavesExact 12 t = owns (c : Thread nD τ) (ms3_12 t) fullShare ((dat3 V c).after 12 t) from by
      unfold Dat.leavesExact; rw [liveAt3_12 t], after3_12]
      rw [show (dat3 V c).leavesExact 13 t = owns (c : Thread nD τ) (ms3_13 t) fullShare ((dat3 V c).after 13 t) from by
      unfold Dat.leavesExact; rw [liveAt3_13 t], after3_13]
      rw [show (dat3 V c).leavesExact 14 t = owns (c : Thread nD τ) (ms3_14 t) fullShare ((dat3 V c).after 14 t) from by
      unfold Dat.leavesExact; rw [liveAt3_14 t], after3_14]
      rw [show (dat3 V c).leavesExact 15 t = owns (c : Thread nD τ) (ms3_15 t) fullShare ((dat3 V c).after 15 t) from by
      unfold Dat.leavesExact; rw [liveAt3_15 t], after3_15]
      rw [show (dat3 V c).leavesExact 16 t = owns (c : Thread nD τ) (ms3_16 t) fullShare ((dat3 V c).after 16 t) from by
      unfold Dat.leavesExact; rw [liveAt3_16_C t (fun h => h0 ((hcond3_0 t).mp h)) ((hcond3_1 t).mpr h1)], after3_16]
      by_cases hz : t.val = 0
      · exfalso; have hN : t.val < 8 := lt_of_lt_of_eq t.isLt (show cfg3.N = 8 from N_3); omega
      · rw [PhiS_castSucc V c t, PhiS_pos V c _ _ hz]
        rw [outsAt3_C V c t h0 h1]
        unfold out3_C_16 sout3_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun3_C c (grid3.coords t) _ _ _ _ _ _ _ _ _ _ _ _ _ _ _ _ _ _ _ _ _ _ _ _ _ _ _ _ _ _ _ _ _ _ _ _ (fun h => h0 ((hcond3_0 t).mp h)) ((hcond3_1 t).mpr h1) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) _).2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        isplitl [HS0]; · iexact HS0
        iintro ⟨H0, H1, H2, H3, H4, H5, H6, H7, H8, H9, H10, H11, H12, H13, H14, H15, ⟨%e16, H16⟩, ⟨%es0, HS0⟩⟩
        isplitl [HS0 Hg]
        · isplitl [HS0]
          · unfold owns; iexists _; isplitr
            swap; · iexact HS0
            ipureintro; exact View.read_writes_of_cover _ _ _ _ _ (scover3_C_0 c _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        unfold owns; iexists _; isplitr
        swap; · iexact H16
        ipureintro; exact View.read_writes_of_cover _ _ _ _ _ (cover3_C_16 c _ _ _ _ _ _ _ _ _ _ _ _ _ _ _ _ _ _ _ _ _ _ _ _ _ _ _ _ _ _ _ _ _ _ _ _ _ _ _ _ _ _ _ _ _ _ _ _ _ _ _ _ _ _ _ _)
    · rw [show (dat3 V c).leavesExact 0 t = owns (c : Thread nD τ) (ms3_0 t) fullShare ((dat3 V c).after 0 t) from by
      unfold Dat.leavesExact; rw [liveAt3_0 t], after3_0]
      rw [show (dat3 V c).leavesExact 1 t = owns (c : Thread nD τ) (ms3_1 t) fullShare ((dat3 V c).after 1 t) from by
      unfold Dat.leavesExact; rw [liveAt3_1 t], after3_1]
      rw [show (dat3 V c).leavesExact 2 t = owns (c : Thread nD τ) (ms3_2 t) fullShare ((dat3 V c).after 2 t) from by
      unfold Dat.leavesExact; rw [liveAt3_2 t], after3_2]
      rw [show (dat3 V c).leavesExact 3 t = owns (c : Thread nD τ) (ms3_3 t) fullShare ((dat3 V c).after 3 t) from by
      unfold Dat.leavesExact; rw [liveAt3_3 t], after3_3]
      rw [show (dat3 V c).leavesExact 4 t = owns (c : Thread nD τ) (ms3_4 t) fullShare ((dat3 V c).after 4 t) from by
      unfold Dat.leavesExact; rw [liveAt3_4 t], after3_4]
      rw [show (dat3 V c).leavesExact 5 t = owns (c : Thread nD τ) (ms3_5 t) fullShare ((dat3 V c).after 5 t) from by
      unfold Dat.leavesExact; rw [liveAt3_5 t], after3_5]
      rw [show (dat3 V c).leavesExact 6 t = owns (c : Thread nD τ) (ms3_6 t) fullShare ((dat3 V c).after 6 t) from by
      unfold Dat.leavesExact; rw [liveAt3_6 t], after3_6]
      rw [show (dat3 V c).leavesExact 7 t = owns (c : Thread nD τ) (ms3_7 t) fullShare ((dat3 V c).after 7 t) from by
      unfold Dat.leavesExact; rw [liveAt3_7 t], after3_7]
      rw [show (dat3 V c).leavesExact 8 t = owns (c : Thread nD τ) (ms3_8 t) fullShare ((dat3 V c).after 8 t) from by
      unfold Dat.leavesExact; rw [liveAt3_8 t], after3_8]
      rw [show (dat3 V c).leavesExact 9 t = owns (c : Thread nD τ) (ms3_9 t) fullShare ((dat3 V c).after 9 t) from by
      unfold Dat.leavesExact; rw [liveAt3_9 t], after3_9]
      rw [show (dat3 V c).leavesExact 10 t = owns (c : Thread nD τ) (ms3_10 t) fullShare ((dat3 V c).after 10 t) from by
      unfold Dat.leavesExact; rw [liveAt3_10 t], after3_10]
      rw [show (dat3 V c).leavesExact 11 t = owns (c : Thread nD τ) (ms3_11 t) fullShare ((dat3 V c).after 11 t) from by
      unfold Dat.leavesExact; rw [liveAt3_11 t], after3_11]
      rw [show (dat3 V c).leavesExact 12 t = owns (c : Thread nD τ) (ms3_12 t) fullShare ((dat3 V c).after 12 t) from by
      unfold Dat.leavesExact; rw [liveAt3_12 t], after3_12]
      rw [show (dat3 V c).leavesExact 13 t = owns (c : Thread nD τ) (ms3_13 t) fullShare ((dat3 V c).after 13 t) from by
      unfold Dat.leavesExact; rw [liveAt3_13 t], after3_13]
      rw [show (dat3 V c).leavesExact 14 t = owns (c : Thread nD τ) (ms3_14 t) fullShare ((dat3 V c).after 14 t) from by
      unfold Dat.leavesExact; rw [liveAt3_14 t], after3_14]
      rw [show (dat3 V c).leavesExact 15 t = owns (c : Thread nD τ) (ms3_15 t) fullShare ((dat3 V c).after 15 t) from by
      unfold Dat.leavesExact; rw [liveAt3_15 t], after3_15]
      rw [Dat.leavesExact_idle (dat3 V c) 16 t (idleAt3_16_B t (fun h => h0 ((hcond3_0 t).mp h)) (fun h => h1 ((hcond3_1 t).mp h))) (noFlush3_16_B t (fun h => h0 ((hcond3_0 t).mp h)) (fun h => h1 ((hcond3_1 t).mp h)))]
      by_cases hz : t.val = 0
      · exfalso; have hN : t.val < 8 := lt_of_lt_of_eq t.isLt (show cfg3.N = 8 from N_3); omega
      · rw [PhiS_castSucc V c t, PhiS_pos V c _ _ hz]
        rw [outsAt3_B V c t h0 h1]
        unfold sout3_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
        iapply ((kernelRun3_B c (grid3.coords t) _ _ _ _ _ _ _ _ _ _ _ _ _ _ _ _ _ _ _ _ _ _ _ _ _ _ _ _ _ _ _ _ _ _ _ _ (fun h => h0 ((hcond3_0 t).mp h)) (fun h => h1 ((hcond3_1 t).mp h)) (iblk3 V c 0 t) (iblk3 V c 1 t) (iblk3 V c 2 t) (iblk3 V c 3 t) (iblk3 V c 4 t) (iblk3 V c 5 t) (iblk3 V c 6 t) (iblk3 V c 7 t) (iblk3 V c 8 t) (iblk3 V c 9 t) (iblk3 V c 10 t) (iblk3 V c 11 t) (iblk3 V c 12 t) (iblk3 V c 13 t) (iblk3 V c 14 t) (iblk3 V c 15 t) _).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [HS0]; · iexact HS0
        iintro ⟨H0, H1, H2, H3, H4, H5, H6, H7, H8, H9, H10, H11, H12, H13, H14, H15, H16, ⟨%es0, HS0⟩⟩
        isplitl [HS0 Hg]
        · isplitl [HS0]
          · unfold owns; iexists _; isplitr
            swap; · iexact HS0
            ipureintro; exact View.read_writes_of_cover _ _ _ _ _ (scover3_B_0 c _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        iexists _; iexact H16

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point: the body's triple restated (Lib/Pipeline/FrameBody.lean `triple_restated`). -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

/-- What the launch hands the region (`ΦA`) is the invariant before the first point. -/
theorem hin3 (c : Dev nD) : Pipeline.ΦA spec3 c ⊢ (dat3 V c).Φ 0 := by
  rw [show (dat3 V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out3 (c : Dev nD) (t : Fin (cfg3.N + 1)) (ht : t.val ≠ 0) : (dat3 V c).Φ t ⊢ Pipeline.ΦA spec3 c := by
  rw [show (dat3 V c).Φ t = PhiS V c t.val (Nat.le_of_lt_succ t.isLt) from rfl, PhiS_pos V c _ _ ht, PhiA3_eq]
  iintro ⟨HS0, Hg⟩
  isplitl [HS0]
  · iexists _; iexact HS0
  iexact Hg

/-- The same after the last point. -/
theorem hout3 (c : Dev nD) : (dat3 V c).Φ (Fin.last cfg3.N) ⊢ Pipeline.ΦA spec3 c :=
  Phi_out3 V c _ (by rw [Fin.val_last]; have : cfg3.N = 8 := N_3; omega)

end Cert.KernelIdeal.Whole

end
-- ==== Proof.Fold.lean ====
/-
The run of the whole kernel: the contents of every buffer after each item of @main (the host stretches and the four
calls), the calls as segments over them, and the run of @main from the launch to the return.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Reg0
public import proofs.«01_k».proof.Proof.Reg1
public import proofs.«01_k».proof.Proof.Reg2
public import proofs.«01_k».proof.Proof.Reg3D
public import proofs.«01_k».proof.Proof.Gen.KernelIdeal.Regions
public import Idealize.ShloMosaic.Lib.Claim

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16]

theorem hostOps0_args : ∀ a ∈ argRefs, a ∉ hostOps0_W := ListAll.forall_mem_of_all_decide (by decide +kernel)
theorem hostOps1_args : ∀ a ∈ argRefs, a ∉ hostOps1_W := ListAll.forall_mem_of_all_decide (by decide +kernel)
theorem hostOps2_args : ∀ a ∈ argRefs, a ∉ hostOps2_W := ListAll.forall_mem_of_all_decide (by decide +kernel)
theorem hostOps2_1_args : ∀ a ∈ argRefs, a ∉ hostOps2_1_W := ListAll.forall_mem_of_all_decide (by decide +kernel)
theorem hostOps2_2_args : ∀ a ∈ argRefs, a ∉ hostOps2_2_W := ListAll.forall_mem_of_all_decide (by decide +kernel)
theorem hostOps2_3_args : ∀ a ∈ argRefs, a ∉ hostOps2_3_W := ListAll.forall_mem_of_all_decide (by decide +kernel)
theorem hostOps2_4_args : ∀ a ∈ argRefs, a ∉ hostOps2_4_W := ListAll.forall_mem_of_all_decide (by decide +kernel)
theorem hostOps3_args : ∀ a ∈ argRefs, a ∉ hostOps3_W := ListAll.forall_mem_of_all_decide (by decide +kernel)
theorem hostOps3_1_args : ∀ a ∈ argRefs, a ∉ hostOps3_1_W := ListAll.forall_mem_of_all_decide (by decide +kernel)
theorem hostOps3_2_args : ∀ a ∈ argRefs, a ∉ hostOps3_2_W := ListAll.forall_mem_of_all_decide (by decide +kernel)
theorem hostOps3_3_args : ∀ a ∈ argRefs, a ∉ hostOps3_3_W := ListAll.forall_mem_of_all_decide (by decide +kernel)
theorem hostOps3_4_args : ∀ a ∈ argRefs, a ∉ hostOps3_4_W := ListAll.forall_mem_of_all_decide (by decide +kernel)
theorem hostOps3_5_args : ∀ a ∈ argRefs, a ∉ hostOps3_5_W := ListAll.forall_mem_of_all_decide (by decide +kernel)
theorem hostOps3_6_args : ∀ a ∈ argRefs, a ∉ hostOps3_6_W := ListAll.forall_mem_of_all_decide (by decide +kernel)
theorem hostOps3_7_args : ∀ a ∈ argRefs, a ∉ hostOps3_7_W := ListAll.forall_mem_of_all_decide (by decide +kernel)
theorem hostOps3_8_args : ∀ a ∈ argRefs, a ∉ hostOps3_8_W := ListAll.forall_mem_of_all_decide (by decide +kernel)
theorem hostOps4_args : ∀ a ∈ argRefs, a ∉ hostOps4_W := ListAll.forall_mem_of_all_decide (by decide +kernel)

/-! ## The buffers' contents after each item -/

/-- Core `c`'s buffers at launch. -/
abbrev W0 : Dev nD → Valuation τ sig (Elt F) := fun c b => m (c, b)
theorem W0_args (c : Dev nD) : ∀ a ∈ argRefs, W0 m c (Proc.devRef .tc a) = m ((c : Thread nD τ).loc a) := fun _ _ => rfl

/-- After the host stretch `hostOps0`. -/
abbrev W1 : Dev nD → Valuation τ sig (Elt F) := fun c => StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h
theorem W1_args (c : Dev nD) : ∀ a ∈ argRefs, W1 m c (Proc.devRef .tc a) = m ((c : Thread nD τ).loc a) :=
  fun a ha => (W1_of m c a (hostOps0_args a ha)).trans (W0_args m c a ha)

/-- The contents region 0 is entered with. -/
abbrev V1 : (c : Dev nD) → (b : Ref sig .tc) → Buf (Elt F) ((c : Thread nD τ).loc b) := fun c b => W1 m c b
/-- After region 0: its arrays at what its pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (V1 m) c).arrAt_in w (h w rfl) _).trans (A_eq0 (V1 m) c w))
  · exact W2_of_ne m c r fun w e => hw ⟨w, e⟩
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m c (Proc.devRef .tc a) = m ((c : Thread nD τ).loc a) :=
  fun a ha => (W2_of m c a (argsIn0 a ha)).trans (W1_args m c a ha)
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the host stretch `hostOps1`. -/
abbrev W3 : Dev nD → Valuation τ sig (Elt F) := fun c => StableHlo.after hostOps1 (W2 m c)
theorem W3_of (c : Dev nD) (r : Ref sig .tc) (h : r ∉ hostOps1_W) : W3 m c (Proc.devRef .tc r) = W2 m c (Proc.devRef .tc r) :=
  StableHlo.after_of_writes_sub hostOps1 _ hostOps1_writes h
theorem W3_args (c : Dev nD) : ∀ a ∈ argRefs, W3 m c (Proc.devRef .tc a) = m ((c : Thread nD τ).loc a) :=
  fun a ha => (W3_of m c a (hostOps1_args a ha)).trans (W2_args m c a ha)

/-- The contents region 1 is entered with. -/
abbrev V3 : (c : Dev nD) → (b : Ref sig .tc) → Buf (Elt F) ((c : Thread nD τ).loc b) := fun c b => W3 m c b
/-- After region 1: its arrays at what its pipeline leaves, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem W4_of (c : Dev nD) (r : Ref sig .tc) (h : ∀ w : Fin cfg1.W, Pipeline.arrRef spec1 w = r → (cfg1.win w).isOut = false) :
    W4 m c (Proc.devRef .tc r) = W3 m c (Proc.devRef .tc r) := by
  by_cases hw : ∃ w : Fin cfg1.W, Pipeline.arrRef spec1 w = r
  · obtain ⟨w, rfl⟩ := hw
    exact (W4_arr m c w).trans (((dat1 (V3 m) c).arrAt_in w (h w rfl) _).trans (A_eq1 (V3 m) c w))
  · exact W4_of_ne m c r fun w e => hw ⟨w, e⟩
theorem argsIn1 : ∀ a ∈ argRefs, ∀ w : Fin cfg1.W, Pipeline.arrRef spec1 w = a → (cfg1.win w).isOut = false :=
  ListAll.forall_mem_of_all_decide (by decide +kernel)
theorem W4_args (c : Dev nD) : ∀ a ∈ argRefs, W4 m c (Proc.devRef .tc a) = m ((c : Thread nD τ).loc a) :=
  fun a ha => (W4_of m c a (argsIn1 a ha)).trans (W3_args m c a ha)
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the host stretch `hostOps2`. -/
abbrev W5 : Dev nD → Valuation τ sig (Elt F) := fun c => StableHlo.after hostOps2 (W4 m c)
theorem W5_of (c : Dev nD) (r : Ref sig .tc) (h : r ∉ hostOps2_W) : W5 m c (Proc.devRef .tc r) = W4 m c (Proc.devRef .tc r) :=
  StableHlo.after_of_writes_sub hostOps2 _ hostOps2_writes h
theorem W5_args (c : Dev nD) : ∀ a ∈ argRefs, W5 m c (Proc.devRef .tc a) = m ((c : Thread nD τ).loc a) :=
  fun a ha => (W5_of m c a (hostOps2_args a ha)).trans (W4_args m c a ha)

/-- After the host stretch `hostOps2_1`. -/
abbrev W6 : Dev nD → Valuation τ sig (Elt F) := fun c => StableHlo.after hostOps2_1 (W5 m c)
theorem W6_of (c : Dev nD) (r : Ref sig .tc) (h : r ∉ hostOps2_1_W) : W6 m c (Proc.devRef .tc r) = W5 m c (Proc.devRef .tc r) :=
  StableHlo.after_of_writes_sub hostOps2_1 _ hostOps2_1_writes h
theorem W6_args (c : Dev nD) : ∀ a ∈ argRefs, W6 m c (Proc.devRef .tc a) = m ((c : Thread nD τ).loc a) :=
  fun a ha => (W6_of m c a (hostOps2_1_args a ha)).trans (W5_args m c a ha)

/-- After the host stretch `hostOps2_2`. -/
abbrev W7 : Dev nD → Valuation τ sig (Elt F) := fun c => StableHlo.after hostOps2_2 (W6 m c)
theorem W7_of (c : Dev nD) (r : Ref sig .tc) (h : r ∉ hostOps2_2_W) : W7 m c (Proc.devRef .tc r) = W6 m c (Proc.devRef .tc r) :=
  StableHlo.after_of_writes_sub hostOps2_2 _ hostOps2_2_writes h
theorem W7_args (c : Dev nD) : ∀ a ∈ argRefs, W7 m c (Proc.devRef .tc a) = m ((c : Thread nD τ).loc a) :=
  fun a ha => (W7_of m c a (hostOps2_2_args a ha)).trans (W6_args m c a ha)

/-- After the host stretch `hostOps2_3`. -/
abbrev W8 : Dev nD → Valuation τ sig (Elt F) := fun c => StableHlo.after hostOps2_3 (W7 m c)
theorem W8_of (c : Dev nD) (r : Ref sig .tc) (h : r ∉ hostOps2_3_W) : W8 m c (Proc.devRef .tc r) = W7 m c (Proc.devRef .tc r) :=
  StableHlo.after_of_writes_sub hostOps2_3 _ hostOps2_3_writes h
theorem W8_args (c : Dev nD) : ∀ a ∈ argRefs, W8 m c (Proc.devRef .tc a) = m ((c : Thread nD τ).loc a) :=
  fun a ha => (W8_of m c a (hostOps2_3_args a ha)).trans (W7_args m c a ha)

/-- After the host stretch `hostOps2_4`. -/
abbrev W9 : Dev nD → Valuation τ sig (Elt F) := fun c => StableHlo.after hostOps2_4 (W8 m c)
theorem W9_of (c : Dev nD) (r : Ref sig .tc) (h : r ∉ hostOps2_4_W) : W9 m c (Proc.devRef .tc r) = W8 m c (Proc.devRef .tc r) :=
  StableHlo.after_of_writes_sub hostOps2_4 _ hostOps2_4_writes h
theorem W9_args (c : Dev nD) : ∀ a ∈ argRefs, W9 m c (Proc.devRef .tc a) = m ((c : Thread nD τ).loc a) :=
  fun a ha => (W9_of m c a (hostOps2_4_args a ha)).trans (W8_args m c a ha)

/-- The contents region 2 is entered with. -/
abbrev V9 : (c : Dev nD) → (b : Ref sig .tc) → Buf (Elt F) ((c : Thread nD τ).loc b) := fun c b => W9 m c b
/-- After region 2: its arrays at what its pipeline leaves, every other buffer as entered. -/
def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N := by
  unfold W10; exact Pipeline.withArrays_arr spec2 launch2.win.arr_inj c _ _ w
theorem W10_of_ne (c : Dev nD) (b : Ref sig .tc) (hb : ∀ w, Pipeline.arrRef spec2 w ≠ b) :
    W10 m c (Proc.devRef .tc b) = W9 m c (Proc.devRef .tc b) := by
  unfold W10; exact Pipeline.withArrays_of_ne spec2 c _ _ b hb
theorem W10_of (c : Dev nD) (r : Ref sig .tc) (h : ∀ w : Fin cfg2.W, Pipeline.arrRef spec2 w = r → (cfg2.win w).isOut = false) :
    W10 m c (Proc.devRef .tc r) = W9 m c (Proc.devRef .tc r) := by
  by_cases hw : ∃ w : Fin cfg2.W, Pipeline.arrRef spec2 w = r
  · obtain ⟨w, rfl⟩ := hw
    exact (W10_arr m c w).trans (((dat2 (V9 m) c).arrAt_in w (h w rfl) _).trans (A_eq2 (V9 m) c w))
  · exact W10_of_ne m c r fun w e => hw ⟨w, e⟩
theorem argsIn2 : ∀ a ∈ argRefs, ∀ w : Fin cfg2.W, Pipeline.arrRef spec2 w = a → (cfg2.win w).isOut = false :=
  ListAll.forall_mem_of_all_decide (by decide +kernel)
theorem W10_args (c : Dev nD) : ∀ a ∈ argRefs, W10 m c (Proc.devRef .tc a) = m ((c : Thread nD τ).loc a) :=
  fun a ha => (W10_of m c a (argsIn2 a ha)).trans (W9_args m c a ha)
abbrev V10 : (c : Dev nD) → (b : Ref sig .tc) → Buf (Elt F) ((c : Thread nD τ).loc b) := fun c b => W10 m c b
theorem hF2 (c : Dev nD) (w : Fin cfg2.W) : (dat2 (V9 m) c).arrAt w cfg2.N = V10 m c (Pipeline.arrRef spec2 w) :=
  (W10_arr m c w).symm
theorem hrest2 (c : Dev nD) : ∀ b, b ∉ Finset.univ.image (Pipeline.arrRef spec2) → V10 m c b = V9 m c b :=
  fun b hb => W10_of_ne m c b fun w e => hb (Finset.mem_image.mpr ⟨w, Finset.mem_univ _, e⟩)

/-- After the host stretch `hostOps3`. -/
abbrev W11 : Dev nD → Valuation τ sig (Elt F) := fun c => StableHlo.after hostOps3 (W10 m c)
theorem W11_of (c : Dev nD) (r : Ref sig .tc) (h : r ∉ hostOps3_W) : W11 m c (Proc.devRef .tc r) = W10 m c (Proc.devRef .tc r) :=
  StableHlo.after_of_writes_sub hostOps3 _ hostOps3_writes h
theorem W11_args (c : Dev nD) : ∀ a ∈ argRefs, W11 m c (Proc.devRef .tc a) = m ((c : Thread nD τ).loc a) :=
  fun a ha => (W11_of m c a (hostOps3_args a ha)).trans (W10_args m c a ha)

/-- After the host stretch `hostOps3_1`. -/
abbrev W12 : Dev nD → Valuation τ sig (Elt F) := fun c => StableHlo.after hostOps3_1 (W11 m c)
theorem W12_of (c : Dev nD) (r : Ref sig .tc) (h : r ∉ hostOps3_1_W) : W12 m c (Proc.devRef .tc r) = W11 m c (Proc.devRef .tc r) :=
  StableHlo.after_of_writes_sub hostOps3_1 _ hostOps3_1_writes h
theorem W12_args (c : Dev nD) : ∀ a ∈ argRefs, W12 m c (Proc.devRef .tc a) = m ((c : Thread nD τ).loc a) :=
  fun a ha => (W12_of m c a (hostOps3_1_args a ha)).trans (W11_args m c a ha)

/-- After the host stretch `hostOps3_2`. -/
abbrev W13 : Dev nD → Valuation τ sig (Elt F) := fun c => StableHlo.after hostOps3_2 (W12 m c)
theorem W13_of (c : Dev nD) (r : Ref sig .tc) (h : r ∉ hostOps3_2_W) : W13 m c (Proc.devRef .tc r) = W12 m c (Proc.devRef .tc r) :=
  StableHlo.after_of_writes_sub hostOps3_2 _ hostOps3_2_writes h
theorem W13_args (c : Dev nD) : ∀ a ∈ argRefs, W13 m c (Proc.devRef .tc a) = m ((c : Thread nD τ).loc a) :=
  fun a ha => (W13_of m c a (hostOps3_2_args a ha)).trans (W12_args m c a ha)

/-- After the host stretch `hostOps3_3`. -/
abbrev W14 : Dev nD → Valuation τ sig (Elt F) := fun c => StableHlo.after hostOps3_3 (W13 m c)
theorem W14_of (c : Dev nD) (r : Ref sig .tc) (h : r ∉ hostOps3_3_W) : W14 m c (Proc.devRef .tc r) = W13 m c (Proc.devRef .tc r) :=
  StableHlo.after_of_writes_sub hostOps3_3 _ hostOps3_3_writes h
theorem W14_args (c : Dev nD) : ∀ a ∈ argRefs, W14 m c (Proc.devRef .tc a) = m ((c : Thread nD τ).loc a) :=
  fun a ha => (W14_of m c a (hostOps3_3_args a ha)).trans (W13_args m c a ha)

/-- After the host stretch `hostOps3_4`. -/
abbrev W15 : Dev nD → Valuation τ sig (Elt F) := fun c => StableHlo.after hostOps3_4 (W14 m c)
theorem W15_of (c : Dev nD) (r : Ref sig .tc) (h : r ∉ hostOps3_4_W) : W15 m c (Proc.devRef .tc r) = W14 m c (Proc.devRef .tc r) :=
  StableHlo.after_of_writes_sub hostOps3_4 _ hostOps3_4_writes h
theorem W15_args (c : Dev nD) : ∀ a ∈ argRefs, W15 m c (Proc.devRef .tc a) = m ((c : Thread nD τ).loc a) :=
  fun a ha => (W15_of m c a (hostOps3_4_args a ha)).trans (W14_args m c a ha)

/-- After the host stretch `hostOps3_5`. -/
abbrev W16 : Dev nD → Valuation τ sig (Elt F) := fun c => StableHlo.after hostOps3_5 (W15 m c)
theorem W16_of (c : Dev nD) (r : Ref sig .tc) (h : r ∉ hostOps3_5_W) : W16 m c (Proc.devRef .tc r) = W15 m c (Proc.devRef .tc r) :=
  StableHlo.after_of_writes_sub hostOps3_5 _ hostOps3_5_writes h
theorem W16_args (c : Dev nD) : ∀ a ∈ argRefs, W16 m c (Proc.devRef .tc a) = m ((c : Thread nD τ).loc a) :=
  fun a ha => (W16_of m c a (hostOps3_5_args a ha)).trans (W15_args m c a ha)

/-- After the host stretch `hostOps3_6`. -/
abbrev W17 : Dev nD → Valuation τ sig (Elt F) := fun c => StableHlo.after hostOps3_6 (W16 m c)
theorem W17_of (c : Dev nD) (r : Ref sig .tc) (h : r ∉ hostOps3_6_W) : W17 m c (Proc.devRef .tc r) = W16 m c (Proc.devRef .tc r) :=
  StableHlo.after_of_writes_sub hostOps3_6 _ hostOps3_6_writes h
theorem W17_args (c : Dev nD) : ∀ a ∈ argRefs, W17 m c (Proc.devRef .tc a) = m ((c : Thread nD τ).loc a) :=
  fun a ha => (W17_of m c a (hostOps3_6_args a ha)).trans (W16_args m c a ha)

/-- After the host stretch `hostOps3_7`. -/
abbrev W18 : Dev nD → Valuation τ sig (Elt F) := fun c => StableHlo.after hostOps3_7 (W17 m c)
theorem W18_of (c : Dev nD) (r : Ref sig .tc) (h : r ∉ hostOps3_7_W) : W18 m c (Proc.devRef .tc r) = W17 m c (Proc.devRef .tc r) :=
  StableHlo.after_of_writes_sub hostOps3_7 _ hostOps3_7_writes h
theorem W18_args (c : Dev nD) : ∀ a ∈ argRefs, W18 m c (Proc.devRef .tc a) = m ((c : Thread nD τ).loc a) :=
  fun a ha => (W18_of m c a (hostOps3_7_args a ha)).trans (W17_args m c a ha)

/-- After the host stretch `hostOps3_8`. -/
abbrev W19 : Dev nD → Valuation τ sig (Elt F) := fun c => StableHlo.after hostOps3_8 (W18 m c)
theorem W19_of (c : Dev nD) (r : Ref sig .tc) (h : r ∉ hostOps3_8_W) : W19 m c (Proc.devRef .tc r) = W18 m c (Proc.devRef .tc r) :=
  StableHlo.after_of_writes_sub hostOps3_8 _ hostOps3_8_writes h
theorem W19_args (c : Dev nD) : ∀ a ∈ argRefs, W19 m c (Proc.devRef .tc a) = m ((c : Thread nD τ).loc a) :=
  fun a ha => (W19_of m c a (hostOps3_8_args a ha)).trans (W18_args m c a ha)

/-- The contents region 3 is entered with. -/
abbrev V19 : (c : Dev nD) → (b : Ref sig .tc) → Buf (Elt F) ((c : Thread nD τ).loc b) := fun c b => W19 m c b
/-- After region 3: its arrays at what its pipeline leaves, every other buffer as entered. -/
def W20 (c : Dev nD) : Valuation τ sig (Elt F) :=
  Pipeline.withArrays spec3 c (W19 m c) fun w => (dat3 (V19 m) c).arrAt w cfg3.N
theorem W20_arr (c : Dev nD) (w : Fin cfg3.W) :
    W20 m c (Proc.devRef .tc (Pipeline.arrRef spec3 w)) = (dat3 (V19 m) c).arrAt w cfg3.N := by
  unfold W20; exact Pipeline.withArrays_arr spec3 launch3.win.arr_inj c _ _ w
theorem W20_of_ne (c : Dev nD) (b : Ref sig .tc) (hb : ∀ w, Pipeline.arrRef spec3 w ≠ b) :
    W20 m c (Proc.devRef .tc b) = W19 m c (Proc.devRef .tc b) := by
  unfold W20; exact Pipeline.withArrays_of_ne spec3 c _ _ b hb
theorem W20_of (c : Dev nD) (r : Ref sig .tc) (h : ∀ w : Fin cfg3.W, Pipeline.arrRef spec3 w = r → (cfg3.win w).isOut = false) :
    W20 m c (Proc.devRef .tc r) = W19 m c (Proc.devRef .tc r) := by
  by_cases hw : ∃ w : Fin cfg3.W, Pipeline.arrRef spec3 w = r
  · obtain ⟨w, rfl⟩ := hw
    exact (W20_arr m c w).trans (((dat3 (V19 m) c).arrAt_in w (h w rfl) _).trans (A_eq3 (V19 m) c w))
  · exact W20_of_ne m c r fun w e => hw ⟨w, e⟩
theorem argsIn3 : ∀ a ∈ argRefs, ∀ w : Fin cfg3.W, Pipeline.arrRef spec3 w = a → (cfg3.win w).isOut = false :=
  ListAll.forall_mem_of_all_decide (by decide +kernel)
theorem W20_args (c : Dev nD) : ∀ a ∈ argRefs, W20 m c (Proc.devRef .tc a) = m ((c : Thread nD τ).loc a) :=
  fun a ha => (W20_of m c a (argsIn3 a ha)).trans (W19_args m c a ha)
abbrev V20 : (c : Dev nD) → (b : Ref sig .tc) → Buf (Elt F) ((c : Thread nD τ).loc b) := fun c b => W20 m c b
theorem hF3 (c : Dev nD) (w : Fin cfg3.W) : (dat3 (V19 m) c).arrAt w cfg3.N = V20 m c (Pipeline.arrRef spec3 w) :=
  (W20_arr m c w).symm
theorem hrest3 (c : Dev nD) : ∀ b, b ∉ Finset.univ.image (Pipeline.arrRef spec3) → V20 m c b = V19 m c b :=
  fun b hb => W20_of_ne m c b fun w e => hb (Finset.mem_image.mpr ⟨w, Finset.mem_univ _, e⟩)

/-- After the host stretch `hostOps4`. -/
abbrev W21 : Dev nD → Valuation τ sig (Elt F) := fun c => StableHlo.after hostOps4 (W20 m c)
theorem W21_of (c : Dev nD) (r : Ref sig .tc) (h : r ∉ hostOps4_W) : W21 m c (Proc.devRef .tc r) = W20 m c (Proc.devRef .tc r) :=
  StableHlo.after_of_writes_sub hostOps4 _ hostOps4_writes h
theorem W21_args (c : Dev nD) : ∀ a ∈ argRefs, W21 m c (Proc.devRef .tc a) = m ((c : Thread nD τ).loc a) :=
  fun a ha => (W21_of m c a (hostOps4_args a ha)).trans (W20_args m c a ha)

end Cert.KernelIdeal.Whole

end
-- ==== Proof.Run.lean ====
/-
The run of @main: the calls as segments between the host stretches, chained from the launch to the return.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.UnfoldOut
public import Idealize.ShloMosaic.Lib.WordCmp
public import proofs.«01_k».proof.Proof.Fold

@[expose] public section

set_option maxRecDepth 16384

noncomputable section

namespace Cert.KernelIdeal.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data family and the thread state -/

/-- The prefetched tables' admissible contents: no pipeline has a table. -/
abbrev adm : (p : Fin 4) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 4) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V9 m) c
  | ⟨3, _⟩ => fun c => dat3 (V19 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W21`, the generator register at some state. -/
abbrev Tₙ (c : Dev nD) : sProp 𝕄 := iprop(StableHlo.held (c : Thread nD τ) (Pipeline.ucRefs τ sig) (W21 m c) ∗ ∃ r, prngReg c r)

-- `iapply` of a library lemma stated over `pin pcs a p` unifies with the pinned configuration only when unification may
-- unfold plain definitions in a metavariable's type
set_option backward.isDefEq.respectTransparency.types false in
/-- Region 0 as a segment over the thread state, entered from every unscoped buffer at `W1` and left at `W2`. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) (A_eq0 (V1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 1 as a segment over the thread state, entered from every unscoped buffer at `W3` and left at `W4`. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) (A_eq1 (V3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 2 as a segment over the thread state, entered from every unscoped buffer at `W9` and left at `W10`. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V9 m) c).loose
  hwaits := Pipeline.hwaits_of_owed_zero _ _ _ _ L lv 2 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec2 c (V9 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V9 m c) (A_eq2 (V9 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V9 m c) (V10 m c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- Region 3 as a segment over the thread state, entered from every unscoped buffer at `W19` and left at `W20`. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (V19 m) c).loose
  hwaits := Pipeline.hwaits_of_owed_zero _ _ _ _ L lv 3 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec3 c (V19 m c)
  hentry c := by
    rw [Pipeline.ownSems0_none]
    have hsplit := Pipeline.arrays_of_unscopedBufs (p := 3) (pcfgs (F := F)) adm (pdats m) launch3.win launch3.arr_whole c
      ((pdats m 3 c).share_full fun _ => rfl) (V19 m c) (A_eq3 (V19 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin3 (V19 m) c)
    unfold Pipeline.ΦA
    iintro ⟨Hp, -, Hr⟩
    isplitl [Hr]; · iexact Hr
    iexact Hp
  hout c := by
    rw [Pipeline.ownSems0_none]
    refine BIBase.Entails.trans (hout3 (V19 m) c) ?_
    unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (V19 m c) (V20 m c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- @main as segments. -/
abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .host (hseg hostOps2_1 hostOps2_1_sub hostOps2_1_fresh (W5 m)),
    .host (hseg hostOps2_2 hostOps2_2_sub hostOps2_2_fresh (W6 m)),
    .host (hseg hostOps2_3 hostOps2_3_sub hostOps2_3_fresh (W7 m)),
    .host (hseg hostOps2_4 hostOps2_4_sub hostOps2_4_fresh (W8 m)),
    .region (reg2 m),
    .host (hseg hostOps3 hostOps3_sub hostOps3_fresh (W10 m)),
    .host (hseg hostOps3_1 hostOps3_1_sub hostOps3_1_fresh (W11 m)),
    .host (hseg hostOps3_2 hostOps3_2_sub hostOps3_2_fresh (W12 m)),
    .host (hseg hostOps3_3 hostOps3_3_sub hostOps3_3_fresh (W13 m)),
    .host (hseg hostOps3_4 hostOps3_4_sub hostOps3_4_fresh (W14 m)),
    .host (hseg hostOps3_5 hostOps3_5_sub hostOps3_5_fresh (W15 m)),
    .host (hseg hostOps3_6 hostOps3_6_sub hostOps3_6_fresh (W16 m)),
    .host (hseg hostOps3_7 hostOps3_7_sub hostOps3_7_fresh (W17 m)),
    .host (hseg hostOps3_8 hostOps3_8_sub hostOps3_8_fresh (W18 m)),
    .region (reg3 m),
    .host (hseg hostOps4 hostOps4_sub hostOps4_fresh (W20 m)) ]
theorem main_run (c : Dev nD) : main (F := F) c = Pipeline.Seg.run (segs m) := (main_chain c).trans (by chain_rfl)

/-- The TensorCore has no unscoped semaphore. -/
theorem no_unscoped : ∀ sm : SemLoc sig, sm.isScoped .tc = true := by decide

/-- No argument array is scoped. -/
theorem argUnscoped : ∀ a ∈ argRefs, ¬ (Proc.devRef .tc a : DevRef τ sig).isScoped :=
  ListAll.forall_mem_of_all_decide (by decide +kernel)

-- `θ_run_regions_kit_sems`'s implicit arguments are found by unifying its conclusion with this one, which takes unfolding
-- plain definitions in a metavariable's type
set_option backward.isDefEq.respectTransparency.types false in
/-- THE RUN. From any memory with zero counters every weakly fair execution of @main terminates, nothing faulting; every
    final state has each unscoped buffer at the contents `W21` names and every semaphore counter at zero. -/
theorem run : θ_run defs (onTc (τ := τ) (main (F := F))) ⟨m, fun _ => 0, ρ⟩ (fun r => (∀ c : Dev nD,
      ∀ b ∈ Pipeline.ucRefs τ sig, r.2.mem (((c : Thread nD τ)).1, b) = W21 m c b) ∧ r.2.sem = fun _ => 0) :=
  Pipeline.θ_run_regions_kit_sems (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => Idealize.SL.BI.sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W21 m c b)
    (hfin := fun c s' => by
      iintro ⟨⟨Hh, -⟩, HSI⟩
      unfold StableHlo.held
      imodintro
      iapply (pointsTo_read_all (Pipeline.ucRefs τ sig) (fun b => (((c : Thread nD τ)).1, b)) (W21 m c) s')
      isplitl [Hh] <;> iassumption)
    (hQ := fun s h hz => ⟨h, funext fun g => hz g (.inr (no_unscoped g.2))⟩)

/-- The run read at the result and the arguments: the result array ends at the contents `W21` names, the arguments as
    launched, every counter at zero. -/
theorem run_args : θ_run defs (onTc (τ := τ) (main (F := F))) ⟨m, fun _ => 0, ρ⟩ (fun r => (∀ c : Dev nD,
      r.2.mem ((c.tc : Thread nD τ).loc main_v109) = W21 m c (Proc.devRef .tc main_v109)
      ∧ (∀ a ∈ argRefs, r.2.mem ((c.tc : Thread nD τ).loc a) = m ((c.tc : Thread nD τ).loc a)))
      ∧ r.2.sem = fun _ => 0) :=
  (θ_run defs _ _).mono (fun r h => ⟨fun c => ⟨h.1 c _ (mem_uc main_v109 (by decide)),
    fun a ha => (h.1 c _ (mem_uc a (argUnscoped a ha))).trans (W21_args m c a ha)⟩, h.2⟩) (run m ρ)

end Cert.KernelIdeal.Whole

end
-- ==== Proof.Frames.lean ====
/-
The frames: every run of the kernel ends with its arguments as launched and every counter at zero. The word program and
the ideal program are the same text, so the first is the second's frame at words.
-/
module

public import proofs.«01_k».proof.Defs
public import proofs.«01_k».proof.Proof.Run
public import Idealize.ShloMosaic.Lib.Tactic

@[expose] public section

set_option maxRecDepth 16384

noncomputable section

namespace Cert.KernelIdeal.Whole

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg)

/-- The frame of the kernel, at any float format. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16))
      ∧ r.2.sem = fun _ => 0) :=
  (θ_run defs _ _).mono (fun r h => ⟨fun c => ⟨(h.1 c).2 main_arg0 (by simp), (h.1 c).2 main_arg1 (by simp), (h.1 c).2 main_arg2 (by simp), (h.1 c).2 main_arg3 (by simp), (h.1 c).2 main_arg4 (by simp), (h.1 c).2 main_arg5 (by simp), (h.1 c).2 main_arg6 (by simp), (h.1 c).2 main_arg7 (by simp), (h.1 c).2 main_arg8 (by simp), (h.1 c).2 main_arg9 (by simp), (h.1 c).2 main_arg10 (by simp), (h.1 c).2 main_arg11 (by simp), (h.1 c).2 main_arg12 (by simp), (h.1 c).2 main_arg13 (by simp), (h.1 c).2 main_arg14 (by simp), (h.1 c).2 main_arg15 (by simp), (h.1 c).2 main_arg16 (by simp)⟩, h.2⟩) (run_args m ρ)

/-- The ideal program's frame read at words. -/
def FrameAtBits [hI : Cert.KernelIdeal.Facts] : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

/-- It is the word program's frame: the two programs are the same text. -/
theorem frameAtBits_eq (hK : Cert.Kernel.Facts) (hI : Cert.KernelIdeal.Facts) :
    FrameAtBits (hI := hI) = Cert.quiescent_Kernel (hKernel := hK) := by sl_kernel_rfl

theorem frame_words (hK : Cert.Kernel.Facts) : Cert.quiescent_Kernel (hKernel := hK) :=
  frameAtBits_eq hK Cert.KernelIdeal.Gen.facts ▸ fun m ρ _ => frame (F := Bits) m ρ

end Cert.KernelIdeal.Whole

end
-- ==== Proof.Spec.lean ====
/-
The mathematics both programs compute, over the extended reals: the activation, the group normalisation, the two
neighbour convolutions with their maximum and the two last ones, and the folded form of a group normalisation.
-/
module

public import Idealize.ShloMosaic.Lib.SortPrefix
public import Idealize.ShloMosaic.Lib.IdealHost
public import Idealize.ShloMosaic.Lib.Pointwise

@[expose] public section

set_option maxRecDepth 16384

noncomputable section

namespace Cert.Spec

open Idealize.ShloMosaic
open scoped BigOperators

/-- The stabiliser under the square root of a group normalisation. -/
abbrev eps : EReal := Ideal.ofBits .f32 0x3727C5AC#32

/-- The activation: the identity above zero, `exp x - 1` elsewhere. -/
def elu (x : EReal) : EReal := if 0 < x then x else Ideal.exp x - 1

/-- The sum of `f` over the channels of group `g`, the groups being runs of `m` channels. -/
def gsum {C : ℕ} (m : ℕ) (f : Fin C → EReal) (g : ℕ) : EReal := ∑ c : Fin C, if c.val / m = g then f c else 0

/-- A group's mean. -/
def gmean {ι : Type} [Fintype ι] {C : ℕ} (m : ℕ) (cnt : EReal) (Y : ι → Fin C → EReal) (g : ℕ) : EReal :=
  Ideal.div (gsum m (fun c => ∑ i, Y i c) g) cnt

/-- A group's variance. -/
def gvar {ι : Type} [Fintype ι] {C : ℕ} (m : ℕ) (cnt : EReal) (Y : ι → Fin C → EReal) (g : ℕ) : EReal :=
  Ideal.div (gsum m (fun c => ∑ i, (Y i c - gmean m cnt Y (c.val / m)) * (Y i c - gmean m cnt Y (c.val / m))) g) cnt

/-- The group normalisation of `Y` with scale `γ` and offset `β`. -/
def gn {ι : Type} [Fintype ι] {C : ℕ} (m : ℕ) (cnt : EReal) (Y : ι → Fin C → EReal) (γ β : Fin C → EReal) (i : ι) (c : Fin C) :
    EReal :=
  Ideal.div (Y i c - gmean m cnt Y (c.val / m)) (Ideal.sqrt (gvar m cnt Y (c.val / m) + eps)) * γ c + β c

/-- The squared distance of points `n` and `m`. -/
def sqdist (p : Fin 3 → Fin 10000 → EReal) (n m : Fin 10000) : EReal :=
  (∑ c, p c n * p c n) + (∑ c, p c m * p c m) - Ideal.ofBits .f32 0x40000000#32 * (∑ c, p c n * p c m)

/-- Point `m` comes before point `m'` as a neighbour of `n`: it is nearer, or as near with a smaller index. -/
def before (d : Fin 10000 → EReal) (m m' : Fin 10000) : Bool :=
  decide (d m < d m') || (decide (d m = d m') && decide (m < m'))

/-- The `k`-th nearest point under the distances `d`. -/
def near (d : Fin 10000 → EReal) (k : Fin 16) : Fin 10000 := sortedFrom (before d) (k.castLE (by decide))

/-- The six edge features: the point's coordinates, and the neighbour's relative to them. -/
def edge (p : Fin 3 → Fin 10000 → EReal) (i : Fin 10000 × Fin 16) (c : Fin 6) : EReal :=
  if h : c.val < 3 then p ⟨c.val, h⟩ i.1
  else p ⟨c.val - 3, by omega⟩ (near (sqdist p i.1) i.2) - p ⟨c.val - 3, by omega⟩ i.1

/-- A pointwise convolution. -/
def conv {ι : Type} {A B : ℕ} (X : ι → Fin A → EReal) (W : Fin B → Fin A → EReal) (b : Fin B → EReal) (i : ι) (o : Fin B) :
    EReal := (∑ c, W o c * X i c) + b o

/-- What follows the first convolution: normalise and activate, the second convolution, normalise and activate, the
    maximum over the points, then two more blocks over the 16 neighbour ranks. -/
def mid (Y1 : Fin 10000 × Fin 16 → Fin 32 → EReal) (g1 be1 : Fin 32 → EReal) (W2 : Fin 64 → Fin 32 → EReal)
    (b2 : Fin 64 → EReal) : Fin 10000 × Fin 16 → Fin 64 → EReal :=
  conv (fun i c => elu (gn 4 (Ideal.ofBits .f32 0x491C4000#32) Y1 g1 be1 i c)) W2 b2

/-- The maximum over the points of the second block's output. -/
def top (Y2 : Fin 10000 × Fin 16 → Fin 64 → EReal) (g2 be2 : Fin 64 → EReal) (k : Fin 16) (q : Fin 64) : EReal :=
  Finset.univ.sup fun n : Fin 10000 => elu (gn 8 (Ideal.ofBits .f32 0x499C4000#32) Y2 g2 be2 (n, k) q)

/-- A block over the 16 neighbour ranks with 128 outputs. -/
def last {A : ℕ} (Z : Fin 16 → Fin A → EReal) (W : Fin 128 → Fin A → EReal) (b g be : Fin 128 → EReal) (k : Fin 16) (r : Fin 128) :
    EReal := elu (gn 16 (Ideal.ofBits .f32 0x43800000#32) (conv Z W b) g be k r)

/-! ## Real arithmetic inside the extended reals -/

theorem coe_sum {ι : Type} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem gsum_coe {C : ℕ} (m : ℕ) (f : Fin C → ℝ) (g : ℕ) :
    gsum m (fun c => (f c : EReal)) g = ((∑ c : Fin C, if c.val / m = g then f c else 0 : ℝ) : EReal) := by
  unfold gsum
  rw [coe_sum]
  refine Finset.sum_congr rfl fun c _ => ?_
  split <;> simp

/-- A sum against the indicator of a group is the group's sum. -/
theorem sum_mul_hot {C : ℕ} (m : ℕ) (f : Fin C → EReal) (g : ℕ) :
    (∑ c : Fin C, f c * (if c.val / m = g then (1 : EReal) else 0)) = gsum m f g :=
  Finset.sum_congr rfl fun c _ => by split <;> simp

/-- A sum over the groups against the indicator of a channel's group picks that group. -/
theorem sum_mul_hot_group (f : Fin 8 → EReal) (q : ℕ) (hq : q < 8) :
    (∑ g : Fin 8, f g * (if q = g.val then (1 : EReal) else 0)) = f ⟨q, hq⟩ := by
  rw [Finset.sum_eq_single (⟨q, hq⟩ : Fin 8)]
  · simp
  · intro b _ hb
    rw [if_neg (fun h => hb (Fin.ext h.symm)), mul_zero]
  · intro h; exact absurd (Finset.mem_univ _) h

/-- The group's sum, its channels listed. -/
theorem gsum_eq_sum {C : ℕ} (m : ℕ) (hm : 0 < m) (hC : C = 8 * m) (f : Fin C → EReal) (g : Fin 8) :
    gsum m f g.val = ∑ j : Fin m, f ⟨g.val * m + j.val, by have := g.isLt; have := j.isLt; subst hC; nlinarith⟩ := by
  subst hC
  unfold gsum
  rw [← Finset.sum_filter]
  refine (Finset.sum_bij' (fun (j : Fin m) _ => (⟨g.val * m + j.val, by have := g.isLt; have := j.isLt; nlinarith⟩ : Fin (8 * m)))
    (fun c _ => (⟨c.val % m, Nat.mod_lt _ hm⟩ : Fin m)) ?_ ?_ ?_ ?_ ?_).symm
  · intro j _
    rw [Finset.mem_filter]
    refine ⟨Finset.mem_univ _, ?_⟩
    show (g.val * m + j.val) / m = g.val
    rw [Nat.mul_comm, Nat.mul_add_div hm, Nat.div_eq_of_lt j.isLt, Nat.add_zero]
  · intro c _; exact Finset.mem_univ _
  · intro j _
    refine Fin.ext ?_
    show (g.val * m + j.val) % m = j.val
    rw [Nat.mul_comm, Nat.mul_add_mod, Nat.mod_eq_of_lt j.isLt]
  · intro c hc
    have h := (Finset.mem_filter.1 hc).2
    refine Fin.ext ?_
    show g.val * m + c.val % m = c.val
    rw [← h]; exact Nat.div_add_mod' _ _
  · intro j _; rfl

/-! ## A stable sort by key -/

theorem insertBefore_congr {ι : Type} (B L : ι → ι → Bool) (a : ι) :
    ∀ l : List ι, (∀ b ∈ l, B b a = L b a) → insertBefore B a l = insertBefore L a l
  | [], _ => rfl
  | b :: l, h => by
    unfold insertBefore
    rw [h b List.mem_cons_self, insertBefore_congr B L a l fun b hb => h b (List.mem_cons_of_mem _ hb)]

theorem stableSort_congr_of_pairwise {n : ℕ} (B L : Fin n → Fin n → Bool) (h : ∀ a b, a < b → B b a = L b a) :
    ∀ l : List (Fin n), l.Pairwise (· < ·) → stableSort B l = stableSort L l
  | [], _ => rfl
  | a :: l, hp => by
    have hp' := List.pairwise_cons.1 hp
    unfold stableSort
    rw [stableSort_congr_of_pairwise B L h l hp'.2]
    exact insertBefore_congr B L a _ fun b hb => h a b (hp'.1 b ((perm_stableSort L l).mem_iff.1 hb))

/-- A stable sort by a key alone is the sort by the key and then the position. -/
theorem sortedFrom_lex {n : ℕ} (B L : Fin n → Fin n → Bool) (h : ∀ a b, a < b → B b a = L b a) : sortedFrom B = sortedFrom L := by
  have e : sortPositions n B = sortPositions n L := stableSort_congr_of_pairwise B L h _ (List.pairwise_lt_finRange n)
  funext k
  simp only [sortedFrom, List.get_eq_getElem, e, Fin.val_cast]

/-! ## The folded form of a group normalisation -/

theorem eps_coe : eps = ((10995116 / 1099511627776 : ℝ) : EReal) := by
  simp [eps, Ideal.ofBits, Ideal.ieee, -EReal.coe_mul]; norm_num

section fold
variable {ι : Type} [Fintype ι] {C : ℕ} (m : ℕ) (N : ℝ) (y : ι → Fin C → ℝ)

/-- A group's real mean. -/
def rmean (g : ℕ) : ℝ := (∑ c : Fin C, if c.val / m = g then ∑ i, y i c else 0) * (1 / N)
/-- A group's real variance. -/
def rvar (g : ℕ) : ℝ :=
  (∑ c : Fin C, if c.val / m = g then ∑ i, (y i c - rmean m N y (c.val / m)) * (y i c - rmean m N y (c.val / m)) else 0) * (1 / N)

theorem gmean_coe (hN : N ≠ 0) (g : ℕ) : gmean m (N : EReal) (fun i c => (y i c : EReal)) g = (rmean m N y g : EReal) := by
  unfold gmean rmean
  rw [Ideal.div_coe hN, EReal.coe_mul, ← gsum_coe]
  simp only [coe_sum]

theorem gvar_coe (hN : N ≠ 0) (g : ℕ) : gvar m (N : EReal) (fun i c => (y i c : EReal)) g = (rvar m N y g : EReal) := by
  unfold gvar rvar
  rw [Ideal.div_coe hN, EReal.coe_mul, ← gsum_coe]
  simp only [gmean_coe m N y hN, coe_sum, EReal.coe_mul, EReal.coe_sub]

theorem rvar_nonneg (hN : 0 < N) (g : ℕ) : 0 ≤ rvar m N y g := by
  unfold rvar
  refine mul_nonneg (Finset.sum_nonneg fun c _ => ?_) (by positivity)
  split
  · exact Finset.sum_nonneg fun i _ => mul_self_nonneg _
  · exact le_refl _

/-- The second moment less the squared mean is the variance, the count being the number of summands. -/
theorem rvar_eq (hN : N ≠ 0) (g : ℕ) (hcount : (∑ c : Fin C, if c.val / m = g then ∑ _i : ι, (1 : ℝ) else 0) = N) :
    (∑ c : Fin C, if c.val / m = g then ∑ i, y i c * y i c else 0) * (1 / N) - rmean m N y g * rmean m N y g = rvar m N y g := by
  have e : (∑ c : Fin C, if c.val / m = g then ∑ i, (y i c - rmean m N y (c.val / m)) * (y i c - rmean m N y (c.val / m)) else 0)
      = (∑ c : Fin C, if c.val / m = g then ∑ i, y i c * y i c else 0)
        - 2 * rmean m N y g * (∑ c : Fin C, if c.val / m = g then ∑ i, y i c else 0)
        + rmean m N y g * rmean m N y g * (∑ c : Fin C, if c.val / m = g then ∑ _i : ι, (1 : ℝ) else 0) := by
    rw [Finset.mul_sum, Finset.mul_sum, ← Finset.sum_sub_distrib, ← Finset.sum_add_distrib]
    refine Finset.sum_congr rfl fun c _ => ?_
    split
    · rename_i h
      rw [h, Finset.mul_sum, Finset.mul_sum, ← Finset.sum_sub_distrib, ← Finset.sum_add_distrib]
      exact Finset.sum_congr rfl fun i _ => by ring
    · ring
  have hs : (∑ c : Fin C, if c.val / m = g then ∑ i, y i c else 0) = rmean m N y g * N := by
    unfold rmean; field_simp
  unfold rvar
  rw [e, hcount, hs]
  field_simp
  ring

end fold

/-- The normalisation as a scale and a shift computed from the first two moments, for real data and scale. -/
theorem gn_fold {ι : Type} [Fintype ι] {C : ℕ} (m : ℕ) (N : ℝ) (hN : 0 < N) (y : ι → Fin C → ℝ) (γ : Fin C → ℝ) (β : Fin C → EReal)
    (c : Fin C) (hcount : (∑ c' : Fin C, if c'.val / m = c.val / m then ∑ _i : ι, (1 : ℝ) else 0) = N) (i : ι) (S SS : Fin C → EReal)
    (hS : ∀ c, S c = ∑ i, (y i c : EReal)) (hSS : ∀ c, SS c = ∑ i, (y i c : EReal) * (y i c : EReal)) :
    (y i c : EReal) * Ideal.div (γ c) (Ideal.sqrt ((Ideal.div (gsum m SS (c.val / m)) N
          - Ideal.div (gsum m S (c.val / m)) N * Ideal.div (gsum m S (c.val / m)) N) + eps))
        + (β c - Ideal.div (gsum m S (c.val / m)) N * Ideal.div (γ c) (Ideal.sqrt ((Ideal.div (gsum m SS (c.val / m)) N
          - Ideal.div (gsum m S (c.val / m)) N * Ideal.div (gsum m S (c.val / m)) N) + eps)))
      = gn m (N : EReal) (fun i c => (y i c : EReal)) (fun c => (γ c : EReal)) β i c := by
  have hN0 := hN.ne'
  have hm : Ideal.div (gsum m S (c.val / m)) N = (rmean m N y (c.val / m) : EReal) := by
    rw [← gmean_coe m N y hN0]; unfold gmean; rw [show S = fun c => ∑ i, (y i c : EReal) from funext hS]
  have hv : Ideal.div (gsum m SS (c.val / m)) N
          - Ideal.div (gsum m S (c.val / m)) N * Ideal.div (gsum m S (c.val / m)) N = (rvar m N y (c.val / m) : EReal) := by
    rw [hm, ← rvar_eq m N y hN0 _ hcount, EReal.coe_sub, EReal.coe_mul, EReal.coe_mul, ← gsum_coe, Ideal.div_coe hN0,
      show SS = fun c => ∑ i, (y i c : EReal) * (y i c : EReal) from funext hSS]
    simp only [coe_sum, EReal.coe_mul]
  have hpos : 0 < rvar m N y (c.val / m) + 10995116 / 1099511627776 := by
    have := rvar_nonneg m N y hN (c.val / m); positivity
  have hsq : Real.sqrt (rvar m N y (c.val / m) + 10995116 / 1099511627776) ≠ 0 := (Real.sqrt_pos.2 hpos).ne'
  unfold gn
  rw [hv, hm, gmean_coe m N y hN0, gvar_coe m N y hN0, eps_coe, ← EReal.coe_add, Ideal.sqrt_coe, if_neg (not_lt.2 hpos.le),
    Ideal.div_coe hsq, Ideal.div_coe hsq]
  generalize 1 / Real.sqrt (rvar m N y (c.val / m) + 10995116 / 1099511627776) = s
  rw [← EReal.coe_mul, ← EReal.coe_mul, ← EReal.coe_mul, ← EReal.coe_sub, ← EReal.coe_mul, ← EReal.coe_mul, sub_eq_add_neg, add_comm (β c),
    ← add_assoc, ← EReal.coe_neg, ← EReal.coe_add]
  congr 2
  ring

/-- A finite value is a real one. -/
theorem real_of_abs_lt {x : EReal} (h : max x (-x) < ⊤) : ∃ r : ℝ, x = (r : EReal) := by
  induction x using EReal.rec with
  | bot => simp at h
  | top => simp at h
  | coe r => exact ⟨r, rfl⟩

theorem neg_one_le_elu (x : EReal) : -1 ≤ elu x := by
  unfold elu
  split
  · rename_i h; exact le_trans (by rw [← EReal.coe_one, ← EReal.coe_neg, ← EReal.coe_zero]; exact EReal.coe_le_coe_iff.2 (by norm_num)) h.le
  · induction x using EReal.rec with
    | bot => simp
    | top => rename_i h; simp at h
    | coe r =>
      rw [Ideal.exp_coe, ← EReal.coe_one, ← EReal.coe_neg, ← EReal.coe_sub]
      exact EReal.coe_le_coe_iff.2 (by have := Real.exp_pos r; linarith)

/-- The activation as a selection between the value and the exponential of its negative part less one. -/
theorem elu_min (x : EReal) : (if 0 < x then x else Ideal.exp (min x 0) - 1) = elu x := by
  unfold elu
  split
  · rfl
  · rename_i h; rw [min_eq_left (not_lt.1 h)]

theorem gsum_congr {C : ℕ} (m : ℕ) (f f' : Fin C → EReal) (g : ℕ) (h : ∀ c : Fin C, c.val / m = g → f c = f' c) : gsum m f g = gsum m f' g :=
  Finset.sum_congr rfl fun c _ => by
    split
    · rename_i hc; exact h c hc
    · rfl

/-- A group's normalisation depends on the group alone. -/
theorem gn_congr {ι : Type} [Fintype ι] {C : ℕ} (m : ℕ) (cnt : EReal) (Y Y' : ι → Fin C → EReal) (γ β : Fin C → EReal) (i : ι) (c : Fin C)
    (h : ∀ i (c' : Fin C), c'.val / m = c.val / m → Y i c' = Y' i c') : gn m cnt Y γ β i c = gn m cnt Y' γ β i c := by
  have hm : gmean m cnt Y (c.val / m) = gmean m cnt Y' (c.val / m) :=
    congrArg (Ideal.div · cnt) (gsum_congr m _ _ _ fun c' hc => Finset.sum_congr rfl fun i _ => h i c' hc)
  have hv : gvar m cnt Y (c.val / m) = gvar m cnt Y' (c.val / m) :=
    congrArg (Ideal.div · cnt) (gsum_congr m _ _ _ fun c' hc => Finset.sum_congr rfl fun i _ => by rw [hc, hm, h i c' hc])
  unfold gn
  rw [hm, hv, h i c rfl]

/-! ## Infinite entries -/

/-- An infinite value. -/
def Inf (x : EReal) : Prop := x = ⊤ ∨ x = ⊥

theorem inf_or_real (x : EReal) : Inf x ∨ ∃ r : ℝ, x = (r : EReal) := by
  induction x using EReal.rec with
  | bot => exact .inl (.inr rfl)
  | top => exact .inl (.inl rfl)
  | coe r => exact .inr ⟨r, rfl⟩

theorem Inf.add_right {x : EReal} (h : Inf x) (y : EReal) : Inf (x + y) := by
  rcases h with rfl | rfl
  · induction y using EReal.rec with
    | bot => exact .inr rfl
    | top => exact .inl rfl
    | coe r => exact .inl (EReal.top_add_coe r)
  · exact .inr (EReal.bot_add y)

theorem Inf.sum {ι : Type} (s : Finset ι) (f : ι → EReal) (a : ι) (ha : a ∈ s) (h : Inf (f a)) : Inf (∑ i ∈ s, f i) := by
  classical
  rw [← Finset.add_sum_erase s f ha]
  exact h.add_right _

theorem Inf.eq_top {x : EReal} (h : Inf x) (h0 : 0 ≤ x) : x = ⊤ := by
  rcases h with h | rfl
  · exact h
  · exact absurd h0 (by simp)

theorem Inf.mul_self {x : EReal} (h : Inf x) : x * x = ⊤ := by
  rcases h with rfl | rfl
  · exact EReal.top_mul_top
  · exact EReal.bot_mul_bot

theorem square_nonneg (x : EReal) : 0 ≤ x * x := by
  rcases inf_or_real x with h | ⟨r, rfl⟩
  · rw [h.mul_self]; exact le_top
  · rw [← EReal.coe_mul]; exact EReal.coe_nonneg.2 (mul_self_nonneg r)

theorem Inf.div {x : EReal} (h : Inf x) (N : ℝ) (hN : 0 < N) : Inf (Ideal.div x N) := by
  rw [Ideal.div_coe hN.ne']
  have hp : 0 < 1 / N := by positivity
  rcases h with rfl | rfl
  · exact .inl (EReal.top_mul_coe_of_pos hp)
  · exact .inr (EReal.bot_mul_coe_of_pos hp)

theorem top_div (N : ℝ) (hN : 0 < N) : Ideal.div ⊤ (N : EReal) = ⊤ := by
  rw [Ideal.div_coe hN.ne']
  exact EReal.top_mul_coe_of_pos (by positivity)

/-- An infinite mean lies infinitely far from every entry. -/
theorem Inf.sub {M : EReal} (h : Inf M) (x : EReal) : Inf (x - M) := by
  rw [sub_eq_add_neg, add_comm]
  refine Inf.add_right ?_ x
  rcases h with rfl | rfl
  · exact .inr EReal.neg_top
  · exact .inl EReal.neg_bot

theorem div_top (x : EReal) : Ideal.div x ⊤ = 0 := by
  unfold Ideal.div
  rw [if_neg (by simp), EReal.inv_top, mul_zero]

theorem div_bot (x : EReal) : Ideal.div x ⊥ = 0 := by
  unfold Ideal.div
  rw [if_neg (by simp), EReal.inv_bot, mul_zero]

theorem inf_gsum {C : ℕ} (m : ℕ) (f : Fin C → EReal) (c : Fin C) (h : Inf (f c)) : Inf (gsum m f (c.val / m)) :=
  Inf.sum _ _ c (Finset.mem_univ c) (by rw [if_pos rfl]; exact h)

theorem gsum_nonneg {C : ℕ} (m : ℕ) (f : Fin C → EReal) (g : ℕ) (h : ∀ c, 0 ≤ f c) : 0 ≤ gsum m f g :=
  Finset.sum_nonneg fun c _ => by
    split
    · exact h c
    · exact le_rfl

/-- The normalisation as a scale and a shift computed from the first two moments, for real scales: a group that holds an infinite
    entry is at its offset in both forms. -/
theorem gn_fold_any {ι : Type} [Fintype ι] {C : ℕ} (m : ℕ) (N : ℝ) (hN : 0 < N) (Y : ι → Fin C → EReal) (γ : Fin C → ℝ) (β : Fin C → EReal)
    (c : Fin C) (hcount : (∑ c' : Fin C, if c'.val / m = c.val / m then ∑ _i : ι, (1 : ℝ) else 0) = N) (i : ι) (S SS : Fin C → EReal)
    (hS : ∀ c, S c = ∑ i, Y i c) (hSS : ∀ c, SS c = ∑ i, Y i c * Y i c) :
    Y i c * Ideal.div (γ c) (Ideal.sqrt ((Ideal.div (gsum m SS (c.val / m)) N
          - Ideal.div (gsum m S (c.val / m)) N * Ideal.div (gsum m S (c.val / m)) N) + eps))
        + (β c - Ideal.div (gsum m S (c.val / m)) N * Ideal.div (γ c) (Ideal.sqrt ((Ideal.div (gsum m SS (c.val / m)) N
          - Ideal.div (gsum m S (c.val / m)) N * Ideal.div (gsum m S (c.val / m)) N) + eps)))
      = gn m (N : EReal) Y (fun c => (γ c : EReal)) β i c := by
  by_cases h : ∃ i', ∃ c' : Fin C, c'.val / m = c.val / m ∧ Inf (Y i' c')
  · obtain ⟨i', c', hc, hi⟩ := h
    have hs : Inf (gsum m S (c.val / m)) := by
      rw [← hc]
      exact inf_gsum m S c' (by rw [hS]; exact Inf.sum _ _ i' (Finset.mem_univ _) hi)
    have hss : gsum m SS (c.val / m) = ⊤ := by
      refine Inf.eq_top ?_ (gsum_nonneg m SS _ fun c => by rw [hSS]; exact Finset.sum_nonneg fun i _ => square_nonneg _)
      rw [← hc]
      exact inf_gsum m SS c' (by rw [hSS]; exact Inf.sum _ _ i' (Finset.mem_univ _) (.inl hi.mul_self))
    have hM : Inf (gmean m (N : EReal) Y (c.val / m)) := by
      unfold gmean
      rw [show (fun c => ∑ i, Y i c) = S from (funext hS).symm]
      exact hs.div N hN
    have hV : gvar m (N : EReal) Y (c.val / m) = ⊤ := by
      unfold gvar
      refine (congrArg (Ideal.div · (N : EReal)) (Inf.eq_top ?_ ?_)).trans (top_div N hN)
      · exact inf_gsum m _ c (Inf.sum _ _ i (Finset.mem_univ _) (.inl (hM.sub _).mul_self))
      · exact gsum_nonneg m _ _ fun c => Finset.sum_nonneg fun i _ => square_nonneg _
    unfold gn
    rw [hss, top_div N hN, (hs.div N hN).mul_self, hV, eps_coe, show (⊤ : EReal) - ⊤ = ⊥ from rfl, EReal.bot_add, Ideal.sqrt_bot, div_bot, mul_zero, mul_zero,
      EReal.top_add_coe, Ideal.sqrt_top, div_top, zero_mul, sub_zero]
  · have hr : ∀ i (c' : Fin C), c'.val / m = c.val / m → Y i c' = ((Y i c').toReal : EReal) := fun i' c' hc => by
      rcases inf_or_real (Y i' c') with hi | ⟨r, hr⟩
      · exact absurd ⟨i', c', hc, hi⟩ h
      · rw [hr, EReal.toReal_coe]
    rw [gn_congr m N Y (fun i c => ((Y i c).toReal : EReal)) _ β i c hr, ← gn_fold m N hN (fun i c => (Y i c).toReal) γ β c hcount i _ _ (fun _ => rfl) (fun _ => rfl),
      ← hr i c rfl,
      gsum_congr m S (fun c => ∑ i, ((Y i c).toReal : EReal)) _ fun c' hc => (hS c').trans (Finset.sum_congr rfl fun i _ => hr i c' hc),
      gsum_congr m SS (fun c => ∑ i, ((Y i c).toReal : EReal) * ((Y i c).toReal : EReal)) _ fun c' hc => (hSS c').trans
        (Finset.sum_congr rfl fun i _ => by rw [← hr i c' hc])]

end Cert.Spec
-- ==== Proof.Rounds.lean ====
/-
The first call's sixteen rounds: the payloads of each round are one generic round.
-/
module

public import proofs.«01_k».proof.Proof.Reg0
public import proofs.«01_k».proof.Proof.Spec
public import Idealize.ShloMosaic.Lib.Pointwise
public import Idealize.ShloMosaic.Lib.Pipeline.ValueKit.Tiles

@[expose] public section

set_option maxRecDepth 16384

noncomputable section

namespace Cert.KernelIdeal.Whole

open Idealize.ShloMosaic Idealize.ShloMosaic.TcCoe Idealize.ShloMosaic.Tactic
open Cert.KernelIdeal Cert.KernelIdeal.Gen Cert.Spec

/-- Where each row attains its minimum. -/
def msk (d : FVec Ideal S400x10240 .f32) : IVec S400x10240 1 :=
  cmpf .oeq d (broadcastTo S400x10240 (shapeCast S400x1 (multiReduction .minimumf [1] S400 d 0x7F800000#32 reduces_S400x10240_S400 (.inl rfl) rfl) shapeCasts_S400_S400x1) broadcasts_S400x1_S400x10240)

/-- The first column where each row's mask holds. -/
def fst (w : IVec S400x10240 1) : FVec Ideal S400x1 .f32 :=
  shapeCast S400x1 (multiReduction .minimumf [1] S400 (select w
    (broadcastTo S400x10240 (shapeCast S1x10240 (k0_pay4 (F := Ideal)) shapeCasts_S1x10240_S1x10240) broadcasts_S1x10240_S400x10240)
    (broadcast S400x10240 (Scalar.ofBits .f32 0x4E6E6B28#32 : Ideal .f32))) 0x7F800000#32 reduces_S400x10240_S400 (.inl rfl) rfl) shapeCasts_S400_S400x1

/-- The matrix with a one there. -/
def ohm (w : IVec S400x10240 1) : FVec Ideal S400x10240 .f32 :=
  sitofp .f32 (extui 32 (cmpf .oeq (broadcastTo S400x10240 (k0_pay4 (F := Ideal)) broadcasts_S1x10240_S400x10240)
    (broadcastTo S400x10240 (fst w) broadcasts_S400x1_S400x10240)) natLt_1_32)

/-- The distances with the chosen column put out of reach. -/
def nxt (d : FVec Ideal S400x10240 .f32) : FVec Ideal S400x10240 .f32 :=
  addf d (mulf (ohm (msk d)) (broadcast S400x10240 (Scalar.ofBits .f32 0x7CF0BDC2#32 : Ideal .f32)))

/-- The distances at each round. -/
def dseq (d : FVec Ideal S400x10240 .f32) : ℕ → FVec Ideal S400x10240 .f32
  | 0 => d
  | j + 1 => nxt (dseq d j)

section rounds
variable (c : FVec Ideal S1x10240 .f32) (d : FVec Ideal S400x10240 .f32) (x : FVec Ideal S10240x8 .f32)

theorem round8 (x0 : FVec Ideal S400x8 .f32) (x1 : FVec Ideal S8x10240 .f32) : k0_pay8 (F := Ideal) x0 x1 = ohm (msk (k0_pay5 x0 x1)) := rfl
theorem round15 : k0_pay15 (F := Ideal) k0_pay4 d (ohm (msk d)) = nxt (nxt d) := rfl
theorem round14 : k0_pay14 (F := Ideal) k0_pay4 d (ohm (msk d)) x = k0_pay9 (ohm (msk (nxt d))) x := rfl
theorem round18 : k0_pay18 (F := Ideal) k0_pay4 d x = k0_pay9 (ohm (msk d)) x := rfl
theorem round19 : k0_pay19 (F := Ideal) k0_pay4 d = nxt d := rfl
theorem round21 : k0_pay21 (F := Ideal) k0_pay4 d = msk (nxt d) := rfl
theorem round24 (w : IVec S400x10240 1) : k0_pay24 (F := Ideal) k0_pay4 w x = k0_pay9 (ohm w) x := rfl
theorem round25 : k0_pay25 (F := Ideal) k0_pay4 d (msk d) = nxt d := rfl
theorem round28 : k0_pay28 (F := Ideal) k0_pay4 d (msk d) = ohm (msk (nxt d)) := rfl

end rounds

theorem inb16 (k : Fin 16) : ∀ a, (![15 - k.val, 0, 0] : Fin 3 → ℕ) a + S1x400x8.size a ≤ S16x400x8.size a := by
  revert k; decide

/-- Sixteen stores, one for each row, read at one index. -/
theorem rows_at (P : Fin 16 → FVec Ideal S1x400x8 .f32) (k : Fin 16) (r : Fin 400) (c : Fin 8) :
    (View.canon (List.ofFn fun k : Fin 16 => (⟨Rect.unit (s := S16x400x8) ![15 - k.val, 0, 0] S1x400x8.size (inb16 k), P ⟨15 - k.val, by omega⟩⟩ : View.Piece (Elt Ideal) S16x400x8 .f32)) : FVec Ideal S16x400x8 .f32) (ix3 k r c)
      = P k (ix3 0 r c) := by
  have hc : ∃ k' : Fin 16, ∀ a : Fin 3, (![15 - k'.val, 0, 0] : Fin 3 → ℕ) a ≤ (ix3 k r c a).val ∧ (ix3 k r c a).val < (![15 - k'.val, 0, 0] : Fin 3 → ℕ) a + S1x400x8.size a := by
    refine ⟨⟨15 - k.val, by omega⟩, fun a => ?_⟩
    fin_cases a
    · show 15 - (15 - k.val) ≤ k.val ∧ k.val < 15 - (15 - k.val) + 1; omega
    · show 0 ≤ r.val ∧ r.val < 0 + 400; omega
    · show 0 ≤ c.val ∧ c.val < 0 + 8; omega
  have ht : ∀ (k' : Fin 16) (x : S1x400x8.Idx), (∀ a : Fin 3, (ix3 k r c a).val = (![15 - k'.val, 0, 0] : Fin 3 → ℕ) a + (x a).val) → P ⟨15 - k'.val, by omega⟩ x = P k (ix3 0 r c) := by
    intro k' x hx
    have h0 : k.val = 15 - k'.val + (x 0).val := hx 0
    have h1 : r.val = 0 + (x 1).val := hx 1
    have h2 : c.val = 0 + (x 2).val := hx 2
    have b0 : (x 0).val < 1 := (x 0).isLt
    have e : (⟨15 - k'.val, by omega⟩ : Fin 16) = k := Fin.ext (show 15 - k'.val = k.val by omega)
    rw [e]
    congr 1
    funext a
    fin_cases a
    · exact Fin.ext (show (x 0).val = 0 by omega)
    · exact Fin.ext (show (x 1).val = r.val by omega)
    · exact Fin.ext (show (x 2).val = c.val by omega)
  exact View.canon_ofFn_unit_eq_of_forall _ _ _ _ _ _ hc ht

section out
variable (x0 : FVec Ideal S400x8 .f32) (x1 : FVec Ideal S8x10240 .f32) (x2 : FVec Ideal S10240x8 .f32)

/-- The distances the rounds start from. -/
abbrev dst0 : FVec Ideal S400x10240 .f32 := k0_pay5 (View.ld x0 r0_0) (View.ld x1 r0_1)

theorem pay84_eq : k0_pay84 (F := Ideal) x0 x1 x2 = ohm (msk (dseq (dst0 x0 x1) 0)) := rfl
theorem pay85_eq : k0_pay85 (F := Ideal) x0 x1 x2 = dseq (dst0 x0 x1) 2 := rfl
theorem pay86_eq : k0_pay86 (F := Ideal) x0 x1 x2 = dseq (dst0 x0 x1) 3 := by
  unfold k0_pay86; rw [pay85_eq]; exact round19 _
theorem pay87_eq : k0_pay87 (F := Ideal) x0 x1 x2 = msk (dseq (dst0 x0 x1) 3) := by
  unfold k0_pay87; rw [pay85_eq]; exact round21 _
theorem pay88_eq : k0_pay88 (F := Ideal) x0 x1 x2 = dseq (dst0 x0 x1) 4 := by
  unfold k0_pay88; rw [pay86_eq, pay87_eq]; exact round25 _
theorem pay89_eq : k0_pay89 (F := Ideal) x0 x1 x2 = ohm (msk (dseq (dst0 x0 x1) 4)) := by
  unfold k0_pay89; rw [pay86_eq, pay87_eq]; exact round28 _
theorem pay90_eq : k0_pay90 (F := Ideal) x0 x1 x2 = dseq (dst0 x0 x1) 6 := by
  unfold k0_pay90; rw [pay88_eq, pay89_eq]; exact round15 _
theorem pay91_eq : k0_pay91 (F := Ideal) x0 x1 x2 = dseq (dst0 x0 x1) 7 := by
  unfold k0_pay91; rw [pay90_eq]; exact round19 _
theorem pay92_eq : k0_pay92 (F := Ideal) x0 x1 x2 = msk (dseq (dst0 x0 x1) 7) := by
  unfold k0_pay92; rw [pay90_eq]; exact round21 _
theorem pay93_eq : k0_pay93 (F := Ideal) x0 x1 x2 = dseq (dst0 x0 x1) 8 := by
  unfold k0_pay93; rw [pay91_eq, pay92_eq]; exact round25 _
theorem pay94_eq : k0_pay94 (F := Ideal) x0 x1 x2 = ohm (msk (dseq (dst0 x0 x1) 8)) := by
  unfold k0_pay94; rw [pay91_eq, pay92_eq]; exact round28 _
theorem pay95_eq : k0_pay95 (F := Ideal) x0 x1 x2 = dseq (dst0 x0 x1) 10 := by
  unfold k0_pay95; rw [pay93_eq, pay94_eq]; exact round15 _
theorem pay96_eq : k0_pay96 (F := Ideal) x0 x1 x2 = dseq (dst0 x0 x1) 11 := by
  unfold k0_pay96; rw [pay95_eq]; exact round19 _
theorem pay97_eq : k0_pay97 (F := Ideal) x0 x1 x2 = msk (dseq (dst0 x0 x1) 11) := by
  unfold k0_pay97; rw [pay95_eq]; exact round21 _
theorem pay98_eq : k0_pay98 (F := Ideal) x0 x1 x2 = dseq (dst0 x0 x1) 12 := by
  unfold k0_pay98; rw [pay96_eq, pay97_eq]; exact round25 _
theorem pay99_eq : k0_pay99 (F := Ideal) x0 x1 x2 = ohm (msk (dseq (dst0 x0 x1) 12)) := by
  unfold k0_pay99; rw [pay96_eq, pay97_eq]; exact round28 _
theorem pay100_eq : k0_pay100 (F := Ideal) x0 x1 x2 = dseq (dst0 x0 x1) 14 := by
  unfold k0_pay100; rw [pay98_eq, pay99_eq]; exact round15 _
theorem pay101_eq : k0_pay101 (F := Ideal) x0 x1 x2 = msk (dseq (dst0 x0 x1) 15) := by
  unfold k0_pay101; rw [pay100_eq]; exact round21 _

/-- What round `k` stores. -/
def sto (k : ℕ) : FVec Ideal S1x400x8 .f32 := k0_pay9 (ohm (msk (dseq (dst0 x0 x1) k))) (View.ld x2 r0_2)

theorem out0_4_eq : out0_4 (F := Ideal) x0 x1 x2
    = View.canon (List.ofFn fun k : Fin 16 => (⟨Rect.unit (s := S16x400x8) ![15 - k.val, 0, 0] S1x400x8.size (inb16 k), sto x0 x1 x2 (15 - k.val)⟩ : View.Piece (Elt Ideal) S16x400x8 .f32)) := by
  unfold out0_4
  rw [pay101_eq, pay100_eq, pay99_eq, pay98_eq, pay97_eq, pay95_eq, pay94_eq, pay93_eq, pay92_eq, pay90_eq, pay89_eq, pay88_eq, pay87_eq, pay85_eq, pay84_eq]
  rfl

theorem out0_4_at (k : Fin 16) (r : Fin 400) (c : Fin 8) :
    (out0_4 (F := Ideal) x0 x1 x2 : FVec Ideal S16x400x8 .f32) (ix3 k r c) = sto x0 x1 x2 k.val (ix3 0 r c) := by
  rw [out0_4_eq]
  generalize sto x0 x1 x2 = P
  refine (rows_at (fun k => P k.val) k r c).trans ?_
  rfl

end out

end Cert.KernelIdeal.Whole
-- ==== Proof.Round.lean ====
/-
One round of the first call at an index.
-/
module

public import proofs.«01_k».proof.Proof.Rounds
public import Idealize.ShloMosaic.Lib.Pointwise

@[expose] public section

set_option maxRecDepth 16384

noncomputable section

namespace Cert.KernelIdeal.Whole

open Idealize.ShloMosaic Idealize.ShloMosaic.TcCoe Idealize.ShloMosaic.Tactic
open Cert.KernelIdeal Cert.KernelIdeal.Gen Cert.Spec

section scalars

theorem sto_at (o : FVec Ideal S400x10240 .f32) (x : FVec Ideal S10240x8 .f32) (r : Fin 400) (c : Fin 8) :
    (k0_pay9 (F := Ideal) o x : FVec Ideal S1x400x8 .f32) (ix3 0 r c) = ∑ q : Fin 10240, o (ix2 r q) * x (ix2 q c) := by
  unfold k0_pay9
  pointwise

theorem nxt_at (d : FVec Ideal S400x10240 .f32) (r : Fin 400) (q : Fin 10240) :
    nxt d (ix2 r q) = d (ix2 r q) + ohm (msk d) (ix2 r q) * Ideal.ofBits .f32 0x7CF0BDC2#32 := by
  unfold nxt
  generalize ohm (msk d) = o
  pointwise

theorem msk_at (d : FVec Ideal S400x10240 .f32) (r : Fin 400) (q : Fin 10240) :
    msk d (ix2 r q) = BitVec.ofBool (decide (d (ix2 r q) = Finset.fold min (Ideal.ofBits .f32 0x7F800000#32) (fun x : Fin 10240 => d (ix2 r x)) Finset.univ)) := by
  unfold msk
  pointwise

theorem pay4_at (q : Fin 10240) : (k0_pay4 : FVec Ideal S1x10240 .f32) (ix2 0 q) = FloatOps.sitofp .f32 (BitVec.ofNat 32 q.val) := by
  unfold k0_pay4
  pointwise

theorem word_one (p : Prop) [Decidable p] : (FloatOps.sitofp .f32 (BitVec.setWidth 32 (BitVec.ofBool (decide p))) : Ideal .f32) = if p then (1 : EReal) else 0 := by
  by_cases h : p
  · rw [if_pos h, decide_eq_true h]; simp [FloatOps.sitofp]
  · rw [if_neg h, decide_eq_false h]; simp [FloatOps.sitofp]

theorem eqw_at (c : FVec Ideal S1x10240 .f32) (f : FVec Ideal S400x1 .f32) (r : Fin 400) (q : Fin 10240) :
    (sitofp .f32 (extui 32 (cmpf .oeq (broadcastTo S400x10240 c broadcasts_S1x10240_S400x10240)
      (broadcastTo S400x10240 f broadcasts_S400x1_S400x10240)) natLt_1_32) : FVec Ideal S400x10240 .f32) (ix2 r q)
      = if c (ix2 0 q) = f (ix2 r 0) then (1 : EReal) else 0 := by
  pointwise
  exact word_one _

theorem ohm_at (w : IVec S400x10240 1) (r : Fin 400) (q : Fin 10240) :
    ohm w (ix2 r q) = if (FloatOps.sitofp .f32 (BitVec.ofNat 32 q.val) : Ideal .f32) = fst w (ix2 r 0) then (1 : EReal) else 0 := by
  unfold ohm
  rw [eqw_at, pay4_at]

theorem dst_at (v0 : FVec Ideal S400x8 .f32) (v2 : FVec Ideal S8x10240 .f32) (r : Fin 400) (q : Fin 10240) :
    (k0_pay5 (F := Ideal) v0 v2 : FVec Ideal S400x10240 .f32) (ix2 r q) =
      (∑ x, v0 (ix2 r x) * v0 (ix2 r x)) + ((∑ x, v2 (ix2 x q) * v2 (ix2 x q)) +
          if Ideal.ofBits .f32 0x461C4000#32 ≤ FloatOps.sitofp .f32 (BitVec.ofNat 32 q.val) then Ideal.ofBits .f32 0x7CF0BDC2#32 else 0)
        - Ideal.ofBits .f32 0x40000000#32 * ∑ x, v0 (ix2 r x) * v2 (ix2 x q) := by
  unfold k0_pay5 k0_pay4
  pointwise

theorem fst_at (w : IVec S400x10240 1) (r : Fin 400) :
    fst w (ix2 r 0) = Finset.fold min (Ideal.ofBits .f32 0x7F800000#32)
      (fun x : Fin 10240 => if w (ix2 r x) = 1#1 then (FloatOps.sitofp .f32 (BitVec.ofNat 32 x.val) : Ideal .f32) else Ideal.ofBits .f32 0x4E6E6B28#32) Finset.univ := by
  unfold fst k0_pay4
  pointwise
  simp only [Scalar.select]
  rfl

end scalars

end Cert.KernelIdeal.Whole
-- ==== Proof.Near.lean ====
/-
The nearest points in order, and the smallest entry of a row of distances with its first place.
-/
module

public import proofs.«01_k».proof.Proof.Spec
public import Idealize.ShloMosaic.Lib.SortPrefix
public import Idealize.ShloMosaic.Lib.SortFacts

@[expose] public section

set_option maxRecDepth 16384

noncomputable section

namespace Cert.Spec

open Idealize.ShloMosaic
open scoped BigOperators

theorem before_strict (d : Fin 10000 → EReal) : StrictTotalBefore (before d) :=
  StrictTotalBefore.of_key_then_position (fun a b : EReal => decide (a < b)) d (fun a => by simp)
    (fun a b c h h' => by
      rw [decide_eq_true_eq] at h h' ⊢
      exact lt_trans h h')
    (fun a b => by
      rcases lt_trichotomy a b with h | h | h
      · exact Or.inl (by simpa using h)
      · exact Or.inr (Or.inl h)
      · exact Or.inr (Or.inr (by simpa using h)))

theorem near_injective (d : Fin 10000 → EReal) : Function.Injective (near d) := fun i j h =>
  Fin.castLE_injective _ (sortedFrom_injective (before d) h)

/-- A point that is none of the first `j` nearest and not the next one comes after the next one. -/
theorem near_before (d : Fin 10000 → EReal) (j : Fin 16) (m : Fin 10000) (h : ∀ i : Fin 16, i < j → near d i ≠ m)
    (hm : near d j ≠ m) : before d (near d j) m = true := by
  have hB := before_strict d
  obtain ⟨i, rfl⟩ := sortedFrom_surjective (before d) m
  have hij : (j.castLE (by decide : 16 ≤ 10000)) < i := by
    by_contra hn
    have h1 : i.val ≤ j.val := not_lt.1 hn
    rcases Nat.lt_or_ge i.val j.val with h2 | h2
    · exact h ⟨i.val, by omega⟩ h2 rfl
    · exact hm (congrArg (sortedFrom (before d)) (Fin.ext (le_antisymm h2 h1)))
  have hno : before d (sortedFrom (before d) i) (near d j) = false :=
    sortedFrom_noInversion (before d) (before d)
      (fun a b hab => by
        by_contra hba
        have := hB.trans _ _ _ hab (by simpa using hba)
        rw [hB.irrefl] at this
        exact absurd this (by decide))
      (fun _ _ h => h)
      (fun a b c hab hbc => by
        by_contra hac
        have hac : before d a c = true := by simpa using hac
        by_cases e : a = b
        · subst e; rw [hac] at hbc; exact absurd hbc (by decide)
        · rcases hB.total a b e with h1 | h1
          · rw [h1] at hab; exact absurd hab (by decide)
          · rw [hB.trans _ _ _ h1 hac] at hbc; exact absurd hbc (by decide)) _ _ hij
  rcases hB.total _ _ hm with h1 | h1
  · exact h1
  · rw [h1] at hno; exact absurd hno (by decide)

theorem before_real (f : Fin 10000 → ℝ) (a b : Fin 10000) (h : before (fun m => (f m : EReal)) a b = true) :
    f a < f b ∨ (f a = f b ∧ a < b) := by
  simpa [before] using h

theorem top_word : Ideal.ofBits .f32 0x7F800000#32 = (⊤ : EReal) := by simp [Ideal.ofBits, Ideal.ieee]

theorem fold_min_eq {ι : Type} [Fintype ι] (f : ι → EReal) (a : ι) (h : ∀ x, f a ≤ f x) :
    Finset.fold min (Ideal.ofBits .f32 0x7F800000#32) f Finset.univ = f a := by
  rw [top_word]
  exact le_antisymm ((Finset.fold_min_le _).2 (Or.inr ⟨a, Finset.mem_univ _, le_rfl⟩))
    ((Finset.le_fold_min _).2 ⟨le_top, fun x _ => h x⟩)

/-- The excess added to a point already taken, and to a padding point. -/
abbrev big : ℝ := 15777218 * 2 ^ 99

theorem big_word : Ideal.ofBits .f32 0x7CF0BDC2#32 = ((big : ℝ) : EReal) := by
  simp [Ideal.ofBits, Ideal.ieee, -EReal.coe_mul]

theorem far_word : Ideal.ofBits .f32 0x4E6E6B28#32 = ((1000000000 : ℝ) : EReal) := by
  simp [Ideal.ofBits, Ideal.ieee, -EReal.coe_mul]
  norm_num

theorem pad_word : Ideal.ofBits .f32 0x461C4000#32 = ((10000 : ℝ) : EReal) := by
  simp [Ideal.ofBits, Ideal.ieee, -EReal.coe_mul]
  norm_num

theorem two_word : Ideal.ofBits .f32 0x40000000#32 = ((2 : ℝ) : EReal) := by
  simp [Ideal.ofBits, Ideal.ieee, -EReal.coe_mul]
  norm_num

theorem pos_word (q : ℕ) (h : q < 10240) : (FloatOps.sitofp .f32 (BitVec.ofNat 32 q) : Ideal .f32) = ((q : ℝ) : EReal) := by
  have e : (BitVec.ofNat 32 q).toInt = q := by
    rw [BitVec.toInt_ofNat']
    exact Int.bmod_eq_of_le (by omega) (by omega)
  simp [FloatOps.sitofp, e]

theorem pos_eq (a b : Fin 10240) : ((FloatOps.sitofp .f32 (BitVec.ofNat 32 a.val) : Ideal .f32)
    = (FloatOps.sitofp .f32 (BitVec.ofNat 32 b.val) : Ideal .f32)) ↔ a = b := by
  rw [pos_word _ a.isLt, pos_word _ b.isLt, EReal.coe_eq_coe_iff, Nat.cast_inj, Fin.ext_iff]

/-- The first place of the least entry of a row. -/
theorem first_place (d : Fin 10240 → EReal) (a : Fin 10240) (hmin : ∀ x, d a ≤ d x) (hfirst : ∀ x, x < a → d a < d x) :
    Finset.fold min (Ideal.ofBits .f32 0x7F800000#32)
      (fun x : Fin 10240 => if BitVec.ofBool (decide (d x = Finset.fold min (Ideal.ofBits .f32 0x7F800000#32) d Finset.univ)) = 1#1
        then (FloatOps.sitofp .f32 (BitVec.ofNat 32 x.val) : Ideal .f32) else Ideal.ofBits .f32 0x4E6E6B28#32) Finset.univ
      = (FloatOps.sitofp .f32 (BitVec.ofNat 32 a.val) : Ideal .f32) := by
  rw [fold_min_eq d a hmin]
  have hw : ∀ p : Prop, ∀ _ : Decidable p, BitVec.ofBool (decide p) = 1#1 ↔ p := fun p _ => by by_cases p <;> simp [*]
  refine (fold_min_eq _ a fun x => ?_).trans ?_
  · rw [if_pos ((hw _ _).2 rfl)]
    split_ifs with hx
    · have hx := (hw _ _).1 hx
      have : a ≤ x := not_lt.1 fun h => absurd hx (ne_of_gt (hfirst x h))
      rw [pos_word _ a.isLt, pos_word _ x.isLt]
      exact EReal.coe_le_coe_iff.2 (by exact_mod_cast this)
    · rw [pos_word _ a.isLt, far_word]
      have h2 := a.isLt
      exact EReal.coe_le_coe_iff.2 (by
        have : (a.val : ℝ) ≤ (10240 : ℕ) := Nat.cast_le.2 h2.le
        push_cast at this
        linarith)
  · exact if_pos ((hw _ _).2 rfl)

end Cert.Spec
-- ==== Proof.Knn.lean ====
/-
The rounds of the first call take the nearest points one after the other.
-/
module

public import proofs.«01_k».proof.Proof.Round
public import proofs.«01_k».proof.Proof.Near

@[expose] public section

set_option maxRecDepth 16384

noncomputable section

namespace Cert.KernelIdeal.Whole

open Idealize.ShloMosaic Idealize.ShloMosaic.TcCoe Idealize.ShloMosaic.Tactic
open Cert.KernelIdeal Cert.KernelIdeal.Gen Cert.Spec

/-- The row of a round picks the first place of the least distance. -/
theorem ohm_first (d : FVec Ideal S400x10240 .f32) (r : Fin 400) (a : Fin 10240) (hmin : ∀ x, d (ix2 r a) ≤ d (ix2 r x))
    (hfirst : ∀ x, x < a → d (ix2 r a) < d (ix2 r x)) (q : Fin 10240) : ohm (msk d) (ix2 r q) = if q = a then (1 : EReal) else 0 := by
  have e : fst (msk d) (ix2 r 0) = (FloatOps.sitofp .f32 (BitVec.ofNat 32 a.val) : Ideal .f32) := by
    refine (fst_at _ r).trans ((congrArg (fun g => Finset.fold min (Ideal.ofBits .f32 0x7F800000#32) g Finset.univ) (funext fun x => ?_)).trans
      (first_place (fun x => d (ix2 r x)) a hmin hfirst))
    rw [msk_at]
  rw [ohm_at, e]
  simp only [pos_eq]

section rounds
variable (f : Fin 10000 → ℝ) (S : ℝ)

/-- The distances of one row after `j` rounds: a point already taken and a padding point lie beyond all others. -/
def drow (j : ℕ) (q : Fin 10240) : ℝ :=
  if h : q.val < 10000 then f ⟨q.val, h⟩ + (if ∃ i : Fin 16, i.val < j ∧ near (fun m => (f m : EReal)) i = ⟨q.val, h⟩ then big else 0) else S + big

variable (hf0 : ∀ m, 0 ≤ f m) (hfB : ∀ m, f m < big) (hS : 0 ≤ S)

/-- The place of the next nearest point. -/
def place (j : Fin 16) : Fin 10240 := (near (fun m => (f m : EReal)) j).castLE (by decide)

theorem place_val (j : Fin 16) : (place f j).val = (near (fun m => (f m : EReal)) j).val := by
  unfold place
  exact Fin.val_castLE _ _

theorem place_lt (j : Fin 16) : (place f j).val < 10000 := by
  rw [place_val]
  exact Fin.isLt _

theorem place_mk (j : Fin 16) (h : (place f j).val < 10000) : (⟨(place f j).val, h⟩ : Fin 10000) = near (fun m => (f m : EReal)) j := by
  rw [Fin.ext_iff]
  dsimp only
  rw [place_val]

theorem near_mk (j : Fin 16) (q : Fin 10240) (h : q.val < 10000) : near (fun m => (f m : EReal)) j = ⟨q.val, h⟩ ↔ q = place f j := by
  rw [Fin.ext_iff, Fin.ext_iff, place_val]
  exact eq_comm

theorem drow_place (j : Fin 16) : drow f S j.val (place f j) = f (near (fun m => (f m : EReal)) j) := by
  unfold drow
  rw [dif_pos (place_lt f j), place_mk, if_neg, add_zero]
  · rintro ⟨i, hi, e⟩
    have : i = j := near_injective _ e
    omega

include hf0 hfB hS in
theorem drow_min (j : Fin 16) (x : Fin 10240) :
    drow f S j.val (place f j) ≤ drow f S j.val x ∧ (x < place f j → drow f S j.val (place f j) < drow f S j.val x) := by
  rw [drow_place]
  set a := near (fun m => (f m : EReal)) j with ha
  have hB : f a < big := hfB a
  unfold drow
  by_cases hx : x.val < 10000
  · rw [dif_pos hx]
    split_ifs with ht
    · have := hf0 ⟨x.val, hx⟩
      exact ⟨by linarith, fun _ => by linarith⟩
    · rw [add_zero]
      by_cases e : a = ⟨x.val, hx⟩
      · refine ⟨by rw [e], fun hlt => absurd hlt ?_⟩
        have : x = place f j := (near_mk f j x hx).1 e
        rw [this]
        exact lt_irrefl _
      · rcases before_real f _ _ (near_before _ j ⟨x.val, hx⟩ (fun i hi e => ht ⟨i, hi, e⟩) e) with h1 | ⟨h1, h2⟩
        · exact ⟨h1.le, fun _ => h1⟩
        · refine ⟨h1.le, fun hlt => absurd hlt (not_lt.2 ?_)⟩
          rw [Fin.le_def, place_val]
          exact le_of_lt (Fin.lt_def.1 h2)
  · rw [dif_neg hx]
    exact ⟨by linarith, fun _ => by linarith⟩

theorem drow_succ (j : Fin 16) (q : Fin 10240) :
    drow f S (j.val + 1) q = drow f S j.val q + (if q = place f j then 1 else 0) * big := by
  unfold drow
  by_cases hq : q.val < 10000
  · rw [dif_pos hq, dif_pos hq]
    by_cases e : q = place f j
    · have en : near (fun m => (f m : EReal)) j = ⟨q.val, hq⟩ := (near_mk f j q hq).2 e
      rw [if_pos e, if_pos ⟨j, Nat.lt_succ_self _, en⟩, if_neg, add_zero, one_mul]
      rintro ⟨i, hi, ei⟩
      have : i = j := near_injective _ (ei.trans en.symm)
      omega
    · rw [if_neg e, zero_mul, add_zero]
      refine congrArg (fun t => f ⟨q.val, hq⟩ + t) (if_congr ⟨?_, ?_⟩ rfl rfl)
      · rintro ⟨i, hi, ei⟩
        refine ⟨i, ?_, ei⟩
        rcases Nat.lt_succ_iff_lt_or_eq.1 hi with h | h
        · exact h
        · have : i = j := Fin.ext h
          subst this
          exact absurd ((near_mk f i q hq).1 ei) e
      · rintro ⟨i, hi, ei⟩
        exact ⟨i, Nat.lt_succ_of_lt hi, ei⟩
  · rw [dif_neg hq, dif_neg hq, if_neg, zero_mul, add_zero]
    intro e
    rw [e] at hq
    exact hq (place_lt f j)

variable (d0 : FVec Ideal S400x10240 .f32) (r : Fin 400) (h0 : ∀ q, d0 (ix2 r q) = ((drow f S 0 q : ℝ) : EReal))

include hf0 hfB hS in
theorem ohm_step (d : FVec Ideal S400x10240 .f32) (j : Fin 16) (hd : ∀ q, d (ix2 r q) = ((drow f S j.val q : ℝ) : EReal)) (q : Fin 10240) :
    ohm (msk d) (ix2 r q) = if q = place f j then (1 : EReal) else 0 := by
  refine ohm_first d r _ (fun x => ?_) (fun x hx => ?_) q
  · rw [hd, hd]
    exact EReal.coe_le_coe_iff.2 (drow_min f S hf0 hfB hS j x).1
  · rw [hd, hd]
    exact EReal.coe_lt_coe_iff.2 ((drow_min f S hf0 hfB hS j x).2 hx)

include hf0 hfB hS h0 in
theorem dseq_at (j : ℕ) (hj : j < 16) (q : Fin 10240) : dseq d0 j (ix2 r q) = ((drow f S j q : ℝ) : EReal) := by
  induction j generalizing q with
  | zero => exact h0 q
  | succ j ih =>
    have ih := ih (by omega)
    refine (nxt_at (dseq d0 j) r q).trans ?_
    rw [ohm_step f S hf0 hfB hS r (dseq d0 j) ⟨j, by omega⟩ ih q, ih q, big_word, drow_succ f S ⟨j, by omega⟩ q]
    by_cases e : q = place f ⟨j, by omega⟩
    · rw [if_pos e, if_pos e, one_mul, one_mul, EReal.coe_add]
    · rw [if_neg e, if_neg e, zero_mul, zero_mul, add_zero, add_zero]

include hf0 hfB hS h0 in
/-- Each round writes out the row of the next nearest point. -/
theorem sto_near (x2 : FVec Ideal S10240x8 .f32) (k : Fin 16) (c : Fin 8) :
    (k0_pay9 (F := Ideal) (ohm (msk (dseq d0 k.val))) x2 : FVec Ideal S1x400x8 .f32) (ix3 0 r c) = x2 (ix2 (place f k) c) := by
  rw [sto_at]
  rw [Finset.sum_congr rfl fun q _ => by
    rw [ohm_step f S hf0 hfB hS r (dseq d0 k.val) k (dseq_at f S hf0 hfB hS d0 r h0 k.val k.isLt) q]]
  rw [Finset.sum_eq_single (place f k)]
  · rw [if_pos rfl, one_mul]
  · intro b _ hb
    rw [if_neg hb, zero_mul]
  · intro h
    exact absurd (Finset.mem_univ _) h

end rounds

end Cert.KernelIdeal.Whole
-- ==== Proof.Stat.lean ====
/-
A block of eight rows that carries two running sums: row 0 and row 1 of it are written, one after the other, over a
block of zeros or over what it held.
-/
module

public import proofs.«01_k».proof.Proof.Fold
public import proofs.«01_k».proof.Proof.Spec
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Whole

open Idealize.ShloMosaic Idealize.ShloMosaic.TcCoe Idealize.ShloMosaic.Tactic
open Idealize.ShloMosaic.Pipeline (Dat Cfg Window BodyObligation cellOf)
open Cert.KernelIdeal Cert.KernelIdeal.Gen

section
variable {w : ℕ} (inb0 : ∀ a, (![0, 0] : Fin 2 → ℕ) a + (![1, w] : Fin 2 → ℕ) a ≤ S8x128.size a)
  (inb1 : ∀ a, (![1, 0] : Fin 2 → ℕ) a + (![1, w] : Fin 2 → ℕ) a ≤ S8x128.size a)
  (p0 : (Rect.unit (s := S8x128) ![0, 0] ![1, w] inb0).shape.Idx → Elt Ideal .f32)
  (p1 : (Rect.unit (s := S8x128) ![1, 0] ![1, w] inb1).shape.Idx → Elt Ideal .f32)
  (L : List (View.Piece (Elt Ideal) S8x128 .f32)) (o : Fin w) (l : Fin 128) (hl : l.val = o.val)

include hl

theorem emb_row0 : (Rect.unit (s := S8x128) ![0, 0] ![1, w] inb0).emb (ix2 0 o : (⟨2, ![1, w]⟩ : Shape).Idx) = (ix2 0 l : S8x128.Idx) := by
  refine Rect.emb_eq_of_coords _ _ _ fun a => ?_
  refine Fin.cases ?_ (fun a => Fin.cases ?_ (fun a => a.elim0) a) a
  · rfl
  · change l.val = 0 + 1 * o.val
    omega

theorem emb_row1 : (Rect.unit (s := S8x128) ![1, 0] ![1, w] inb1).emb (ix2 0 o : (⟨2, ![1, w]⟩ : Shape).Idx) = (ix2 1 l : S8x128.Idx) := by
  refine Rect.emb_eq_of_coords _ _ _ fun a => ?_
  refine Fin.cases ?_ (fun a => Fin.cases ?_ (fun a => a.elim0) a) a
  · rfl
  · change l.val = 0 + 1 * o.val
    omega

theorem ld_row0 (v : Vec Ideal S8x128 .f32) : View.ld v (Rect.unit (s := S8x128) ![0, 0] ![1, w] inb0) (ix2 0 o : (⟨2, ![1, w]⟩ : Shape).Idx) = v (ix2 0 l) :=
  congrArg v (emb_row0 inb0 o l hl)

theorem ld_row1 (v : Vec Ideal S8x128 .f32) : View.ld v (Rect.unit (s := S8x128) ![1, 0] ![1, w] inb1) (ix2 0 o : (⟨2, ![1, w]⟩ : Shape).Idx) = v (ix2 1 l) :=
  congrArg v (emb_row1 inb1 o l hl)

theorem canon_row0 : View.canon (⟨Rect.unit (s := S8x128) ![1, 0] ![1, w] inb1, p1⟩ :: ⟨Rect.unit (s := S8x128) ![0, 0] ![1, w] inb0, p0⟩ :: L) (ix2 0 l)
    = p0 (ix2 0 o : (⟨2, ![1, w]⟩ : Shape).Idx) := by
  rw [View.canon_cons_of_not_mem _ _ (Rect.not_mem_set_of_axis _ _ 0 1 1 rfl rfl rfl (Or.inl Nat.zero_lt_one)), ← emb_row0 inb0 o l hl]
  exact View.canon_cons_emb _ _ _ _

theorem canon_row1 : View.canon (⟨Rect.unit (s := S8x128) ![1, 0] ![1, w] inb1, p1⟩ :: ⟨Rect.unit (s := S8x128) ![0, 0] ![1, w] inb0, p0⟩ :: L) (ix2 1 l)
    = p1 (ix2 0 o : (⟨2, ![1, w]⟩ : Shape).Idx) := by
  rw [← emb_row1 inb1 o l hl]
  exact View.canon_cons_emb _ _ _ _

variable {κ : Kind} {sp : Space} (v : View sig κ sp S8x128 .f32) (f : v.ty.Contents (Elt Ideal))

theorem writes_row0 : v.read (Elt Ideal) (v.writes (Elt Ideal) f (⟨Rect.unit (s := S8x128) ![1, 0] ![1, w] inb1, p1⟩ :: ⟨Rect.unit (s := S8x128) ![0, 0] ![1, w] inb0, p0⟩ :: L)) (ix2 0 l)
    = p0 (ix2 0 o : (⟨2, ![1, w]⟩ : Shape).Idx) := by
  rw [View.read_writes_cons_miss_of_axis v f _ _ _ 0 1 1 rfl rfl rfl (Or.inl Nat.zero_lt_one)]
  exact View.read_writes_cons_hit v f _ _ _ _ _ (emb_row0 inb0 o l hl)

theorem writes_row1 : v.read (Elt Ideal) (v.writes (Elt Ideal) f (⟨Rect.unit (s := S8x128) ![1, 0] ![1, w] inb1, p1⟩ :: ⟨Rect.unit (s := S8x128) ![0, 0] ![1, w] inb0, p0⟩ :: L)) (ix2 1 l)
    = p1 (ix2 0 o : (⟨2, ![1, w]⟩ : Shape).Idx) :=
  View.read_writes_cons_hit v f _ _ _ _ _ (emb_row1 inb1 o l hl)

end

end Cert.KernelIdeal.Whole
-- ==== Proof.Val1.lean ====
/-
The second call (the first convolution), as the values it leaves: its rows, and the two sums of each column.
-/
module

public import proofs.«01_k».proof.Proof.Stat

@[expose] public section

set_option maxRecDepth 16384

noncomputable section

namespace Cert.KernelIdeal.Whole

open Idealize.ShloMosaic Idealize.ShloMosaic.TcCoe Idealize.ShloMosaic.Tactic
open Idealize.ShloMosaic.Pipeline (Dat Cfg Window BodyObligation cellOf)
open Cert.KernelIdeal Cert.KernelIdeal.Gen

variable (V : (c : Dev nD) → (b : Ref sig .tc) → Buf (Elt Ideal) ((c : Thread nD τ).loc b))

/-- A row of a matrix product with a bias. -/
def rowOf {R K N : ℕ} (X : FVec Ideal ⟨2, ![R, K]⟩ .f32) (W : FVec Ideal ⟨2, ![K, N]⟩ .f32) (b : FVec Ideal ⟨2, ![1, N]⟩ .f32) (r : Fin R) (o : Fin N) : EReal :=
  (∑ j : Fin K, X (ix2 r j) * W (ix2 j o)) + b (ix2 0 o)

/-- The second call's rows. -/
def row1 (c : Dev nD) (R : Fin 160000) (o : Fin 32) : EReal :=
  rowOf (R := 160000) (K := 16) (N := 32) (V c main_v21) (V c main_v32) (V c main_v33) R o

/-- The same sums over one block. -/
def blk1 (c : Dev nD) (t : Fin cfg1.N) (r : Fin 20000) (o : Fin 32) : EReal :=
  (k1_pay2 (iblk1 V c 0 t) (iblk1 V c 1 t) (iblk1 V c 2 t) : FVec Ideal S20000x32 .f32) (ix2 r o)

theorem k1_pay2_at (x0 : FVec Ideal S20000x16 .f32) (x1 : FVec Ideal S16x32 .f32) (x2 : FVec Ideal S1x32 .f32) (r : Fin 20000) (o : Fin 32) :
    (k1_pay2 (F := Ideal) x0 x1 x2 : FVec Ideal S20000x32 .f32) (ix2 r o) = rowOf (R := 20000) (K := 16) (N := 32) x0 x1 x2 r o := by
  unfold k1_pay2 rowOf
  pointwise

theorem k1_pay3_at (x0 : FVec Ideal S20000x16 .f32) (x1 : FVec Ideal S16x32 .f32) (x2 : FVec Ideal S1x32 .f32) (v : FVec Ideal S1x32 .f32) (o : Fin 32) :
    (k1_pay3 x0 x1 x2 v : FVec Ideal S1x32 .f32) (ix2 0 o) = v (ix2 0 o) + ∑ r : Fin 20000, (k1_pay2 (F := Ideal) x0 x1 x2 : FVec Ideal S20000x32 .f32) (ix2 r o) := by
  unfold k1_pay3
  generalize k1_pay2 (F := Ideal) x0 x1 x2 = y
  pointwise

theorem k1_pay4_at (x0 : FVec Ideal S20000x16 .f32) (x1 : FVec Ideal S16x32 .f32) (x2 : FVec Ideal S1x32 .f32) (v : FVec Ideal S1x32 .f32) (o : Fin 32) :
    (k1_pay4 x0 x1 x2 v : FVec Ideal S1x32 .f32) (ix2 0 o)
      = v (ix2 0 o) + ∑ r : Fin 20000, (k1_pay2 (F := Ideal) x0 x1 x2 : FVec Ideal S20000x32 .f32) (ix2 r o) * (k1_pay2 (F := Ideal) x0 x1 x2 : FVec Ideal S20000x32 .f32) (ix2 r o) := by
  unfold k1_pay4
  generalize k1_pay2 (F := Ideal) x0 x1 x2 = y
  pointwise

theorem k1_pay1_at (i : S8x128.Idx) : (k1_pay1 : FVec Ideal S8x128 .f32) i = (0 : EReal) := Ideal.ofBits_zero_f32

theorem outs1_y (c : Dev nD) (t : Fin cfg1.N) :
    (outsAt1 V c t.val t.isLt).1 = k1_pay2 (iblk1 V c 0 t) (iblk1 V c 1 t) (iblk1 V c 2 t) := by
  by_cases h0 : t.val % 8 = 0
  · rw [outsAt1_A V c t h0]
    dsimp only
    unfold out1_A_3 kernelRun1_A
    frame_out
  · rw [outsAt1_B V c t h0]
    dsimp only
    unfold out1_B_3 kernelRun1_B
    frame_out

theorem outs1_A (c : Dev nD) (t : Fin cfg1.N) (h0 : t.val % 8 = 0) (o : Fin 32) (l : Fin 128) (hl : l.val = o.val) :
    (outsAt1 V c t.val t.isLt).2 (ix2 0 l) = (0 : EReal) + ∑ r : Fin 20000, blk1 V c t r o
      ∧ (outsAt1 V c t.val t.isLt).2 (ix2 1 l) = (0 : EReal) + ∑ r : Fin 20000, blk1 V c t r o * blk1 V c t r o := by
  rw [outsAt1_A V c t h0]
  dsimp only
  unfold out1_A_4 kernelRun1_A
  frame_out
  constructor
  · refine (canon_row0 _ _ _ _ _ o l hl).trans ((k1_pay3_at _ _ _ _ o).trans (congrArg (· + _) ?_))
    rw [View.readCov_fill _ _ _ _ _ (by decide)]
    exact (ld_row0 _ o l hl _).trans (k1_pay1_at _)
  · refine (canon_row1 _ _ _ _ _ o l hl).trans ((k1_pay4_at _ _ _ _ o).trans (congrArg (· + _) ?_))
    rw [View.readCov_skip _ _ _ _ _ (by decide), View.readCov_fill _ _ _ _ _ (by decide)]
    exact (ld_row1 _ o l hl _).trans (k1_pay1_at _)

theorem outs1_B (c : Dev nD) (t : Fin cfg1.N) (h0 : ¬ t.val % 8 = 0) (o : Fin 32) (l : Fin 128) (hl : l.val = o.val) :
    (outsAt1 V c t.val t.isLt).2 (ix2 0 l)
        = (outsAt1 V c (t.val - 1) (Nat.lt_of_le_of_lt (Nat.sub_le _ _) t.isLt)).2 (ix2 0 l) + ∑ r : Fin 20000, blk1 V c t r o
      ∧ (outsAt1 V c t.val t.isLt).2 (ix2 1 l)
        = (outsAt1 V c (t.val - 1) (Nat.lt_of_le_of_lt (Nat.sub_le _ _) t.isLt)).2 (ix2 1 l) + ∑ r : Fin 20000, blk1 V c t r o * blk1 V c t r o := by
  rw [outsAt1_B V c t h0]
  dsimp only
  unfold out1_B_4 kernelRun1_B
  frame_out
  constructor
  · refine (writes_row0 _ _ _ _ _ o l hl _ _).trans ((k1_pay3_at _ _ _ _ o).trans (congrArg (· + _) ?_))
    exact ld_row0 _ o l hl _
  · refine (writes_row1 _ _ _ _ _ o l hl _ _).trans ((k1_pay4_at _ _ _ _ o).trans (congrArg (· + _) ?_))
    exact ld_row1 _ o l hl _

theorem idx1 : ∀ t : Fin cfg1.N, ((cfg1.win 0).index t 0 = t.val ∧ (cfg1.win 0).index t 1 = 0)
    ∧ ((cfg1.win 1).index t 0 = 0 ∧ (cfg1.win 1).index t 1 = 0) ∧ ((cfg1.win 2).index t 0 = 0 ∧ (cfg1.win 2).index t 1 = 0)
    ∧ ((cfg1.win 3).index t 0 = t.val ∧ (cfg1.win 3).index t 1 = 0) ∧ ((cfg1.win 4).index t 0 = 0 ∧ (cfg1.win 4).index t 1 = 0) := by
  decide +kernel

theorem blk1_eq (c : Dev nD) (t : Fin cfg1.N) (r : Fin 20000) (o : Fin 32) (R : Fin 160000) (hR : R.val = 20000 * t.val + r.val) :
    blk1 V c t r o = row1 V c R o := by
  unfold blk1
  rw [k1_pay2_at]
  unfold row1 rowOf
  refine congrArg₂ (· + ·) (Finset.sum_congr rfl fun j _ => congrArg₂ (· * ·) ?_ ?_) ?_ <;> blk_ext [iblk1, idx1 t]

theorem y1_at (c : Dev nD) (R : Fin 160000) (o : Fin 32) :
    ((dat1 V c).arrAt 3 cfg1.N : FVec Ideal S160000x32 .f32) (ix2 R o) = row1 V c R o := by
  have h : (dat1 V c).arrAt 3 cfg1.N = (fun i => row1 V c (i 0) (i 1) : FVec Ideal S160000x32 .f32) := by
    refine (dat1 V c).arrAt_eq_of_covers 3 _ (by decide +kernel) fun t hf y => ?_
    blk_simp
    rw [after1_3, outs1_y]
    have hy : y = (ix2 (y 0) (y 1) : S20000x32.Idx) := by
      funext a
      exact Fin.cases rfl (fun a => Fin.cases rfl (fun a => a.elim0) a) a
    refine (congrArg _ hy).trans ((blk1_eq V c t (y 0) (y 1) ((win1_3.blk t).view.emb y 0) ?_).trans (congrArg (row1 V c _) ?_))
    · have hi := (idx1 t).2.2.2.1.1
      blk_simp [hi]
      omega
    · apply Fin.ext
      have hi := (idx1 t).2.2.2.1.2
      blk_simp [hi]
  rw [h]
  rfl

theorem st1_eq (c : Dev nD) : ((dat1 V c).arrAt 4 cfg1.N : FVec Ideal S8x128 .f32) = (outsAt1 V c 7 (by decide)).2 := by
  refine (dat1 V c).arrAt_eq_of_after_last 4 ⟨7, by decide⟩ (by decide +kernel) _ fun j => ?_
  rw [after1_4]
  rfl

/-- The two sums of each column over all rows. -/
theorem st1_at (c : Dev nD) (o : Fin 32) (l : Fin 128) (hl : l.val = o.val) :
    ((dat1 V c).arrAt 4 cfg1.N : FVec Ideal S8x128 .f32) (ix2 0 l) = ∑ R : Fin 160000, row1 V c R o
      ∧ ((dat1 V c).arrAt 4 cfg1.N : FVec Ideal S8x128 .f32) (ix2 1 l) = ∑ R : Fin 160000, row1 V c R o * row1 V c R o := by
  rw [st1_eq]
  have e0 := Pipeline.eq_sum_fin_of_reset_step_apply_last (fun n h (_ : Unit) => (outsAt1 V c n h).2 (ix2 0 l)) 8 (fun _ => (0 : EReal)) _
    (fun t h _ => (outs1_A V c t h o l hl).1) (fun t h _ => (outs1_B V c t h o l hl).1) (by decide) ⟨7, by decide⟩ rfl ()
  have e1 := Pipeline.eq_sum_fin_of_reset_step_apply_last (fun n h (_ : Unit) => (outsAt1 V c n h).2 (ix2 1 l)) 8 (fun _ => (0 : EReal)) _
    (fun t h _ => (outs1_A V c t h o l hl).2) (fun t h _ => (outs1_B V c t h o l hl).2) (by decide) ⟨7, by decide⟩ rfl ()
  have hb : ∀ (p : Fin cfg1.N) (r : Fin 20000) (h : p.val * 20000 + r.val < 160000), blk1 V c p r o = row1 V c ⟨p.val * 20000 + r.val, h⟩ o :=
    fun p r h => blk1_eq V c p r o _ (by show p.val * 20000 + r.val = _; omega)
  constructor
  · refine e0.trans ((zero_add _).trans (Eq.trans ?_ (Fin.sum_mul_add_fin 8 20000 (fun R : Fin 160000 => row1 V c R o) rfl)))
    exact Finset.sum_congr rfl fun p _ => Finset.sum_congr rfl fun r _ => hb p r _
  · refine e1.trans ((zero_add _).trans (Eq.trans ?_ (Fin.sum_mul_add_fin 8 20000 (fun R : Fin 160000 => row1 V c R o * row1 V c R o) rfl)))
    exact Finset.sum_congr rfl fun p _ => Finset.sum_congr rfl fun r _ => congrArg₂ (· * ·) (hb p r _) (hb p r _)

end Cert.KernelIdeal.Whole
-- ==== Proof.Val2.lean ====
/-
The third call (normalise, activate, the second convolution), as the values it leaves.
-/
module

public import proofs.«01_k».proof.Proof.Val1

@[expose] public section

set_option maxRecDepth 16384

noncomputable section

namespace Cert.KernelIdeal.Whole

open Idealize.ShloMosaic Idealize.ShloMosaic.TcCoe Idealize.ShloMosaic.Tactic
open Idealize.ShloMosaic.Pipeline (Dat Cfg Window BodyObligation cellOf)
open Cert.KernelIdeal Cert.KernelIdeal.Gen Cert.Spec

/-- The scale of a normalised channel, from the two sums of its group. -/
def scaleOf {C : ℕ} (m : ℕ) (cnt : EReal) (S SS : Fin C → EReal) (γ : EReal) (c : Fin C) : EReal :=
  Ideal.div γ (Ideal.sqrt ((Ideal.div (gsum m SS (c.val / m)) cnt
    - Ideal.div (gsum m S (c.val / m)) cnt * Ideal.div (gsum m S (c.val / m)) cnt) + eps))

/-- A value normalised by scale and shift, then activated. -/
def actOf {C : ℕ} (m : ℕ) (cnt : EReal) (S SS : Fin C → EReal) (γ β y : EReal) (c : Fin C) : EReal :=
  elu (y * scaleOf m cnt S SS γ c + (β - Ideal.div (gsum m S (c.val / m)) cnt * scaleOf m cnt S SS γ c))

/-- The matrix of a channel's group. -/
def hot {C : ℕ} (m : ℕ) (G : FVec Ideal ⟨2, ![C, 8]⟩ .f32) : Prop := ∀ (c : Fin C) (g : Fin 8), G (ix2 c g) = if c.val / m = g.val then (1 : EReal) else 0

/-- Its transpose. -/
def hotT {C : ℕ} (m : ℕ) (G : FVec Ideal ⟨2, ![8, C]⟩ .f32) : Prop := ∀ (g : Fin 8) (c : Fin C), G (ix2 g c) = if c.val / m = g.val then (1 : EReal) else 0

theorem dot_hot {C : ℕ} (m : ℕ) (G : FVec Ideal ⟨2, ![C, 8]⟩ .f32) (hG : hot m G) (f : Fin C → EReal) (g : Fin 8) :
    (∑ x : Fin C, f x * G (ix2 x g)) = gsum m f g.val :=
  (Finset.sum_congr rfl fun x _ => congrArg (f x * ·) (hG x g)).trans (sum_mul_hot m f g.val)

theorem dot_hotT {C : ℕ} (m : ℕ) (G : FVec Ideal ⟨2, ![8, C]⟩ .f32) (hG : hotT m G) (f : Fin 8 → EReal) (c : Fin C) (hc : c.val / m < 8) :
    (∑ x : Fin 8, f x * G (ix2 x c)) = f ⟨c.val / m, hc⟩ :=
  (Finset.sum_congr rfl fun x _ => congrArg (f x * ·) (hG x c)).trans (sum_mul_hot_group f _ hc)

theorem k2_pay2_at (s : FVec Ideal S1x32 .f32) (G : FVec Ideal S32x8 .f32) (hG : hot (C := 32) 4 G) (g : Fin 8) :
    (k2_pay2 (F := Ideal) s G : FVec Ideal S1x8 .f32) (ix2 0 g)
      = Ideal.div (gsum 4 (fun c : Fin 32 => s (ix2 0 c)) g.val) (Ideal.ofBits .f32 0x491C4000#32) := by
  unfold k2_pay2
  pointwise
  rw [dot_hot (C := 32) 4 G hG (fun c => s (ix2 0 c)) g]

theorem k2_pay3_at (s : FVec Ideal S1x32 .f32) (G : FVec Ideal S32x8 .f32) (GT : FVec Ideal S8x32 .f32) (hG : hot (C := 32) 4 G) (hGT : hotT (C := 32) 4 GT) (c : Fin 32) :
    (k2_pay3 (F := Ideal) s G GT : FVec Ideal S1x32 .f32) (ix2 0 c)
      = Ideal.div (gsum 4 (fun c : Fin 32 => s (ix2 0 c)) (c.val / 4)) (Ideal.ofBits .f32 0x491C4000#32) := by
  have h := k2_pay2_at s G hG
  unfold k2_pay3
  generalize k2_pay2 (F := Ideal) s G = v at h ⊢
  pointwise
  exact (dot_hotT (C := 32) 4 GT hGT (fun x => v (ix2 0 x)) c (by omega)).trans (h _)

theorem k2_pay4_at (s ss γ : FVec Ideal S1x32 .f32) (G : FVec Ideal S32x8 .f32) (GT : FVec Ideal S8x32 .f32) (hG : hot (C := 32) 4 G) (hGT : hotT (C := 32) 4 GT) (c : Fin 32) :
    (k2_pay4 (F := Ideal) s ss G G GT γ : FVec Ideal S1x32 .f32) (ix2 0 c)
      = scaleOf 4 (Ideal.ofBits .f32 0x491C4000#32) (fun c : Fin 32 => s (ix2 0 c)) (fun c : Fin 32 => ss (ix2 0 c)) (γ (ix2 0 c)) c := by
  have h := k2_pay2_at s G hG
  unfold k2_pay4
  generalize k2_pay2 (F := Ideal) s G = v at h ⊢
  pointwise
  refine congrArg (fun z => Ideal.div (γ (ix2 0 c)) (Ideal.sqrt (z + eps))) ((dot_hotT (C := 32) 4 GT hGT (fun x => Ideal.div (∑ x_1 : Fin 32, ss (ix2 0 x_1) * G (ix2 x_1 x)) (Ideal.ofBits .f32 0x491C4000#32) - v (ix2 0 x) * v (ix2 0 x)) c (by omega)).trans ?_)
  simp only [h]
  rw [dot_hot (C := 32) 4 G hG (fun c => ss (ix2 0 c))]

theorem k2_pay6_at (mean scale β : FVec Ideal S1x32 .f32) (y : FVec Ideal S20000x32 .f32) (W : FVec Ideal S32x64 .f32) (b : FVec Ideal S1x64 .f32) (r : Fin 20000) (q : Fin 64) :
    (k2_pay6 (F := Ideal) mean scale (k2_pay5 β) y W b : FVec Ideal S20000x64 .f32) (ix2 r q)
      = (∑ c : Fin 32, elu (y (ix2 r c) * scale (ix2 0 c) + (β (ix2 0 c) - mean (ix2 0 c) * scale (ix2 0 c))) * W (ix2 c q)) + b (ix2 0 q) := by
  unfold k2_pay6 k2_pay5
  simp only [← elu_min]
  pointwise

theorem k2_pay7_at (mean scale β : FVec Ideal S1x32 .f32) (y : FVec Ideal S20000x32 .f32) (W : FVec Ideal S32x64 .f32) (b v : FVec Ideal S1x64 .f32) (q : Fin 64) :
    (k2_pay7 (F := Ideal) mean scale β y W b v : FVec Ideal S1x64 .f32) (ix2 0 q)
      = v (ix2 0 q) + ∑ r : Fin 20000, (k2_pay6 (F := Ideal) mean scale β y W b : FVec Ideal S20000x64 .f32) (ix2 r q) := by
  unfold k2_pay7
  generalize k2_pay6 (F := Ideal) mean scale β y W b = z
  pointwise

theorem k2_pay8_at (mean scale β : FVec Ideal S1x32 .f32) (y : FVec Ideal S20000x32 .f32) (W : FVec Ideal S32x64 .f32) (b v : FVec Ideal S1x64 .f32) (q : Fin 64) :
    (k2_pay8 (F := Ideal) mean scale β y W b v : FVec Ideal S1x64 .f32) (ix2 0 q)
      = v (ix2 0 q) + ∑ r : Fin 20000, (k2_pay6 (F := Ideal) mean scale β y W b : FVec Ideal S20000x64 .f32) (ix2 r q)
          * (k2_pay6 (F := Ideal) mean scale β y W b : FVec Ideal S20000x64 .f32) (ix2 r q) := by
  unfold k2_pay8
  generalize k2_pay6 (F := Ideal) mean scale β y W b = z
  pointwise

theorem k2_pay1_at (i : S8x128.Idx) : (k2_pay1 : FVec Ideal S8x128 .f32) i = (0 : EReal) := Ideal.ofBits_zero_f32

variable (V : (c : Dev nD) → (b : Ref sig .tc) → Buf (Elt Ideal) ((c : Thread nD τ).loc b))

/-- The first 32 lanes of a row of the block of sums. -/
theorem inb32 (r : Fin 2) : ∀ a, (![r.val, 0] : Fin 2 → ℕ) a + (![1, 32] : Fin 2 → ℕ) a ≤ S8x128.size a := by
  revert r; decide

/-- The block of rows a grid point writes. -/
def pay2 (x0 : FVec Ideal S20000x32 .f32) (x1 : FVec Ideal S8x128 .f32) (x2 : FVec Ideal S32x8 .f32) (x3 : FVec Ideal S8x32 .f32)
    (x4 x5 : FVec Ideal S1x32 .f32) (x6 : FVec Ideal S32x64 .f32) (x7 : FVec Ideal S1x64 .f32) : FVec Ideal S20000x64 .f32 :=
  k2_pay6 (k2_pay3 (View.ld x1 (Rect.unit (s := S8x128) ![0, 0] ![1, 32] (inb32 0))) x2 x3)
    (k2_pay4 (View.ld x1 (Rect.unit (s := S8x128) ![0, 0] ![1, 32] (inb32 0))) (View.ld x1 (Rect.unit (s := S8x128) ![1, 0] ![1, 32] (inb32 1))) x2 x2 x3 x4)
    (k2_pay5 x5) x0 x6 x7

theorem outs2_y (c : Dev nD) (t : Fin cfg2.N) :
    (outsAt2 V c t.val t.isLt).1 = pay2 (iblk2 V c 0 t) (iblk2 V c 1 t) (iblk2 V c 2 t) (iblk2 V c 3 t) (iblk2 V c 4 t) (iblk2 V c 5 t) (iblk2 V c 6 t) (iblk2 V c 7 t) := by
  unfold pay2
  by_cases h0 : t.val % 8 = 0
  · rw [outsAt2_A V c t h0]
    dsimp only
    unfold out2_A_8 kernelRun2_A
    frame_out
  · rw [outsAt2_B V c t h0]
    dsimp only
    unfold out2_B_8 kernelRun2_B
    frame_out

/-- One block's rows. -/
def blk2 (c : Dev nD) (t : Fin cfg2.N) (r : Fin 20000) (q : Fin 64) : EReal :=
  pay2 (iblk2 V c 0 t) (iblk2 V c 1 t) (iblk2 V c 2 t) (iblk2 V c 3 t) (iblk2 V c 4 t) (iblk2 V c 5 t) (iblk2 V c 6 t) (iblk2 V c 7 t) (ix2 r q)

theorem outs2_A (c : Dev nD) (t : Fin cfg2.N) (h0 : t.val % 8 = 0) (o : Fin 64) (l : Fin 128) (hl : l.val = o.val) :
    (outsAt2 V c t.val t.isLt).2 (ix2 0 l) = (0 : EReal) + ∑ r : Fin 20000, blk2 V c t r o
      ∧ (outsAt2 V c t.val t.isLt).2 (ix2 1 l) = (0 : EReal) + ∑ r : Fin 20000, blk2 V c t r o * blk2 V c t r o := by
  rw [outsAt2_A V c t h0]
  dsimp only
  unfold out2_A_9 kernelRun2_A
  frame_out
  constructor
  · refine (canon_row0 _ _ _ _ _ o l hl).trans ((k2_pay7_at _ _ _ _ _ _ _ o).trans (congrArg (· + _) ?_))
    rw [View.readCov_fill _ _ _ _ _ (by decide)]
    exact (ld_row0 _ o l hl _).trans (k2_pay1_at _)
  · refine (canon_row1 _ _ _ _ _ o l hl).trans ((k2_pay8_at _ _ _ _ _ _ _ o).trans (congrArg (· + _) ?_))
    rw [View.readCov_skip _ _ _ _ _ (by decide), View.readCov_fill _ _ _ _ _ (by decide)]
    exact (ld_row1 _ o l hl _).trans (k2_pay1_at _)

theorem outs2_B (c : Dev nD) (t : Fin cfg2.N) (h0 : ¬ t.val % 8 = 0) (o : Fin 64) (l : Fin 128) (hl : l.val = o.val) :
    (outsAt2 V c t.val t.isLt).2 (ix2 0 l)
        = (outsAt2 V c (t.val - 1) (Nat.lt_of_le_of_lt (Nat.sub_le _ _) t.isLt)).2 (ix2 0 l) + ∑ r : Fin 20000, blk2 V c t r o
      ∧ (outsAt2 V c t.val t.isLt).2 (ix2 1 l)
        = (outsAt2 V c (t.val - 1) (Nat.lt_of_le_of_lt (Nat.sub_le _ _) t.isLt)).2 (ix2 1 l) + ∑ r : Fin 20000, blk2 V c t r o * blk2 V c t r o := by
  rw [outsAt2_B V c t h0]
  dsimp only
  unfold out2_B_9 kernelRun2_B
  frame_out
  constructor
  · refine (writes_row0 _ _ _ _ _ o l hl _ _).trans ((k2_pay7_at _ _ _ _ _ _ _ o).trans (congrArg (· + _) ?_))
    exact ld_row0 _ o l hl _
  · refine (writes_row1 _ _ _ _ _ o l hl _ _).trans ((k2_pay8_at _ _ _ _ _ _ _ o).trans (congrArg (· + _) ?_))
    exact ld_row1 _ o l hl _

theorem idx2 : ∀ t : Fin cfg2.N, ((cfg2.win 0).index t 0 = t.val ∧ (cfg2.win 0).index t 1 = 0)
    ∧ ((cfg2.win 1).index t 0 = 0 ∧ (cfg2.win 1).index t 1 = 0) ∧ ((cfg2.win 2).index t 0 = 0 ∧ (cfg2.win 2).index t 1 = 0)
    ∧ ((cfg2.win 3).index t 0 = 0 ∧ (cfg2.win 3).index t 1 = 0) ∧ ((cfg2.win 4).index t 0 = 0 ∧ (cfg2.win 4).index t 1 = 0)
    ∧ ((cfg2.win 5).index t 0 = 0 ∧ (cfg2.win 5).index t 1 = 0) ∧ ((cfg2.win 6).index t 0 = 0 ∧ (cfg2.win 6).index t 1 = 0)
    ∧ ((cfg2.win 7).index t 0 = 0 ∧ (cfg2.win 7).index t 1 = 0) ∧ ((cfg2.win 8).index t 0 = t.val ∧ (cfg2.win 8).index t 1 = 0) := by
  decide +kernel

/-- The third call's rows, over arrays. -/
def rows2 (y : FVec Ideal S160000x32 .f32) (st : FVec Ideal S8x128 .f32) (γ β : FVec Ideal S1x32 .f32) (W : FVec Ideal S32x64 .f32)
    (b : FVec Ideal S1x64 .f32) (R : Fin 160000) (q : Fin 64) : EReal :=
  (∑ c : Fin 32, actOf 4 (Ideal.ofBits .f32 0x491C4000#32) (fun c : Fin 32 => st (ix2 0 ⟨c.val, by omega⟩)) (fun c : Fin 32 => st (ix2 1 ⟨c.val, by omega⟩))
    (γ (ix2 0 c)) (β (ix2 0 c)) (y (ix2 R c)) c * W (ix2 c q)) + b (ix2 0 q)

theorem pay2_at (x0 : FVec Ideal S20000x32 .f32) (x1 : FVec Ideal S8x128 .f32) (x2 : FVec Ideal S32x8 .f32) (x3 : FVec Ideal S8x32 .f32)
    (x4 x5 : FVec Ideal S1x32 .f32) (x6 : FVec Ideal S32x64 .f32) (x7 : FVec Ideal S1x64 .f32) (h2 : hot (C := 32) 4 x2) (h3 : hotT (C := 32) 4 x3)
    (y : FVec Ideal S160000x32 .f32) (r : Fin 20000) (R : Fin 160000) (hy : ∀ c : Fin 32, x0 (ix2 r c) = y (ix2 R c)) (q : Fin 64) :
    pay2 x0 x1 x2 x3 x4 x5 x6 x7 (ix2 r q) = rows2 y x1 x4 x5 x6 x7 R q := by
  unfold pay2
  rw [k2_pay6_at]
  unfold rows2 actOf
  refine congrArg (· + _) (Finset.sum_congr rfl fun c _ => congrArg (· * _) ?_)
  rw [k2_pay3_at _ _ _ h2 h3, k2_pay4_at _ _ _ _ _ h2 h3, hy]
  exact congrArg₂ (fun S SS => elu (y (ix2 R c) * scaleOf 4 (Ideal.ofBits .f32 0x491C4000#32) S SS (x4 (ix2 0 c)) c
    + (x5 (ix2 0 c) - Ideal.div (gsum 4 S (c.val / 4)) (Ideal.ofBits .f32 0x491C4000#32) * scaleOf 4 (Ideal.ofBits .f32 0x491C4000#32) S SS (x4 (ix2 0 c)) c)))
    (funext fun c => ld_row0 (inb32 0) c ⟨c.val, by omega⟩ rfl x1) (funext fun c => ld_row1 (inb32 1) c ⟨c.val, by omega⟩ rfl x1)

theorem ext2 {α : Type} {A B : ℕ} (f g : (⟨2, ![A, B]⟩ : Shape).Idx → α) (h : ∀ (a : Fin A) (b : Fin B), f (ix2 a b) = g (ix2 a b)) : f = g := by
  funext i
  have hi : i = ix2 (i 0) (i 1) := by
    funext a
    exact Fin.cases rfl (fun a => Fin.cases rfl (fun a => a.elim0) a) a
  exact (congrArg f hi).trans ((h _ _).trans (congrArg g hi).symm)

theorem whole2_1 (c : Dev nD) (t : Fin cfg2.N) : iblk2 V c 1 t = V c main_v34_1 :=
  ext2 (A := 8) (B := 128) _ _ fun a b => by blk_ext [iblk2, idx2 t]

theorem whole2_2 (c : Dev nD) (t : Fin cfg2.N) : iblk2 V c 2 t = V c main_v43 :=
  ext2 (A := 32) (B := 8) _ _ fun a b => by blk_ext [iblk2, idx2 t]

theorem whole2_3 (c : Dev nD) (t : Fin cfg2.N) : iblk2 V c 3 t = V c main_v53 :=
  ext2 (A := 8) (B := 32) _ _ fun a b => by blk_ext [iblk2, idx2 t]

theorem whole2_4 (c : Dev nD) (t : Fin cfg2.N) : iblk2 V c 4 t = V c main_v54 :=
  ext2 (A := 1) (B := 32) _ _ fun a b => by blk_ext [iblk2, idx2 t]

theorem whole2_5 (c : Dev nD) (t : Fin cfg2.N) : iblk2 V c 5 t = V c main_v55 :=
  ext2 (A := 1) (B := 32) _ _ fun a b => by blk_ext [iblk2, idx2 t]

theorem whole2_6 (c : Dev nD) (t : Fin cfg2.N) : iblk2 V c 6 t = V c main_v56 :=
  ext2 (A := 32) (B := 64) _ _ fun a b => by blk_ext [iblk2, idx2 t]

theorem whole2_7 (c : Dev nD) (t : Fin cfg2.N) : iblk2 V c 7 t = V c main_v57 :=
  ext2 (A := 1) (B := 64) _ _ fun a b => by blk_ext [iblk2, idx2 t]

theorem blk2_eq (c : Dev nD) (h2 : hot (C := 32) 4 (V c main_v43)) (h3 : hotT (C := 32) 4 (V c main_v53)) (t : Fin cfg2.N) (r : Fin 20000) (q : Fin 64)
    (R : Fin 160000) (hR : R.val = 20000 * t.val + r.val) :
    blk2 V c t r q = rows2 (V c main_v34_0) (V c main_v34_1) (V c main_v54) (V c main_v55) (V c main_v56) (V c main_v57) R q := by
  unfold blk2
  rw [whole2_1, whole2_2, whole2_3, whole2_4, whole2_5, whole2_6, whole2_7]
  exact pay2_at _ _ _ _ _ _ _ _ h2 h3 _ r R (fun o => by blk_ext [iblk2, idx2 t]) q

theorem y2_at (c : Dev nD) (h2 : hot (C := 32) 4 (V c main_v43)) (h3 : hotT (C := 32) 4 (V c main_v53)) (R : Fin 160000) (q : Fin 64) :
    ((dat2 V c).arrAt 8 cfg2.N : FVec Ideal S160000x64 .f32) (ix2 R q)
      = rows2 (V c main_v34_0) (V c main_v34_1) (V c main_v54) (V c main_v55) (V c main_v56) (V c main_v57) R q := by
  have h : (dat2 V c).arrAt 8 cfg2.N
      = (fun i => rows2 (V c main_v34_0) (V c main_v34_1) (V c main_v54) (V c main_v55) (V c main_v56) (V c main_v57) (i 0) (i 1) : FVec Ideal S160000x64 .f32) := by
    refine (dat2 V c).arrAt_eq_of_covers 8 _ (by decide +kernel) fun t hf y => ?_
    blk_simp
    rw [after2_8, outs2_y]
    have hy : y = (ix2 (y 0) (y 1) : S20000x64.Idx) := by
      funext a
      exact Fin.cases rfl (fun a => Fin.cases rfl (fun a => a.elim0) a) a
    refine (congrArg _ hy).trans ((blk2_eq V c h2 h3 t (y 0) (y 1) ((win2_8.blk t).view.emb y 0) ?_).trans
      (congrArg (rows2 (V c main_v34_0) (V c main_v34_1) (V c main_v54) (V c main_v55) (V c main_v56) (V c main_v57) _) ?_))
    · have hi := (idx2 t).2.2.2.2.2.2.2.2.1
      blk_simp [hi]
      omega
    · apply Fin.ext
      have hi := (idx2 t).2.2.2.2.2.2.2.2.2
      blk_simp [hi]
  rw [h]
  rfl

theorem st2_eq (c : Dev nD) : ((dat2 V c).arrAt 9 cfg2.N : FVec Ideal S8x128 .f32) = (outsAt2 V c 7 (by decide)).2 := by
  refine (dat2 V c).arrAt_eq_of_after_last 9 ⟨7, by decide⟩ (by decide +kernel) _ fun j => ?_
  rw [after2_9]
  rfl

/-- The two sums of each column over all rows. -/
theorem st2_at (c : Dev nD) (h2 : hot (C := 32) 4 (V c main_v43)) (h3 : hotT (C := 32) 4 (V c main_v53)) (o : Fin 64) (l : Fin 128) (hl : l.val = o.val) :
    ((dat2 V c).arrAt 9 cfg2.N : FVec Ideal S8x128 .f32) (ix2 0 l)
        = ∑ R : Fin 160000, rows2 (V c main_v34_0) (V c main_v34_1) (V c main_v54) (V c main_v55) (V c main_v56) (V c main_v57) R o
      ∧ ((dat2 V c).arrAt 9 cfg2.N : FVec Ideal S8x128 .f32) (ix2 1 l)
        = ∑ R : Fin 160000, rows2 (V c main_v34_0) (V c main_v34_1) (V c main_v54) (V c main_v55) (V c main_v56) (V c main_v57) R o
            * rows2 (V c main_v34_0) (V c main_v34_1) (V c main_v54) (V c main_v55) (V c main_v56) (V c main_v57) R o := by
  rw [st2_eq]
  have e0 := Pipeline.eq_sum_fin_of_reset_step_apply_last (fun n h (_ : Unit) => (outsAt2 V c n h).2 (ix2 0 l)) 8 (fun _ => (0 : EReal)) _
    (fun t h _ => (outs2_A V c t h o l hl).1) (fun t h _ => (outs2_B V c t h o l hl).1) (by decide) ⟨7, by decide⟩ rfl ()
  have e1 := Pipeline.eq_sum_fin_of_reset_step_apply_last (fun n h (_ : Unit) => (outsAt2 V c n h).2 (ix2 1 l)) 8 (fun _ => (0 : EReal)) _
    (fun t h _ => (outs2_A V c t h o l hl).2) (fun t h _ => (outs2_B V c t h o l hl).2) (by decide) ⟨7, by decide⟩ rfl ()
  have hb := fun (p : Fin cfg2.N) (r : Fin 20000) (h : p.val * 20000 + r.val < 160000) =>
    blk2_eq V c h2 h3 p r o ⟨p.val * 20000 + r.val, h⟩ (by show p.val * 20000 + r.val = _; omega)
  generalize rows2 (V c main_v34_0) (V c main_v34_1) (V c main_v54) (V c main_v55) (V c main_v56) (V c main_v57) = f at hb ⊢
  constructor
  · refine e0.trans ((zero_add _).trans (Eq.trans ?_ (Fin.sum_mul_add_fin 8 20000 (fun R : Fin 160000 => f R o) rfl)))
    exact Finset.sum_congr rfl fun p _ => Finset.sum_congr rfl fun r _ => hb p r _
  · refine e1.trans ((zero_add _).trans (Eq.trans ?_ (Fin.sum_mul_add_fin 8 20000 (fun R : Fin 160000 => f R o * f R o) rfl)))
    exact Finset.sum_congr rfl fun p _ => Finset.sum_congr rfl fun r _ => congrArg₂ (· * ·) (hb p r _) (hb p r _)

end Cert.KernelIdeal.Whole
-- ==== Proof.Val0.lean ====
/-
The first call, as the values it leaves: the coordinates of each point's nearest points, in order.
-/
module

public import proofs.«01_k».proof.Proof.Knn
public import proofs.«01_k».proof.Proof.Val2

@[expose] public section

set_option maxRecDepth 16384

noncomputable section

namespace Cert.KernelIdeal.Whole

open Idealize.ShloMosaic Idealize.ShloMosaic.TcCoe Idealize.ShloMosaic.Tactic
open Idealize.ShloMosaic.Pipeline (Dat Cfg Window BodyObligation cellOf)
open Cert.KernelIdeal Cert.KernelIdeal.Gen Cert.Spec

section points
variable (p : Fin 3 → Fin 10000 → ℝ)

/-- The points as extended reals. -/
abbrev ept : Fin 3 → Fin 10000 → EReal := fun c n => ((p c n : ℝ) : EReal)

/-- A point's coordinates, followed by zeros. -/
def padp (n : Fin 10000) (j : Fin 8) : EReal := if h : j.val < 3 then ((p ⟨j.val, h⟩ n : ℝ) : EReal) else 0

/-- The same, with padding points at zero. -/
def padq (j : Fin 8) (q : Fin 10240) : EReal :=
  if h : j.val < 3 ∧ q.val < 10000 then ((p ⟨j.val, h.1⟩ ⟨q.val, h.2⟩ : ℝ) : EReal) else 0

theorem padq_real (j : Fin 8) (q : Fin 10240) (h : q.val < 10000) : padq p j q = padp p ⟨q.val, h⟩ j := by
  unfold padq padp
  by_cases hj : j.val < 3
  · rw [dif_pos ⟨hj, h⟩, dif_pos hj]
  · rw [dif_neg (fun e => hj e.1), dif_neg hj]

theorem padq_pad (j : Fin 8) (q : Fin 10240) (h : ¬ q.val < 10000) : padq p j q = 0 := by
  unfold padq
  rw [dif_neg (fun e => h e.2)]

/-- A point's squared norm. -/
def rnorm (n : Fin 10000) : ℝ := p 0 n * p 0 n + p 1 n * p 1 n + p 2 n * p 2 n

/-- The product of two points. -/
def rprod (n m : Fin 10000) : ℝ := p 0 n * p 0 m + p 1 n * p 1 m + p 2 n * p 2 m

/-- The squared distance of two points. -/
def rdist (n m : Fin 10000) : ℝ := rnorm p n + rnorm p m - 2 * rprod p n m

theorem sum_pad (n m : Fin 10000) : ∑ j, padp p n j * padp p m j = ((rprod p n m : ℝ) : EReal) := by
  rw [Fin.sum_univ_eight]
  simp [padp, rprod]

theorem sum_pad_self (n : Fin 10000) : ∑ j, padp p n j * padp p n j = ((rnorm p n : ℝ) : EReal) := sum_pad p n n

theorem sqdist_real (n : Fin 10000) : sqdist (ept p) n = fun m => ((rdist p n m : ℝ) : EReal) := by
  funext m
  unfold sqdist rdist rnorm rprod
  rw [two_word]
  simp [Fin.sum_univ_three]

theorem rnorm_nonneg (n : Fin 10000) : 0 ≤ rnorm p n := by
  unfold rnorm
  nlinarith [mul_self_nonneg (p 0 n), mul_self_nonneg (p 1 n), mul_self_nonneg (p 2 n)]

theorem rdist_eq (n m : Fin 10000) : rdist p n m
    = (p 0 n - p 0 m) * (p 0 n - p 0 m) + (p 1 n - p 1 m) * (p 1 n - p 1 m) + (p 2 n - p 2 m) * (p 2 n - p 2 m) := by
  unfold rdist rnorm rprod
  ring

theorem rdist_nonneg (n m : Fin 10000) : 0 ≤ rdist p n m := by
  rw [rdist_eq]
  nlinarith [mul_self_nonneg (p 0 n - p 0 m), mul_self_nonneg (p 1 n - p 1 m), mul_self_nonneg (p 2 n - p 2 m)]

theorem gap_sq (a b : ℝ) (ha : |a| ≤ 911000000000000000) (hb : |b| ≤ 911000000000000000) :
    (a - b) * (a - b) ≤ 1822000000000000000 * 1822000000000000000 := by
  rw [abs_le] at ha hb
  have h1 : a - b ≤ 1822000000000000000 := by linarith
  have h2 : -1822000000000000000 ≤ a - b := by linarith
  nlinarith

theorem rdist_lt (hp : ∀ c n, |p c n| ≤ 911000000000000000) (n m : Fin 10000) : rdist p n m < big := by
  rw [rdist_eq]
  have h0 := gap_sq _ _ (hp 0 n) (hp 0 m)
  have h1 := gap_sq _ _ (hp 1 n) (hp 1 m)
  have h2 := gap_sq _ _ (hp 2 n) (hp 2 m)
  have hb : (3 * (1822000000000000000 * 1822000000000000000) : ℝ) < big := by norm_num [big]
  linarith

end points

section block
variable (p : Fin 3 → Fin 10000 → ℝ) (hp : ∀ c n, |p c n| ≤ 911000000000000000) (n : Fin 10000) (r : Fin 400)
  (x0 : FVec Ideal S400x8 .f32) (x1 : FVec Ideal S8x10240 .f32) (x2 : FVec Ideal S10240x8 .f32)
  (h0 : ∀ j, x0 (ix2 r j) = padp p n j) (h1 : ∀ j q, x1 (ix2 j q) = padq p j q) (h2 : ∀ q j, x2 (ix2 q j) = padq p j q)

include h0 h1 in
theorem dst_real (q : Fin 10240) : (k0_pay5 (F := Ideal) x0 x1 : FVec Ideal S400x10240 .f32) (ix2 r q) = ((drow (rdist p n) (rnorm p n) 0 q : ℝ) : EReal) := by
  refine (dst_at x0 x1 r q).trans ?_
  simp only [h0, h1]
  rw [sum_pad_self, pad_word, pos_word _ q.isLt, big_word, two_word]
  unfold drow
  by_cases hq : q.val < 10000
  · rw [dif_pos hq, if_neg, if_neg]
    · simp only [padq_real p _ q hq]
      rw [sum_pad_self, sum_pad]
      unfold rdist
      push_cast
      rw [add_zero, add_zero]
    · rintro ⟨i, hi, -⟩
      exact absurd hi (Nat.not_lt_zero _)
    · rw [EReal.coe_le_coe_iff, not_le]
      exact_mod_cast hq
  · rw [dif_neg hq, if_pos]
    · simp only [padq_pad p _ q hq]
      simp
    · rw [EReal.coe_le_coe_iff]
      exact_mod_cast not_lt.1 hq

include hp h0 h1 h2 in
theorem blk0_near (k : Fin 16) (j : Fin 8) :
    (out0_4 (F := Ideal) x0 x1 x2 : FVec Ideal S16x400x8 .f32) (ix3 k r j) = padp p (near (sqdist (ept p) n) k) j := by
  refine (out0_4_at x0 x1 x2 k r j).trans ?_
  unfold sto dst0
  rw [View.ld_unit_zero (by decide), View.ld_unit_zero (by decide), View.ld_unit_zero (by decide)]
  refine (sto_near (rdist p n) (rnorm p n) (rdist_nonneg p n) (rdist_lt p hp n) (rnorm_nonneg p n) _ r
    (dst_real p n r x0 x1 h0 h1) x2 k j).trans ?_
  rw [h2, padq_real p j _ (place_lt _ k), place_mk, sqdist_real]

end block

variable (V : (c : Dev nD) → (b : Ref sig .tc) → Buf (Elt Ideal) ((c : Thread nD τ).loc b))

theorem idx0 : ∀ t : Fin cfg0.N, ((cfg0.win 0).index t 0 = t.val ∧ (cfg0.win 0).index t 1 = 0)
    ∧ ((cfg0.win 1).index t 0 = 0 ∧ (cfg0.win 1).index t 1 = 0) ∧ ((cfg0.win 2).index t 0 = 0 ∧ (cfg0.win 2).index t 1 = 0)
    ∧ ((cfg0.win 4).index t 0 = 0 ∧ (cfg0.win 4).index t 1 = t.val ∧ (cfg0.win 4).index t 2 = 0) := by
  decide +kernel

theorem whole0_1 (c : Dev nD) (t : Fin cfg0.N) : iblk0 V c 1 t = V c main_v10 :=
  ext2 (A := 8) (B := 10240) _ _ fun a b => by blk_ext [iblk0, idx0 t]

theorem whole0_2 (c : Dev nD) (t : Fin cfg0.N) : iblk0 V c 2 t = V c main_v15 :=
  ext2 (A := 10240) (B := 8) _ _ fun a b => by blk_ext [iblk0, idx0 t]

theorem row0 (c : Dev nD) (t : Fin cfg0.N) (r : Fin 400) (j : Fin 8) (n : Fin 10000) (hn : n.val = 400 * t.val + r.val) :
    (iblk0 V c 0 t : FVec Ideal S400x8 .f32) (ix2 r j) = (V c main_v4 : FVec Ideal S10000x8 .f32) (ix2 n j) := by
  blk_ext [iblk0, idx0 t]

variable (p : Fin 3 → Fin 10000 → ℝ) (hp : ∀ c n, |p c n| ≤ 911000000000000000) (c : Dev nD)
  (h4 : ∀ n j, (V c main_v4 : FVec Ideal S10000x8 .f32) (ix2 n j) = padp p n j)
  (h10 : ∀ j q, (V c main_v10 : FVec Ideal S8x10240 .f32) (ix2 j q) = padq p j q)
  (h15 : ∀ q j, (V c main_v15 : FVec Ideal S10240x8 .f32) (ix2 q j) = padq p j q)

include hp h4 h10 h15 in
theorem blk0_eq (t : Fin cfg0.N) (k : Fin 16) (r : Fin 400) (j : Fin 8) (n : Fin 10000) (hn : n.val = 400 * t.val + r.val) :
    (out0_4 (F := Ideal) (iblk0 V c 0 t) (iblk0 V c 1 t) (iblk0 V c 2 t) : FVec Ideal S16x400x8 .f32) (ix3 k r j)
      = padp p (near (sqdist (ept p) n) k) j := by
  rw [whole0_1, whole0_2]
  exact blk0_near p hp n r _ _ _ (fun j => (row0 V c t r j n hn).trans (h4 n j)) h10 h15 k j

include hp h4 h10 h15 in
theorem nb_at (k : Fin 16) (n : Fin 10000) (j : Fin 8) :
    ((dat0 V c).arrAt 4 cfg0.N : FVec Ideal S16x10000x8 .f32) (ix3 k n j) = padp p (near (sqdist (ept p) n) k) j := by
  have h : (dat0 V c).arrAt 4 cfg0.N = (fun i => padp p (near (sqdist (ept p) (i 1)) (i 0)) (i 2) : FVec Ideal S16x10000x8 .f32) := by
    refine (dat0 V c).arrAt_eq_of_covers 4 _ (by decide +kernel) fun t hf y => ?_
    blk_simp
    rw [after0_4]
    have hy : y = (ix3 (y 0) (y 1) (y 2) : S16x400x8.Idx) := by
      funext a
      exact Fin.cases rfl (fun a => Fin.cases rfl (fun a => Fin.cases rfl (fun a => a.elim0) a) a) a
    have e0 : (win0_4.blk t).view.emb y 0 = y 0 := by
      apply Fin.ext
      have hi := (idx0 t).2.2.2.1
      blk_simp [hi]
    have e2 : (win0_4.blk t).view.emb y 2 = y 2 := by
      apply Fin.ext
      have hi := (idx0 t).2.2.2.2.2
      blk_simp [hi]
    refine (congrArg _ hy).trans ((blk0_eq V p hp c h4 h10 h15 t (y 0) (y 1) (y 2) ((win0_4.blk t).view.emb y 1) ?_).trans ?_)
    · have hi := (idx0 t).2.2.2.2.1
      blk_simp [hi]
      omega
    · exact congrArg₂ (fun a b => padp p (near (sqdist (ept p) ((win0_4.blk t).view.emb y 1)) a) b) e0.symm e2.symm
  rw [h]
  rfl

end Cert.KernelIdeal.Whole
-- ==== Proof.Pay3.lean ====
/-
The arithmetic of the fourth call at an index: normalise and activate, the maximum over a block of points, the last two blocks.
-/
module

public import proofs.«01_k».proof.Proof.Val2

@[expose] public section

set_option maxRecDepth 16384

noncomputable section

namespace Cert.KernelIdeal.Whole

open Idealize.ShloMosaic Idealize.ShloMosaic.TcCoe Idealize.ShloMosaic.Tactic
open Cert.KernelIdeal Cert.KernelIdeal.Gen Cert.Spec

theorem k3_pay13_at (s : FVec Ideal S1x64 .f32) (G : FVec Ideal S64x8 .f32) (hG : hot (C := 64) 8 G) (g : Fin 8) :
    (k3_pay13 (F := Ideal) s G : FVec Ideal S1x8 .f32) (ix2 0 g)
      = Ideal.div (gsum 8 (fun c : Fin 64 => s (ix2 0 c)) g.val) (Ideal.ofBits .f32 0x499C4000#32) := by
  unfold k3_pay13
  pointwise
  rw [dot_hot (C := 64) 8 G hG (fun c => s (ix2 0 c)) g]

theorem k3_pay14_at (s : FVec Ideal S1x64 .f32) (G : FVec Ideal S64x8 .f32) (GT : FVec Ideal S8x64 .f32) (hG : hot (C := 64) 8 G) (hGT : hotT (C := 64) 8 GT) (c : Fin 64) :
    (k3_pay14 (F := Ideal) s G GT : FVec Ideal S1x64 .f32) (ix2 0 c)
      = Ideal.div (gsum 8 (fun c : Fin 64 => s (ix2 0 c)) (c.val / 8)) (Ideal.ofBits .f32 0x499C4000#32) := by
  have h := k3_pay13_at s G hG
  unfold k3_pay14
  generalize k3_pay13 (F := Ideal) s G = v at h ⊢
  pointwise
  exact (dot_hotT (C := 64) 8 GT hGT (fun x => v (ix2 0 x)) c (by omega)).trans (h _)

theorem k3_pay15_at (s ss γ : FVec Ideal S1x64 .f32) (G : FVec Ideal S64x8 .f32) (GT : FVec Ideal S8x64 .f32) (hG : hot (C := 64) 8 G) (hGT : hotT (C := 64) 8 GT) (c : Fin 64) :
    (k3_pay15 (F := Ideal) s ss G G GT γ : FVec Ideal S1x64 .f32) (ix2 0 c)
      = scaleOf 8 (Ideal.ofBits .f32 0x499C4000#32) (fun c : Fin 64 => s (ix2 0 c)) (fun c : Fin 64 => ss (ix2 0 c)) (γ (ix2 0 c)) c := by
  have h := k3_pay13_at s G hG
  unfold k3_pay15
  generalize k3_pay13 (F := Ideal) s G = v at h ⊢
  pointwise
  refine congrArg (fun z => Ideal.div (γ (ix2 0 c)) (Ideal.sqrt (z + eps))) ((dot_hotT (C := 64) 8 GT hGT (fun x => Ideal.div (∑ x_1 : Fin 64, ss (ix2 0 x_1) * G (ix2 x_1 x)) (Ideal.ofBits .f32 0x499C4000#32) - v (ix2 0 x) * v (ix2 0 x)) c (by omega)).trans ?_)
  simp only [h]
  rw [dot_hot (C := 64) 8 G hG (fun c => ss (ix2 0 c))]

theorem k3_pay12_at (i : S16x64.Idx) : (k3_pay12 : FVec Ideal S16x64 .f32) i = Ideal.ofBits .f32 0xFCF0BDC2#32 := by
  unfold k3_pay12
  pointwise

theorem k3_pay1_le (mean scale β : FVec Ideal S1x64 .f32) (y : FVec Ideal S20000x64 .f32) (v : FVec Ideal S16x64 .f32) (k : Fin 16) (q : Fin 64) (z : EReal) :
    (k3_pay1 (F := Ideal) mean scale (k3_pay16 β) y v : FVec Ideal S16x64 .f32) (ix2 k q) ≤ z
      ↔ v (ix2 k q) ≤ z ∧ ∀ a : Fin 1250, elu (y (ix2 ⟨a.val * 16 + k.val, by omega⟩ q) * scale (ix2 0 q) + (β (ix2 0 q) - mean (ix2 0 q) * scale (ix2 0 q))) ≤ z := by
  unfold k3_pay1 k3_pay16
  simp only [← elu_min]
  pointwise
  refine max_le_iff.trans (and_congr Iff.rfl ((Finset.fold_max_le z).trans ?_))
  refine ⟨fun h a => h.2 a (Finset.mem_univ _), fun h => ⟨?_, fun a _ => h a⟩⟩
  exact le_of_eq_of_le (by simp [Ideal.ofBits, Ideal.ieee]) bot_le

theorem k3_pay5_at (Z : FVec Ideal S16x64 .f32) (W : FVec Ideal S64x128 .f32) (b : FVec Ideal S1x128 .f32) (G : FVec Ideal S128x8 .f32) (GT : FVec Ideal S8x128 .f32)
    (hG : hot (C := 128) 16 G) (hGT : hotT (C := 128) 16 GT) (k : Fin 16) (r : Fin 128) :
    (k3_pay5 (F := Ideal) Z W b G GT : FVec Ideal S16x128 .f32) (ix2 k r)
      = Ideal.div (conv (fun k c => Z (ix2 k c)) (fun r c => W (ix2 c r)) (fun r => b (ix2 0 r)) k r
            - gmean 16 (Ideal.ofBits .f32 0x43800000#32) (conv (fun k c => Z (ix2 k c)) (fun r c => W (ix2 c r)) (fun r => b (ix2 0 r))) (r.val / 16))
          (Ideal.sqrt (gvar 16 (Ideal.ofBits .f32 0x43800000#32) (conv (fun k c => Z (ix2 k c)) (fun r c => W (ix2 c r)) (fun r => b (ix2 0 r))) (r.val / 16) + eps)) := by
  have hc : ∀ k r, (∑ c : Fin 64, Z (ix2 k c) * W (ix2 c r)) + b (ix2 0 r) = conv (fun k c => Z (ix2 k c)) (fun r c => W (ix2 c r)) (fun r => b (ix2 0 r)) k r := fun k r =>
    congrArg (· + _) (Finset.sum_congr rfl fun c _ => mul_comm _ _)
  unfold k3_pay5
  pointwise
  simp only [hc]
  generalize conv (fun k c => Z (ix2 k c)) (fun r c => W (ix2 c r)) (fun r => b (ix2 0 r)) = Y
  have d := dot_hot (C := 128) 16 G hG
  have e := fun f c => dot_hotT (C := 128) 16 GT hGT f c (by omega)
  simp only [d, e]
  rfl

theorem k3_pay10_at (γ β : FVec Ideal S1x128 .f32) (D : FVec Ideal S16x128 .f32) (W : FVec Ideal S128x128 .f32) (b : FVec Ideal S1x128 .f32)
    (G : FVec Ideal S128x8 .f32) (GT : FVec Ideal S8x128 .f32) (hG : hot (C := 128) 16 G) (hGT : hotT (C := 128) 16 GT) (k : Fin 16) (r : Fin 128) :
    (k3_pay10 (F := Ideal) (k3_pay3 γ) (k3_pay4 β) D W b G GT : FVec Ideal S16x128 .f32) (ix2 k r)
      = conv (fun k c => elu (D (ix2 k c) * γ (ix2 0 c) + β (ix2 0 c))) (fun r c => W (ix2 c r)) (fun r => b (ix2 0 r)) k r
            - gmean 16 (Ideal.ofBits .f32 0x43800000#32) (conv (fun k c => elu (D (ix2 k c) * γ (ix2 0 c) + β (ix2 0 c))) (fun r c => W (ix2 c r)) (fun r => b (ix2 0 r))) (r.val / 16) := by
  have hc : ∀ k r, (∑ c : Fin 128, elu (D (ix2 k c) * γ (ix2 0 c) + β (ix2 0 c)) * W (ix2 c r)) + b (ix2 0 r)
      = conv (fun k c => elu (D (ix2 k c) * γ (ix2 0 c) + β (ix2 0 c))) (fun r c => W (ix2 c r)) (fun r => b (ix2 0 r)) k r := fun k r =>
    congrArg (· + _) (Finset.sum_congr rfl fun c _ => mul_comm _ _)
  unfold gmean
  simp only [← hc]
  unfold k3_pay10 k3_pay3 k3_pay4 k3_pay6 k3_pay7
  have d := dot_hot (C := 128) 16 G hG
  have e := fun f c => dot_hotT (C := 128) 16 GT hGT f c (by omega)
  simp only [← elu_min]
  pointwise
  simp only [d, e]

theorem k3_pay11_at (γ β : FVec Ideal S1x128 .f32) (D : FVec Ideal S16x128 .f32) (W : FVec Ideal S128x128 .f32) (b : FVec Ideal S1x128 .f32)
    (G : FVec Ideal S128x8 .f32) (GT : FVec Ideal S8x128 .f32) (r : Fin 128) :
    (k3_pay11 (F := Ideal) γ β D W b G GT : FVec Ideal S1x128 .f32) (ix2 0 r)
      = ∑ k : Fin 16, (k3_pay10 (F := Ideal) γ β D W b G GT : FVec Ideal S16x128 .f32) (ix2 k r) * (k3_pay10 (F := Ideal) γ β D W b G GT : FVec Ideal S16x128 .f32) (ix2 k r) := by
  unfold k3_pay11
  generalize k3_pay10 (F := Ideal) γ β D W b G GT = z
  pointwise

theorem k3_pay2_at (γ β v : FVec Ideal S1x128 .f32) (D : FVec Ideal S16x128 .f32)
    (G : FVec Ideal S128x8 .f32) (GT : FVec Ideal S8x128 .f32) (hG : hot (C := 128) 16 G) (hGT : hotT (C := 128) 16 GT) (k : Fin 16) (r : Fin 128) :
    (k3_pay2 (F := Ideal) (k3_pay6 G) (k3_pay7 GT) (k3_pay8 γ) (k3_pay9 β) D v (constant S1x8 .f32 0x00000000#32) : FVec Ideal S16x128 .f32) (ix2 k r)
      = elu (Ideal.div (D (ix2 k r)) (Ideal.sqrt (Ideal.div (gsum 16 (fun c : Fin 128 => v (ix2 0 c)) (r.val / 16)) (Ideal.ofBits .f32 0x43800000#32) + eps))
          * γ (ix2 0 r) + β (ix2 0 r)) := by
  unfold k3_pay2 k3_pay6 k3_pay7 k3_pay8 k3_pay9
  have d := dot_hot (C := 128) 16 G hG
  have e := fun f c => dot_hotT (C := 128) 16 GT hGT f c (by omega)
  simp only [← elu_min, ← d]
  pointwise
  simp only [e, d]

/-- The last two blocks. -/
theorem tail_at (Z : FVec Ideal S16x64 .f32) (W1 : FVec Ideal S64x128 .f32) (b1 γ1 β1 : FVec Ideal S1x128 .f32) (W2 : FVec Ideal S128x128 .f32)
    (b2 γ2 β2 : FVec Ideal S1x128 .f32) (G : FVec Ideal S128x8 .f32) (GT : FVec Ideal S8x128 .f32) (hG : hot (C := 128) 16 G) (hGT : hotT (C := 128) 16 GT)
    (k : Fin 16) (r : Fin 128) :
    (k3_pay2 (F := Ideal) (k3_pay6 G) (k3_pay7 GT) (k3_pay8 γ2) (k3_pay9 β2)
        (k3_pay10 (k3_pay3 γ1) (k3_pay4 β1) (k3_pay5 Z W1 b1 G GT) W2 b2 G GT)
        (k3_pay11 (k3_pay3 γ1) (k3_pay4 β1) (k3_pay5 Z W1 b1 G GT) W2 b2 G GT)
        (constant S1x8 .f32 0x00000000#32) : FVec Ideal S16x128 .f32) (ix2 k r)
      = last (last (fun k c => Z (ix2 k c)) (fun r c => W1 (ix2 c r)) (fun r => b1 (ix2 0 r)) (fun r => γ1 (ix2 0 r)) (fun r => β1 (ix2 0 r)))
          (fun r c => W2 (ix2 c r)) (fun r => b2 (ix2 0 r)) (fun r => γ2 (ix2 0 r)) (fun r => β2 (ix2 0 r)) k r := by
  have h5 := k3_pay5_at Z W1 b1 G GT hG hGT
  rw [k3_pay2_at _ _ _ _ _ _ hG hGT]
  simp only [k3_pay11_at]
  have h10 := k3_pay10_at γ1 β1 (k3_pay5 Z W1 b1 G GT) W2 b2 G GT hG hGT
  simp only [h10]
  generalize k3_pay5 (F := Ideal) Z W1 b1 G GT = D at h5
  simp only [h5]
  rfl

end Cert.KernelIdeal.Whole
-- ==== Proof.Val3.lean ====
/-
The fourth call (normalise, activate, the maximum over the points, the last two blocks), as the value it leaves.
-/
module

public import proofs.«01_k».proof.Proof.Pay3
public import Idealize.ShloMosaic.Lib.Pipeline.ReadBack

@[expose] public section

set_option maxRecDepth 16384

noncomputable section

namespace Cert.KernelIdeal.Whole

open Idealize.ShloMosaic Idealize.ShloMosaic.TcCoe Idealize.ShloMosaic.Tactic
open Idealize.ShloMosaic.Pipeline (Dat Cfg Window BodyObligation cellOf)
open Cert.KernelIdeal Cert.KernelIdeal.Gen Cert.Spec

variable (V : (c : Dev nD) → (b : Ref sig .tc) → Buf (Elt Ideal) ((c : Thread nD τ).loc b))

/-- The first 64 lanes of a row of the block of sums. -/
theorem inb64 (r : Fin 2) : ∀ a, (![r.val, 0] : Fin 2 → ℕ) a + (![1, 64] : Fin 2 → ℕ) a ≤ S8x128.size a := by
  revert r; decide

/-- The running maximum after a block of rows. -/
def run3 (x0 : FVec Ideal S20000x64 .f32) (x1 : FVec Ideal S8x128 .f32) (x2 : FVec Ideal S64x8 .f32) (x3 : FVec Ideal S8x64 .f32)
    (x4 x5 : FVec Ideal S1x64 .f32) (v : FVec Ideal S16x64 .f32) : FVec Ideal S16x64 .f32 :=
  k3_pay1 (k3_pay14 (View.ld x1 (Rect.unit (s := S8x128) ![0, 0] ![1, 64] (inb64 0))) x2 x3)
    (k3_pay15 (View.ld x1 (Rect.unit (s := S8x128) ![0, 0] ![1, 64] (inb64 0))) (View.ld x1 (Rect.unit (s := S8x128) ![1, 0] ![1, 64] (inb64 1))) x2 x2 x3 x4)
    (k3_pay16 x5) x0 v

/-- The last two blocks, from the maximum. -/
def tail3 (v : FVec Ideal S16x64 .f32) (x6 : FVec Ideal S64x128 .f32) (x7 x8 x9 : FVec Ideal S1x128 .f32) (x10 : FVec Ideal S128x8 .f32)
    (x11 : FVec Ideal S8x128 .f32) (x12 : FVec Ideal S128x128 .f32) (x13 x14 x15 : FVec Ideal S1x128 .f32) : FVec Ideal S16x128 .f32 :=
  k3_pay2 (k3_pay6 x10) (k3_pay7 x11) (k3_pay8 x14) (k3_pay9 x15)
    (k3_pay10 (k3_pay3 x8) (k3_pay4 x9) (k3_pay5 v x6 x7 x10 x11) x12 x13 x10 x11)
    (k3_pay11 (k3_pay3 x8) (k3_pay4 x9) (k3_pay5 v x6 x7 x10 x11) x12 x13 x10 x11)
    (constant S1x8 .f32 0x00000000#32)

theorem outs3_A (c : Dev nD) (t : Fin cfg3.N) (h0 : t.val % 8 = 0) :
    (outsAt3 V c t.val t.isLt).2 = run3 (iblk3 V c 0 t) (iblk3 V c 1 t) (iblk3 V c 2 t) (iblk3 V c 3 t) (iblk3 V c 4 t) (iblk3 V c 5 t) k3_pay12 := by
  unfold run3
  rw [outsAt3_A V c t h0 (by omega)]
  dsimp only
  unfold sout3_A_0 kernelRun3_A
  frame_out

theorem outs3_B (c : Dev nD) (t : Fin cfg3.N) (h0 : ¬ t.val % 8 = 0) (h1 : ¬ t.val % 8 = 7) :
    (outsAt3 V c t.val t.isLt).2 = run3 (iblk3 V c 0 t) (iblk3 V c 1 t) (iblk3 V c 2 t) (iblk3 V c 3 t) (iblk3 V c 4 t) (iblk3 V c 5 t)
      (outsAt3 V c (t.val - 1) (Nat.lt_of_le_of_lt (Nat.sub_le _ _) t.isLt)).2 := by
  unfold run3
  rw [outsAt3_B V c t h0 h1]
  dsimp only
  unfold sout3_B_0 kernelRun3_B
  frame_out
  rw [read_unread_whole]

theorem outs3_C (c : Dev nD) (t : Fin cfg3.N) (h0 : ¬ t.val % 8 = 0) (h1 : t.val % 8 = 7) :
    (outsAt3 V c t.val t.isLt).1 = tail3 (run3 (iblk3 V c 0 t) (iblk3 V c 1 t) (iblk3 V c 2 t) (iblk3 V c 3 t) (iblk3 V c 4 t) (iblk3 V c 5 t)
      (outsAt3 V c (t.val - 1) (Nat.lt_of_le_of_lt (Nat.sub_le _ _) t.isLt)).2) (iblk3 V c 6 t) (iblk3 V c 7 t) (iblk3 V c 8 t) (iblk3 V c 9 t) (iblk3 V c 10 t)
      (iblk3 V c 11 t) (iblk3 V c 12 t) (iblk3 V c 13 t) (iblk3 V c 14 t) (iblk3 V c 15 t) := by
  unfold tail3 run3
  rw [outsAt3_C V c t h0 h1]
  dsimp only
  unfold out3_C_16 kernelRun3_C
  frame_out
  rw [read_unread_whole]

theorem idx3 : ∀ t : Fin cfg3.N, ((cfg3.win 0).index t 0 = t.val ∧ (cfg3.win 0).index t 1 = 0)
    ∧ ((cfg3.win 1).index t 0 = 0 ∧ (cfg3.win 1).index t 1 = 0) ∧ ((cfg3.win 2).index t 0 = 0 ∧ (cfg3.win 2).index t 1 = 0)
    ∧ ((cfg3.win 3).index t 0 = 0 ∧ (cfg3.win 3).index t 1 = 0) ∧ ((cfg3.win 4).index t 0 = 0 ∧ (cfg3.win 4).index t 1 = 0)
    ∧ ((cfg3.win 5).index t 0 = 0 ∧ (cfg3.win 5).index t 1 = 0) ∧ ((cfg3.win 6).index t 0 = 0 ∧ (cfg3.win 6).index t 1 = 0)
    ∧ ((cfg3.win 7).index t 0 = 0 ∧ (cfg3.win 7).index t 1 = 0) ∧ ((cfg3.win 8).index t 0 = 0 ∧ (cfg3.win 8).index t 1 = 0)
    ∧ ((cfg3.win 9).index t 0 = 0 ∧ (cfg3.win 9).index t 1 = 0) ∧ ((cfg3.win 10).index t 0 = 0 ∧ (cfg3.win 10).index t 1 = 0)
    ∧ ((cfg3.win 11).index t 0 = 0 ∧ (cfg3.win 11).index t 1 = 0) ∧ ((cfg3.win 12).index t 0 = 0 ∧ (cfg3.win 12).index t 1 = 0)
    ∧ ((cfg3.win 13).index t 0 = 0 ∧ (cfg3.win 13).index t 1 = 0) ∧ ((cfg3.win 14).index t 0 = 0 ∧ (cfg3.win 14).index t 1 = 0)
    ∧ ((cfg3.win 15).index t 0 = 0 ∧ (cfg3.win 15).index t 1 = 0) := by
  decide +kernel

theorem whole3_1 (c : Dev nD) (t : Fin cfg3.N) : iblk3 V c 1 t = V c main_v58_1 :=
  ext2 (A := 8) (B := 128) _ _ fun a b => by blk_ext [iblk3, idx3 t]
theorem whole3_2 (c : Dev nD) (t : Fin cfg3.N) : iblk3 V c 2 t = V c main_v67 :=
  ext2 (A := 64) (B := 8) _ _ fun a b => by blk_ext [iblk3, idx3 t]
theorem whole3_3 (c : Dev nD) (t : Fin cfg3.N) : iblk3 V c 3 t = V c main_v77 :=
  ext2 (A := 8) (B := 64) _ _ fun a b => by blk_ext [iblk3, idx3 t]
theorem whole3_4 (c : Dev nD) (t : Fin cfg3.N) : iblk3 V c 4 t = V c main_v97 :=
  ext2 (A := 1) (B := 64) _ _ fun a b => by blk_ext [iblk3, idx3 t]
theorem whole3_5 (c : Dev nD) (t : Fin cfg3.N) : iblk3 V c 5 t = V c main_v98 :=
  ext2 (A := 1) (B := 64) _ _ fun a b => by blk_ext [iblk3, idx3 t]
theorem whole3_6 (c : Dev nD) (t : Fin cfg3.N) : iblk3 V c 6 t = V c main_v99 :=
  ext2 (A := 64) (B := 128) _ _ fun a b => by blk_ext [iblk3, idx3 t]
theorem whole3_7 (c : Dev nD) (t : Fin cfg3.N) : iblk3 V c 7 t = V c main_v100 :=
  ext2 (A := 1) (B := 128) _ _ fun a b => by blk_ext [iblk3, idx3 t]
theorem whole3_8 (c : Dev nD) (t : Fin cfg3.N) : iblk3 V c 8 t = V c main_v101 :=
  ext2 (A := 1) (B := 128) _ _ fun a b => by blk_ext [iblk3, idx3 t]
theorem whole3_9 (c : Dev nD) (t : Fin cfg3.N) : iblk3 V c 9 t = V c main_v102 :=
  ext2 (A := 1) (B := 128) _ _ fun a b => by blk_ext [iblk3, idx3 t]
theorem whole3_10 (c : Dev nD) (t : Fin cfg3.N) : iblk3 V c 10 t = V c main_v86 :=
  ext2 (A := 128) (B := 8) _ _ fun a b => by blk_ext [iblk3, idx3 t]
theorem whole3_11 (c : Dev nD) (t : Fin cfg3.N) : iblk3 V c 11 t = V c main_v96 :=
  ext2 (A := 8) (B := 128) _ _ fun a b => by blk_ext [iblk3, idx3 t]
theorem whole3_12 (c : Dev nD) (t : Fin cfg3.N) : iblk3 V c 12 t = V c main_v103 :=
  ext2 (A := 128) (B := 128) _ _ fun a b => by blk_ext [iblk3, idx3 t]
theorem whole3_13 (c : Dev nD) (t : Fin cfg3.N) : iblk3 V c 13 t = V c main_v104 :=
  ext2 (A := 1) (B := 128) _ _ fun a b => by blk_ext [iblk3, idx3 t]
theorem whole3_14 (c : Dev nD) (t : Fin cfg3.N) : iblk3 V c 14 t = V c main_v105 :=
  ext2 (A := 1) (B := 128) _ _ fun a b => by blk_ext [iblk3, idx3 t]
theorem whole3_15 (c : Dev nD) (t : Fin cfg3.N) : iblk3 V c 15 t = V c main_v106 :=
  ext2 (A := 1) (B := 128) _ _ fun a b => by blk_ext [iblk3, idx3 t]

/-- The activated rows the maximum is taken of, over arrays. -/
def act3 (y : FVec Ideal S160000x64 .f32) (st : FVec Ideal S8x128 .f32) (γ β : FVec Ideal S1x64 .f32) (R : Fin 160000) (q : Fin 64) : EReal :=
  actOf 8 (Ideal.ofBits .f32 0x499C4000#32) (fun c : Fin 64 => st (ix2 0 ⟨c.val, by omega⟩)) (fun c : Fin 64 => st (ix2 1 ⟨c.val, by omega⟩))
    (γ (ix2 0 q)) (β (ix2 0 q)) (y (ix2 R q)) q

theorem run3_le (x0 : FVec Ideal S20000x64 .f32) (x1 : FVec Ideal S8x128 .f32) (x2 : FVec Ideal S64x8 .f32) (x3 : FVec Ideal S8x64 .f32)
    (x4 x5 : FVec Ideal S1x64 .f32) (h2 : hot (C := 64) 8 x2) (h3 : hotT (C := 64) 8 x3) (v : FVec Ideal S16x64 .f32) (t : Fin 8) (y : FVec Ideal S160000x64 .f32)
    (hy : ∀ (r : Fin 20000) (q : Fin 64), x0 (ix2 r q) = y (ix2 ⟨20000 * t.val + r.val, by omega⟩ q)) (k : Fin 16) (q : Fin 64) (z : EReal) :
    run3 x0 x1 x2 x3 x4 x5 v (ix2 k q) ≤ z
      ↔ v (ix2 k q) ≤ z ∧ ∀ a : Fin 1250, act3 y x1 x4 x5 ⟨20000 * t.val + (a.val * 16 + k.val), by omega⟩ q ≤ z := by
  unfold run3
  refine (k3_pay1_le _ _ _ _ _ k q z).trans (and_congr Iff.rfl (forall_congr' fun a => ?_))
  rw [k3_pay14_at _ _ _ h2 h3, k3_pay15_at _ _ _ _ _ h2 h3, hy]
  refine iff_of_eq (congrArg (· ≤ z) ?_)
  exact congrArg₂ (fun S SS => elu (y (ix2 ⟨20000 * t.val + (a.val * 16 + k.val), by omega⟩ q) * scaleOf 8 (Ideal.ofBits .f32 0x499C4000#32) S SS (x4 (ix2 0 q)) q
    + (x5 (ix2 0 q) - Ideal.div (gsum 8 S (q.val / 8)) (Ideal.ofBits .f32 0x499C4000#32) * scaleOf 8 (Ideal.ofBits .f32 0x499C4000#32) S SS (x4 (ix2 0 q)) q)))
    (funext fun c => ld_row0 (inb64 0) c ⟨c.val, by omega⟩ rfl x1) (funext fun c => ld_row1 (inb64 1) c ⟨c.val, by omega⟩ rfl x1)

/-- One block's step, over the arrays of the call. -/
theorem step3_le (c : Dev nD) (h2 : hot (C := 64) 8 (V c main_v67)) (h3 : hotT (C := 64) 8 (V c main_v77)) (v : FVec Ideal S16x64 .f32) (t : Fin cfg3.N)
    (k : Fin 16) (q : Fin 64) (z : EReal) :
    run3 (iblk3 V c 0 t) (iblk3 V c 1 t) (iblk3 V c 2 t) (iblk3 V c 3 t) (iblk3 V c 4 t) (iblk3 V c 5 t) v (ix2 k q) ≤ z
      ↔ v (ix2 k q) ≤ z ∧ ∀ a : Fin 1250, act3 (V c main_v58_0) (V c main_v58_1) (V c main_v97) (V c main_v98)
          ⟨20000 * t.val + (a.val * 16 + k.val), by have := t.isLt; have h8 : cfg3.N = 8 := rfl; omega⟩ q ≤ z := by
  rw [whole3_1, whole3_2, whole3_3, whole3_4, whole3_5]
  exact run3_le _ _ _ _ _ _ h2 h3 v t (V c main_v58_0) (fun r q => by blk_ext [iblk3, idx3 t]) k q z

/-- The running maximum is the least bound of its start and of the rows seen. -/
theorem max3_le (c : Dev nD) (h2 : hot (C := 64) 8 (V c main_v67)) (h3 : hotT (C := 64) 8 (V c main_v77)) (k : Fin 16) (q : Fin 64) (z : EReal) (n : ℕ) :
    ∀ hn : n < 7, (outsAt3 V c n (by have h8 : cfg3.N = 8 := rfl; omega)).2 (ix2 k q) ≤ z
      ↔ Ideal.ofBits .f32 0xFCF0BDC2#32 ≤ z ∧ ∀ (s : ℕ) (hs : s ≤ n) (a : Fin 1250), act3 (V c main_v58_0) (V c main_v58_1) (V c main_v97) (V c main_v98)
          ⟨20000 * s + (a.val * 16 + k.val), by omega⟩ q ≤ z := by
  induction n with
  | zero =>
    intro hn
    rw [outs3_A V c ⟨0, by decide⟩ rfl]
    refine (step3_le V c h2 h3 _ _ k q z).trans (and_congr (by rw [k3_pay12_at]) ?_)
    refine ⟨fun h s hs a => ?_, fun h a => h 0 le_rfl a⟩
    obtain rfl : s = 0 := by omega
    exact h a
  | succ n ih =>
    intro hn
    rw [outs3_B V c ⟨n + 1, by have h8 : cfg3.N = 8 := rfl; omega⟩ (by show ¬ (n + 1) % 8 = 0; omega) (by show ¬ (n + 1) % 8 = 7; omega)]
    refine (step3_le V c h2 h3 _ _ k q z).trans ?_
    refine (and_congr (ih (by omega)) Iff.rfl).trans ⟨fun h => ⟨h.1.1, fun s hs a => ?_⟩, fun h => ⟨⟨h.1, fun s hs a => h.2 s (by omega) a⟩, fun a => h.2 (n + 1) le_rfl a⟩⟩
    rcases Nat.lt_or_ge s (n + 1) with hl | hl
    · exact h.1.2 s (by omega) a
    · obtain rfl : s = n + 1 := by omega
      exact h.2 a

theorem act3_start (y : FVec Ideal S160000x64 .f32) (st : FVec Ideal S8x128 .f32) (γ β : FVec Ideal S1x64 .f32) (R : Fin 160000) (q : Fin 64) :
    Ideal.ofBits .f32 0xFCF0BDC2#32 ≤ act3 y st γ β R q := by
  refine le_trans ?_ (neg_one_le_elu _)
  have h : Ideal.ofBits .f32 0xFCF0BDC2#32 = ((-(15777218 * 2 ^ 99) : ℝ) : EReal) := by
    simp [Ideal.ofBits, Ideal.ieee, -EReal.coe_mul]
  rw [h]
  exact EReal.coe_le_coe_iff.2 (by norm_num : (-(15777218 * 2 ^ 99) : ℝ) ≤ -1)

/-- The maximum over all the points, before the last two blocks. -/
theorem top3_at (c : Dev nD) (h2 : hot (C := 64) 8 (V c main_v67)) (h3 : hotT (C := 64) 8 (V c main_v77)) (k : Fin 16) (q : Fin 64) :
    run3 (iblk3 V c 0 ⟨7, by decide⟩) (iblk3 V c 1 ⟨7, by decide⟩) (iblk3 V c 2 ⟨7, by decide⟩) (iblk3 V c 3 ⟨7, by decide⟩) (iblk3 V c 4 ⟨7, by decide⟩)
        (iblk3 V c 5 ⟨7, by decide⟩) (outsAt3 V c 6 (by decide)).2 (ix2 k q)
      = Finset.univ.sup fun n : Fin 10000 => act3 (V c main_v58_0) (V c main_v58_1) (V c main_v97) (V c main_v98) ⟨n.val * 16 + k.val, by omega⟩ q := by
  refine eq_of_forall_ge_iff fun z => ?_
  refine (step3_le V c h2 h3 _ _ k q z).trans ((and_congr (max3_le V c h2 h3 k q z 6 (by omega)) Iff.rfl).trans ?_)
  rw [Finset.sup_le_iff]
  constructor
  · intro h n _
    have e : (⟨n.val * 16 + k.val, by omega⟩ : Fin 160000) = ⟨20000 * (n.val / 1250) + (n.val % 1250 * 16 + k.val), by omega⟩ := Fin.ext (by dsimp only; omega)
    rw [e]
    rcases Nat.lt_or_ge (n.val / 1250) 7 with hl | hl
    · exact h.1.2 _ (by omega) ⟨n.val % 1250, Nat.mod_lt _ (by omega)⟩
    · have e7 : n.val / 1250 = 7 := by omega
      have := h.2 ⟨n.val % 1250, Nat.mod_lt _ (by omega)⟩
      convert this using 3
      exact congrArg (fun s => 20000 * s + (n.val % 1250 * 16 + k.val)) e7
  · intro h
    have hs : ∀ (s : ℕ) (hs : s ≤ 7) (a : Fin 1250), act3 (V c main_v58_0) (V c main_v58_1) (V c main_v97) (V c main_v98)
          ⟨20000 * s + (a.val * 16 + k.val), by omega⟩ q ≤ z := by
      intro s hs a
      have e : (⟨20000 * s + (a.val * 16 + k.val), by omega⟩ : Fin 160000) = ⟨(1250 * s + a.val) * 16 + k.val, by omega⟩ := Fin.ext (by dsimp only; omega)
      rw [e]
      exact h ⟨1250 * s + a.val, by omega⟩ (Finset.mem_univ _)
    exact ⟨⟨(act3_start _ _ _ _ _ _).trans (hs 0 (by omega) 0), fun s h a => hs s (by omega) a⟩, fun a => hs 7 le_rfl a⟩

/-- What the call leaves. -/
theorem out3_at (c : Dev nD) (h2 : hot (C := 64) 8 (V c main_v67)) (h3 : hotT (C := 64) 8 (V c main_v77)) (h10 : hot (C := 128) 16 (V c main_v86))
    (h11 : hotT (C := 128) 16 (V c main_v96)) (A : Fin 10000 → Fin 16 → Fin 64 → EReal)
    (hA : ∀ n k q, act3 (V c main_v58_0) (V c main_v58_1) (V c main_v97) (V c main_v98) ⟨n.val * 16 + k.val, by omega⟩ q = A n k q)
    (W1 : Fin 128 → Fin 64 → EReal) (hW1 : ∀ r q, (V c main_v99 : FVec Ideal S64x128 .f32) (ix2 q r) = W1 r q)
    (b1 : Fin 128 → EReal) (hb1 : ∀ r, (V c main_v100 : FVec Ideal S1x128 .f32) (ix2 0 r) = b1 r)
    (g1 : Fin 128 → EReal) (hg1 : ∀ r, (V c main_v101 : FVec Ideal S1x128 .f32) (ix2 0 r) = g1 r)
    (e1 : Fin 128 → EReal) (he1 : ∀ r, (V c main_v102 : FVec Ideal S1x128 .f32) (ix2 0 r) = e1 r)
    (W2 : Fin 128 → Fin 128 → EReal) (hW2 : ∀ r q, (V c main_v103 : FVec Ideal S128x128 .f32) (ix2 q r) = W2 r q)
    (b2 : Fin 128 → EReal) (hb2 : ∀ r, (V c main_v104 : FVec Ideal S1x128 .f32) (ix2 0 r) = b2 r)
    (g2 : Fin 128 → EReal) (hg2 : ∀ r, (V c main_v105 : FVec Ideal S1x128 .f32) (ix2 0 r) = g2 r)
    (e2 : Fin 128 → EReal) (he2 : ∀ r, (V c main_v106 : FVec Ideal S1x128 .f32) (ix2 0 r) = e2 r)
    (k : Fin 16) (r : Fin 128) :
    ((dat3 V c).arrAt 16 cfg3.N : FVec Ideal S16x128 .f32) (ix2 k r)
      = last (last (fun k q => Finset.univ.sup fun n : Fin 10000 => A n k q) W1 b1 g1 e1) W2 b2 g2 e2 k r := by
  have h : ((dat3 V c).arrAt 16 cfg3.N : FVec Ideal S16x128 .f32) = (outsAt3 V c 7 (by decide)).1 := by
    refine (dat3 V c).arrAt_eq_of_after_last 16 ⟨7, by decide⟩ (by decide +kernel) _ fun j => ?_
    rw [after3_16]
    rfl
  rw [h]
  refine (congrFun (outs3_C V c ⟨7, by decide⟩ (by decide) (by decide)) (ix2 k r)).trans ?_
  rw [whole3_6, whole3_7, whole3_8, whole3_9, whole3_10, whole3_11, whole3_12, whole3_13, whole3_14, whole3_15]
  unfold tail3
  refine (tail_at _ _ _ _ _ _ _ _ _ _ _ h10 h11 k r).trans ?_
  have ht : (fun (k : Fin 16) (q : Fin 64) => run3 (iblk3 V c 0 ⟨7, by decide⟩) (iblk3 V c 1 ⟨7, by decide⟩) (iblk3 V c 2 ⟨7, by decide⟩) (iblk3 V c 3 ⟨7, by decide⟩) (iblk3 V c 4 ⟨7, by decide⟩)
        (iblk3 V c 5 ⟨7, by decide⟩) (outsAt3 V c 6 (by decide)).2 (ix2 k q)) = (fun k q => Finset.univ.sup fun n : Fin 10000 => A n k q) := by
    funext k q
    rw [top3_at V c h2 h3]
    simp only [hA]
  simp only [hW1, hb1, hg1, he1, hW2, hb2, hg2, he2]
  exact congrArg (fun Z => last (last Z W1 b1 g1 e1) W2 b2 g2 e2 k r) ht

end Cert.KernelIdeal.Whole
-- ==== Proof.HostA.lean ====
/-
The host operations before the first call and between the first and the second, read at one index: the padded
point arrays, the rows of the edges and the padded weight.
-/
module

public import proofs.«01_k».proof.Proof.Fold
public import proofs.«01_k».proof.Proof.Spec
public import Idealize.ShloMosaic.Lib.Pointwise
public import Idealize.ShloMosaic.Lib.Routing.OpsPair
public import Idealize.ShloMosaic.Lib.Routing.OpsSet
public import Idealize.ShloMosaic.Lib.StableHlo.ReadAt

@[expose] public section

set_option maxRecDepth 16384

noncomputable section

namespace Cert.KernelIdeal.Whole

open Idealize.ShloMosaic Idealize.ShloMosaic.TcCoe Idealize.ShloMosaic.Tactic
open Idealize.ShloMosaic.Routing
open Cert.KernelIdeal Cert.KernelIdeal.Gen

/-- A scatter of one window at `(r0, c0)`, read inside the window. -/
theorem window_hit {α : Type} {R C A B : ℕ} {si : Shape} (d : ScatterDims (shape2 R C) si (shape2 A B)) (x0 : (shape2 R C).Idx → α)
    (idx : IVec si 32) (upd : (shape2 A B).Idx → α) (r0 c0 : ℕ) (h0 : ∀ k, d.start k idx 0 = (r0 : Int)) (h1 : ∀ k, d.start k idx 1 = (c0 : Int))
    (w0 : ∀ k : (shape2 A B).Idx, d.window k 0 = (k 0).val) (w1 : ∀ k : (shape2 A B).Idx, d.window k 1 = (k 1).val)
    (r : Fin R) (c : Fin C) (a : Fin A) (b : Fin B) (hr : r.val = r0 + a.val) (hc : c.val = c0 + b.val) :
    Host.scatter d (fun _ b => b) x0 idx upd (ix2 r c) = upd (ix2 a b) := by
  refine scatter_set_hit d x0 idx upd _ _ (fun k hk => ?_) (ix2 a b) ?_
  · replace hk := (resultIdx?_ix2 d k idx r c).1 hk
    rw [h0, h1, w0, w1] at hk
    congr 1
    funext x
    refine Fin.cases ?_ (fun x => Fin.cases ?_ (fun x => x.elim0) x) x
    · apply Fin.ext
      change (k 0).val = a.val
      omega
    · apply Fin.ext
      change (k 1).val = b.val
      omega
  · refine (resultIdx?_ix2 d (ix2 a b) idx r c).2 ?_
    rw [h0, h1, w0, w1]
    change (r0 : Int) + (a.val : Int) = _ ∧ (c0 : Int) + (b.val : Int) = _
    omega

/-- A scatter of one window at `(r0, c0)`, read outside the window. -/
theorem window_miss {α : Type} {R C A B : ℕ} {si : Shape} (d : ScatterDims (shape2 R C) si (shape2 A B)) (x0 : (shape2 R C).Idx → α)
    (idx : IVec si 32) (upd : (shape2 A B).Idx → α) (r0 c0 : ℕ) (h0 : ∀ k, d.start k idx 0 = (r0 : Int)) (h1 : ∀ k, d.start k idx 1 = (c0 : Int))
    (w0 : ∀ k : (shape2 A B).Idx, d.window k 0 = (k 0).val) (w1 : ∀ k : (shape2 A B).Idx, d.window k 1 = (k 1).val)
    (r : Fin R) (c : Fin C) (h : r.val < r0 ∨ r0 + A ≤ r.val ∨ c.val < c0 ∨ c0 + B ≤ c.val) :
    Host.scatter d (fun _ b => b) x0 idx upd (ix2 r c) = x0 (ix2 r c) := by
  refine scatter_set_miss d x0 idx upd _ (fun k hk => ?_)
  replace hk := (resultIdx?_ix2 d k idx r c).1 hk
  rw [h0, h1, w0, w1] at hk
  have ha : (k 0).val < A := (k 0).isLt
  have hb : (k 1).val < B := (k 1).isLt
  omega

/-- A window's start where every index is zero. -/
theorem start_zero {s si u : Shape} (d : ScatterDims s si u) (idx : IVec si 32) (h : ∀ j, idx j = 0#32) (k : u.Idx) (a : Fin s.rank) :
    d.start k idx a = ((0 : ℕ) : Int) := by
  unfold ScatterDims.start
  split
  · rw [h]; rfl
  · rfl

/-- The pair of zero indices. -/
theorem zeros_pair (j : S2.Idx) : (concatenate S2 0 [⟨S1, broadcastInDim S1 ![] bcast_S_S1 (constantI S_ 32 0#32)⟩,
    ⟨S1, broadcastInDim S1 ![] bcast_S_S1 (constantI S_ 32 0#32)⟩] concatenates_S1_S1_S2_d0 : IVec S2 32) j = 0#32 := by
  have hj : j = ix1 (j 0) := by
    funext x
    exact Fin.cases rfl (fun x => x.elim0) x
  have hi : ∀ i : Fin 2, (concatenate S2 0 [⟨S1, broadcastInDim S1 ![] bcast_S_S1 (constantI S_ 32 0#32)⟩, ⟨S1, broadcastInDim S1 ![] bcast_S_S1 (constantI S_ 32 0#32)⟩] concatenates_S1_S1_S2_d0 : IVec S2 32) (ix1 i) = 0#32 := by
    decide +kernel
  exact (congrArg _ hj).trans (hi (j 0))

variable (X : Valuation τ sig (Elt Ideal))

/-- The points padded to eight columns. -/
theorem v4_at (n : Fin 10000) (c : Fin 8) :
    (StableHlo.after (hostOps0 (F := Ideal)) X (Proc.devRef .tc main_v4) : FVec Ideal S10000x8 .f32) (ix2 n c)
      = if h : c.val < 3 then (X (Proc.devRef .tc main_arg0) : FVec Ideal S1x3x10000 .f32) (ix3 0 ⟨c.val, h⟩ n) else (0 : EReal) := by
  unfold_abbrev_sides
  after_results
  by_cases h : c.val < 3
  · rw [dif_pos h]
    refine (window_hit scatter_S10000x8_S1_S10000x3_01_n_1_0 _ _ _ 0 0 (fun k => rfl) (fun k => rfl) (fun k => rfl) (fun k => rfl) n c n ⟨c.val, h⟩ (by simp) (by simp)).trans ?_
    pointwise
  · rw [dif_neg h]
    refine (window_miss scatter_S10000x8_S1_S10000x3_01_n_1_0 _ _ _ 0 0 (fun k => rfl) (fun k => rfl) (fun k => rfl) (fun k => rfl) n c (by omega)).trans ?_
    exact Ideal.ofBits_zero_f32

/-- The points as columns, padded to eight rows and 10240 columns. -/
theorem v10_at (r : Fin 8) (c : Fin 10240) :
    (StableHlo.after (hostOps0 (F := Ideal)) X (Proc.devRef .tc main_v10) : FVec Ideal S8x10240 .f32) (ix2 r c)
      = if h : r.val < 3 ∧ c.val < 10000 then (X (Proc.devRef .tc main_arg0) : FVec Ideal S1x3x10000 .f32) (ix3 0 ⟨r.val, h.1⟩ ⟨c.val, h.2⟩) else (0 : EReal) := by
  unfold_abbrev_sides
  after_results
  have hz := start_zero scatter_S8x10240_S2_S3x10000_01_n_01_0 _ (fun j => zeros_pair j)
  by_cases h : r.val < 3 ∧ c.val < 10000
  · rw [dif_pos h]
    refine (window_hit scatter_S8x10240_S2_S3x10000_01_n_01_0 _ _ _ 0 0 (fun k => hz k 0) (fun k => hz k 1) (fun k => rfl) (fun k => rfl) r c ⟨r.val, h.1⟩ ⟨c.val, h.2⟩ (by simp) (by simp)).trans ?_
    pointwise
  · rw [dif_neg h]
    refine (window_miss scatter_S8x10240_S2_S3x10000_01_n_01_0 _ _ _ 0 0 (fun k => hz k 0) (fun k => hz k 1) (fun k => rfl) (fun k => rfl) r c (by omega)).trans ?_
    exact Ideal.ofBits_zero_f32

/-- The points padded to eight columns and 10240 rows. -/
theorem v15_at (n : Fin 10240) (c : Fin 8) :
    (StableHlo.after (hostOps0 (F := Ideal)) X (Proc.devRef .tc main_v15) : FVec Ideal S10240x8 .f32) (ix2 n c)
      = if h : c.val < 3 ∧ n.val < 10000 then (X (Proc.devRef .tc main_arg0) : FVec Ideal S1x3x10000 .f32) (ix3 0 ⟨c.val, h.1⟩ ⟨n.val, h.2⟩) else (0 : EReal) := by
  unfold_abbrev_sides
  after_results
  have hz := start_zero scatter_S10240x8_S2_S10000x3_01_n_01_0 _ (fun j => zeros_pair j)
  by_cases h : c.val < 3 ∧ n.val < 10000
  · rw [dif_pos h]
    refine (window_hit scatter_S10240x8_S2_S10000x3_01_n_01_0 _ _ _ 0 0 (fun k => hz k 0) (fun k => hz k 1) (fun k => rfl) (fun k => rfl) n c ⟨n.val, h.2⟩ ⟨c.val, h.1⟩ (by simp) (by simp)).trans ?_
    pointwise
  · rw [dif_neg h]
    refine (window_miss scatter_S10240x8_S2_S10000x3_01_n_01_0 _ _ _ 0 0 (fun k => hz k 0) (fun k => hz k 1) (fun k => rfl) (fun k => rfl) n c (by omega)).trans ?_
    exact Ideal.ofBits_zero_f32

/-- A row of the first convolution's input: the point, then its neighbour. -/
theorem v21_at (R : Fin 160000) (j : Fin 16) :
    (StableHlo.after (hostOps1 (F := Ideal)) X (Proc.devRef .tc main_v21) : FVec Ideal S160000x16 .f32) (ix2 R j)
      = if h : j.val < 8 then (X (Proc.devRef .tc main_v4) : FVec Ideal S10000x8 .f32) (ix2 ⟨R.val / 16, by omega⟩ ⟨j.val, h⟩)
        else (X (Proc.devRef .tc main_v16_1) : FVec Ideal S16x10000x8 .f32) (ix3 ⟨R.val % 16, by omega⟩ ⟨R.val / 16, by omega⟩ ⟨j.val - 8, by omega⟩) := by
  unfold_abbrev_sides
  after_results
  by_cases h : j.val < 8
  · rw [dif_pos h]
    pointwise
    exact dif_pos h
  · rw [dif_neg h]
    pointwise
    exact dif_neg h

/-- The first convolution's weight, as the kernel lays it out. -/
def w16 (x1 : FVec Ideal S32x6 .f32) (j : Fin 16) (o : Fin 32) : EReal :=
  if h : j.val < 3 then x1 (ix2 o ⟨j.val, by omega⟩) - x1 (ix2 o ⟨3 + j.val, by omega⟩)
  else if h : 8 ≤ j.val ∧ j.val < 11 then x1 (ix2 o ⟨3 + (j.val - 8), by omega⟩)
  else (0 : EReal)

theorem v32_at (j : Fin 16) (o : Fin 32) :
    (StableHlo.after (hostOps1 (F := Ideal)) X (Proc.devRef .tc main_v32) : FVec Ideal S16x32 .f32) (ix2 j o)
      = w16 (X (Proc.devRef .tc main_arg1)) j o := by
  unfold w16
  unfold_abbrev_sides
  after_results
  by_cases h : 8 ≤ j.val ∧ j.val < 11
  · rw [dif_neg (by omega), dif_pos h]
    refine (window_hit scatter_S16x32_S1_S3x32_01_n_0_0 _ _ _ 8 0 (fun k => rfl) (fun k => rfl) (fun k => rfl) (fun k => rfl) j o ⟨j.val - 8, by omega⟩ o (by simp; omega) (by simp)).trans ?_
    pointwise
  · refine (window_miss scatter_S16x32_S1_S3x32_01_n_0_0 _ _ _ 8 0 (fun k => rfl) (fun k => rfl) (fun k => rfl) (fun k => rfl) j o (by omega)).trans ?_
    by_cases h3 : j.val < 3
    · rw [dif_pos h3]
      refine (window_hit scatter_S16x32_S1_S3x32_01_n_0_0 _ _ _ 0 0 (fun k => rfl) (fun k => rfl) (fun k => rfl) (fun k => rfl) j o ⟨j.val, h3⟩ o (by simp) (by simp)).trans ?_
      pointwise
    · rw [dif_neg h3, dif_neg h]
      refine (window_miss scatter_S16x32_S1_S3x32_01_n_0_0 _ _ _ 0 0 (fun k => rfl) (fun k => rfl) (fun k => rfl) (fun k => rfl) j o (by omega)).trans ?_
      exact Ideal.ofBits_zero_f32

/-- The first convolution's bias. -/
theorem v33_at (o : Fin 32) :
    (StableHlo.after (hostOps1 (F := Ideal)) X (Proc.devRef .tc main_v33) : FVec Ideal S1x32 .f32) (ix2 0 o)
      = (X (Proc.devRef .tc main_arg2) : FVec Ideal S32 .f32) (ix1 o) := by
  unfold_abbrev_sides
  after_results
  pointwise

end Cert.KernelIdeal.Whole
-- ==== Proof.Join.lean ====
/-
What joins the calls: the rows of the first convolution are those of the edge features, and a folded normalisation of
real rows is the normalisation itself.
-/
module

public import proofs.«01_k».proof.Proof.Val0
public import proofs.«01_k».proof.Proof.Val3
public import proofs.«01_k».proof.Proof.HostA

@[expose] public section

set_option maxRecDepth 16384

noncomputable section

namespace Cert.KernelIdeal.Whole

open Idealize.ShloMosaic Idealize.ShloMosaic.TcCoe Idealize.ShloMosaic.Tactic
open Cert.KernelIdeal Cert.KernelIdeal.Gen Cert.Spec

/-- A sum over the rows is one over the points and their neighbours. -/
theorem sum_rows {M N K : ℕ} (h : M * N = K) (f : Fin K → EReal) (hb : ∀ i : Fin M × Fin N, i.1.val * N + i.2.val < K) :
    ∑ R, f R = ∑ i : Fin M × Fin N, f ⟨i.1.val * N + i.2.val, hb i⟩ := by
  subst h
  rw [← Equiv.sum_comp finProdFinEquiv f]
  refine Finset.sum_congr rfl fun i _ => congrArg f (Fin.ext ?_)
  show i.2.val + N * i.1.val = i.1.val * N + i.2.val
  rw [Nat.mul_comm, Nat.add_comm]

theorem row_lt (i : Fin 10000 × Fin 16) : i.1.val * 16 + i.2.val < 160000 := by
  have h1 := i.1.isLt
  have h2 := i.2.isLt
  omega

/-- The row of a point and one of its neighbours. -/
def rowIx (i : Fin 10000 × Fin 16) : Fin 160000 := ⟨i.1.val * 16 + i.2.val, row_lt i⟩

theorem sum_rowIx (f : Fin 160000 → EReal) : ∑ R, f R = ∑ i : Fin 10000 × Fin 16, f (rowIx i) :=
  sum_rows (M := 10000) (N := 16) (by decide) f row_lt

theorem rowIx_div (i : Fin 10000 × Fin 16) : (rowIx i).val / 16 = i.1.val := by
  have h2 := i.2.isLt
  unfold rowIx
  dsimp only
  omega

theorem rowIx_mod (i : Fin 10000 × Fin 16) : (rowIx i).val % 16 = i.2.val := by
  have h2 := i.2.isLt
  unfold rowIx
  dsimp only
  omega

theorem count4 : Ideal.ofBits .f32 0x491C4000#32 = ((640000 : ℝ) : EReal) := by
  simp [Ideal.ofBits, Ideal.ieee, -EReal.coe_mul]
  norm_num

theorem count8 : Ideal.ofBits .f32 0x499C4000#32 = ((1280000 : ℝ) : EReal) := by
  simp [Ideal.ofBits, Ideal.ieee, -EReal.coe_mul]
  norm_num

theorem ones_sum : (∑ _i : Fin 10000 × Fin 16, (1 : ℝ)) = 160000 := by
  rw [Finset.sum_const, Finset.card_univ, Fintype.card_prod, Fintype.card_fin, Fintype.card_fin]
  norm_num

theorem hcount4 (c : Fin 32) : (∑ c' : Fin 32, if c'.val / 4 = c.val / 4 then ∑ _i : Fin 10000 × Fin 16, (1 : ℝ) else 0) = 640000 := by
  have h : ∀ c : Fin 32, (Finset.univ.filter fun c' : Fin 32 => c'.val / 4 = c.val / 4).card = 4 := by decide +kernel
  rw [← Finset.sum_filter, Finset.sum_const, h c, ones_sum]
  norm_num

theorem hcount8 (c : Fin 64) : (∑ c' : Fin 64, if c'.val / 8 = c.val / 8 then ∑ _i : Fin 10000 × Fin 16, (1 : ℝ) else 0) = 1280000 := by
  have h : ∀ c : Fin 64, (Finset.univ.filter fun c' : Fin 64 => c'.val / 8 = c.val / 8).card = 8 := by decide +kernel
  rw [← Finset.sum_filter, Finset.sum_const, h c, ones_sum]
  norm_num

/-- Normalising rows by the two sums of each column. -/
theorem act_eq {C : ℕ} (m : ℕ) (N : ℝ) (hN : 0 < N) (cnt : EReal) (hcnt : cnt = (N : EReal)) (y : Fin 160000 → Fin C → EReal)
    (Y : Fin 10000 × Fin 16 → Fin C → EReal) (hy : ∀ i c, y (rowIx i) c = Y i c) (S SS : Fin C → EReal)
    (hS : ∀ c, S c = ∑ R, y R c) (hSS : ∀ c, SS c = ∑ R, y R c * y R c) (γ : Fin C → ℝ) (β : Fin C → EReal) (i : Fin 10000 × Fin 16) (c : Fin C)
    (hcount : (∑ c' : Fin C, if c'.val / m = c.val / m then ∑ _i : Fin 10000 × Fin 16, (1 : ℝ) else 0) = N) :
    actOf m cnt S SS (γ c : EReal) (β c) (y (rowIx i) c) c
      = elu (gn m cnt Y (fun c => (γ c : EReal)) β i c) := by
  subst hcnt
  unfold actOf scaleOf
  rw [hy]
  refine congrArg elu (gn_fold_any m N hN Y γ β c hcount i S SS (fun c => ?_) (fun c => ?_))
  · rw [hS, sum_rowIx]
    exact Finset.sum_congr rfl fun i _ => hy i c
  · rw [hSS, sum_rowIx]
    exact Finset.sum_congr rfl fun i _ => by rw [hy i c]

/-- The weight of a point's coordinate, among the six. -/
def ownIx (a : Fin 3) : Fin 6 := ⟨a.val, by omega⟩

/-- The weight of a neighbour's relative coordinate, among the six. -/
def nbrIx (a : Fin 3) : Fin 6 := ⟨3 + a.val, by omega⟩

section first
variable (p : Fin 3 → Fin 10000 → ℝ) (u : Fin 32 → Fin 3 → EReal) (w : Fin 32 → Fin 3 → ℝ) (b : Fin 32 → EReal)

/-- A row of the first convolution, from a point and its neighbour: `u` weighs the point, `w` the neighbour relative to it. -/
def erow (n q : Fin 10000) (o : Fin 32) : EReal :=
  (u o 0 * p 0 n + w o 0 * (p 0 q - p 0 n)) + (u o 1 * p 1 n + w o 1 * (p 1 q - p 1 n)) + (u o 2 * p 2 n + w o 2 * (p 2 q - p 2 n)) + b o

theorem perm6 (a b c d e f : EReal) : a + b + c + d + e + f = (a + d) + (b + e) + (c + f) := by ac_rfl

theorem conv_edge (W : Fin 32 → Fin 6 → EReal) (hu : ∀ o (a : Fin 3), W o (ownIx a) = u o a)
    (hw : ∀ o (a : Fin 3), W o (nbrIx a) = (w o a : EReal)) (i : Fin 10000 × Fin 16) (o : Fin 32) :
    conv (edge (ept p)) W b i o = erow p u w b i.1 (near (sqdist (ept p) i.1) i.2) o := by
  have a0 : W o 0 = u o 0 := hu o 0
  have a1 : W o 1 = u o 1 := hu o 1
  have a2 : W o 2 = u o 2 := hu o 2
  have a3 : W o 3 = (w o 0 : EReal) := hw o 0
  have a4 : W o 4 = (w o 1 : EReal) := hw o 1
  have a5 : W o 5 = (w o 2 : EReal) := hw o 2
  unfold conv edge
  generalize near (sqdist (ept p) i.1) i.2 = q
  rw [Fin.sum_univ_six, a0, a1, a2, a3, a4, a5]
  unfold erow
  exact congrArg (· + b o) (perm6 _ _ _ _ _ _)

/-- Weighing a point by the difference of the weights and its neighbour by the second weight, or the point by the first weight and
    the difference by the second. -/
theorem weigh (u : EReal) (w a b : ℝ) : (a : EReal) * (u - w) + b * w = u * a + w * ((b : EReal) - a) := by
  have e : (w : EReal) * ((b : EReal) - a) = ((w * (b - a) : ℝ) : EReal) := by push_cast; rfl
  rcases inf_or_real u with h | ⟨r, rfl⟩
  · have hu : u - w = u := by
      rcases h with rfl | rfl
      · exact EReal.top_sub_coe w
      · exact EReal.bot_sub w
    rw [hu, e, mul_comm (a : EReal) u, ← EReal.coe_mul]
    rcases eq_or_ne a 0 with rfl | ha
    · rw [EReal.coe_zero, mul_zero, sub_zero, mul_comm b w]
    · have hi : Inf (u * a) := by
        rcases lt_or_gt_of_ne ha with ha | ha <;> rcases h with rfl | rfl
        · exact .inr (EReal.top_mul_coe_of_neg ha)
        · exact .inl (EReal.bot_mul_coe_of_neg ha)
        · exact .inl (EReal.top_mul_coe_of_pos ha)
        · exact .inr (EReal.bot_mul_coe_of_pos ha)
      rcases hi with hi | hi <;> rw [hi]
      · rw [EReal.top_add_coe, EReal.top_add_coe]
      · rw [EReal.bot_add, EReal.bot_add]
  · rw [e, ← EReal.coe_sub, ← EReal.coe_mul, ← EReal.coe_mul, ← EReal.coe_mul, ← EReal.coe_add, ← EReal.coe_add]
    congr 1
    ring

theorem row_edge (x : Fin 16 → EReal) (n q : Fin 10000) (hx : ∀ j : Fin 16, x j = if h : j.val < 8 then padp p n ⟨j.val, h⟩ else padp p q ⟨j.val - 8, by omega⟩)
    (x1 : FVec Ideal S32x6 .f32) (hu : ∀ o (a : Fin 3), x1 (ix2 o (ownIx a)) = u o a)
    (hw : ∀ o (a : Fin 3), x1 (ix2 o (nbrIx a)) = (w o a : EReal)) (o : Fin 32) :
    (∑ j, x j * w16 x1 j o) + b o = erow p u w b n q o := by
  have a0 : x1 (ix2 o 0) = u o 0 := hu o 0
  have a1 : x1 (ix2 o 1) = u o 1 := hu o 1
  have a2 : x1 (ix2 o 2) = u o 2 := hu o 2
  have a3 : x1 (ix2 o 3) = (w o 0 : EReal) := hw o 0
  have a4 : x1 (ix2 o 4) = (w o 1 : EReal) := hw o 1
  have a5 : x1 (ix2 o 5) = (w o 2 : EReal) := hw o 2
  unfold erow
  rw [← weigh, ← weigh, ← weigh]
  refine congrArg (· + b o) ?_
  simp only [hx]
  unfold w16
  rw [Fin.sum_univ_castSucc, Fin.sum_univ_castSucc, Fin.sum_univ_castSucc, Fin.sum_univ_castSucc, Fin.sum_univ_castSucc, Fin.sum_univ_castSucc,
    Fin.sum_univ_castSucc, Fin.sum_univ_castSucc, Fin.sum_univ_eight]
  simp [padp, a0, a1, a2, a3, a4, a5]
  exact perm6 _ _ _ _ _ _

end first

end Cert.KernelIdeal.Whole
-- ==== Proof.HostB.lean ====
/-
The host operations before the third and the fourth call, read at one index: the matrices of the channel groups, the
transposed weights, the scales and offsets as rows.
-/
module

public import proofs.«01_k».proof.Proof.HostA
public import proofs.«01_k».proof.Proof.Val2

@[expose] public section

set_option maxRecDepth 16384

noncomputable section

namespace Cert.KernelIdeal.Whole

open Idealize.ShloMosaic Idealize.ShloMosaic.TcCoe Idealize.ShloMosaic.Tactic
open Cert.KernelIdeal Cert.KernelIdeal.Gen Cert.Spec

/-- The word of a comparison of two small numbers, as a number. -/
theorem hot_word (a g : ℕ) (ha : a < 8) (hg : g < 8) :
    (FloatOps.uitofp .f32 (IntOp.cmpi .eq (BitVec.ofNat 32 a) (BitVec.ofNat 32 g)) : Ideal .f32) = if a = g then (1 : EReal) else 0 := by
  have e : IntOp.cmpi .eq (BitVec.ofNat 32 a) (BitVec.ofNat 32 g) = if a = g then 1#1 else 0#1 :=
    (by decide +kernel : ∀ a g : Fin 8, IntOp.cmpi .eq (BitVec.ofNat 32 a.val) (BitVec.ofNat 32 g.val) = if a.val = g.val then 1#1 else 0#1) ⟨a, ha⟩ ⟨g, hg⟩
  rw [e]
  by_cases h : a = g
  · rw [if_pos h, if_pos h]; simp [FloatOps.uitofp]
  · rw [if_neg h, if_neg h]; simp [FloatOps.uitofp]

section stretches
variable (X : Valuation τ sig (Elt Ideal))

theorem v36_at (h : X (Proc.devRef .tc main_v35) = iotaInDim S32 32 0) (hc : X (Proc.devRef .tc main_c_9) = constantI S_ 32 4#32) (i : Fin 32) :
    (StableHlo.after (hostOps2_1 (F := Ideal)) X (Proc.devRef .tc main_v36) : IVec S32 32) (ix1 i) = BitVec.ofNat 32 (i.val / 4) := by
  unfold_abbrev_sides
  after_results
  rw [h, hc]
  revert i
  decide +kernel

theorem v43_at (h : ∀ i : Fin 32, (X (Proc.devRef .tc main_v36) : IVec S32 32) (ix1 i) = BitVec.ofNat 32 (i.val / 4)) :
    hot (C := 32) 4 (StableHlo.after (hostOps2_2 (F := Ideal)) X (Proc.devRef .tc main_v43)) := by
  intro i g
  unfold_abbrev_sides
  after_results
  generalize X (Proc.devRef .tc main_v36) = v at h ⊢
  pointwise
  rw [h]
  exact hot_word _ _ (by omega) (by omega)

theorem v45_at (h : X (Proc.devRef .tc main_v44) = iotaInDim S32 32 0) (hc : X (Proc.devRef .tc main_c_10) = constantI S_ 32 4#32) (i : Fin 32) :
    (StableHlo.after (hostOps2_3 (F := Ideal)) X (Proc.devRef .tc main_v45) : IVec S32 32) (ix1 i) = BitVec.ofNat 32 (i.val / 4) := by
  unfold_abbrev_sides
  after_results
  rw [h, hc]
  revert i
  decide +kernel

theorem v53_at (h : ∀ i : Fin 32, (X (Proc.devRef .tc main_v45) : IVec S32 32) (ix1 i) = BitVec.ofNat 32 (i.val / 4)) :
    hotT (C := 32) 4 (StableHlo.after (hostOps2_4 (F := Ideal)) X (Proc.devRef .tc main_v53)) := by
  intro g i
  unfold_abbrev_sides
  after_results
  generalize X (Proc.devRef .tc main_v45) = v at h ⊢
  pointwise
  rw [h]
  exact hot_word _ _ (by omega) (by omega)

theorem v54_at (j : Fin 32) :
    (StableHlo.after (hostOps2_4 (F := Ideal)) X (Proc.devRef .tc main_v54) : FVec Ideal S1x32 .f32) (ix2 0 j) = (X (Proc.devRef .tc main_arg3) : FVec Ideal S32 .f32) (ix1 j) := by
  unfold_abbrev_sides
  after_results
  pointwise

theorem v55_at (j : Fin 32) :
    (StableHlo.after (hostOps2_4 (F := Ideal)) X (Proc.devRef .tc main_v55) : FVec Ideal S1x32 .f32) (ix2 0 j) = (X (Proc.devRef .tc main_arg4) : FVec Ideal S32 .f32) (ix1 j) := by
  unfold_abbrev_sides
  after_results
  pointwise

theorem v56_at (i : Fin 32) (j : Fin 64) :
    (StableHlo.after (hostOps2_4 (F := Ideal)) X (Proc.devRef .tc main_v56) : FVec Ideal S32x64 .f32) (ix2 i j) = (X (Proc.devRef .tc main_arg5) : FVec Ideal S64x32 .f32) (ix2 j i) := by
  unfold_abbrev_sides
  after_results
  pointwise

theorem v57_at (j : Fin 64) :
    (StableHlo.after (hostOps2_4 (F := Ideal)) X (Proc.devRef .tc main_v57) : FVec Ideal S1x64 .f32) (ix2 0 j) = (X (Proc.devRef .tc main_arg6) : FVec Ideal S64 .f32) (ix1 j) := by
  unfold_abbrev_sides
  after_results
  pointwise

theorem v60_at (h : X (Proc.devRef .tc main_v59) = iotaInDim S64 32 0) (hc : X (Proc.devRef .tc main_c_11) = constantI S_ 32 8#32) (i : Fin 64) :
    (StableHlo.after (hostOps3_1 (F := Ideal)) X (Proc.devRef .tc main_v60) : IVec S64 32) (ix1 i) = BitVec.ofNat 32 (i.val / 8) := by
  unfold_abbrev_sides
  after_results
  rw [h, hc]
  revert i
  decide +kernel

theorem v67_at (h : ∀ i : Fin 64, (X (Proc.devRef .tc main_v60) : IVec S64 32) (ix1 i) = BitVec.ofNat 32 (i.val / 8)) :
    hot (C := 64) 8 (StableHlo.after (hostOps3_2 (F := Ideal)) X (Proc.devRef .tc main_v67)) := by
  intro i g
  unfold_abbrev_sides
  after_results
  generalize X (Proc.devRef .tc main_v60) = v at h ⊢
  pointwise
  rw [h]
  exact hot_word _ _ (by omega) (by omega)

theorem v69_at (h : X (Proc.devRef .tc main_v68) = iotaInDim S64 32 0) (hc : X (Proc.devRef .tc main_c_12) = constantI S_ 32 8#32) (i : Fin 64) :
    (StableHlo.after (hostOps3_3 (F := Ideal)) X (Proc.devRef .tc main_v69) : IVec S64 32) (ix1 i) = BitVec.ofNat 32 (i.val / 8) := by
  unfold_abbrev_sides
  after_results
  rw [h, hc]
  revert i
  decide +kernel

theorem v77_at (h : ∀ i : Fin 64, (X (Proc.devRef .tc main_v69) : IVec S64 32) (ix1 i) = BitVec.ofNat 32 (i.val / 8)) :
    hotT (C := 64) 8 (StableHlo.after (hostOps3_4 (F := Ideal)) X (Proc.devRef .tc main_v77)) := by
  intro g i
  unfold_abbrev_sides
  after_results
  generalize X (Proc.devRef .tc main_v69) = v at h ⊢
  pointwise
  rw [h]
  exact hot_word _ _ (by omega) (by omega)

theorem v79_at (h : X (Proc.devRef .tc main_v78) = iotaInDim S128 32 0) (hc : X (Proc.devRef .tc main_c_13) = constantI S_ 32 16#32) (i : Fin 128) :
    (StableHlo.after (hostOps3_5 (F := Ideal)) X (Proc.devRef .tc main_v79) : IVec S128 32) (ix1 i) = BitVec.ofNat 32 (i.val / 16) := by
  unfold_abbrev_sides
  after_results
  rw [h, hc]
  revert i
  decide +kernel

theorem v86_at (h : ∀ i : Fin 128, (X (Proc.devRef .tc main_v79) : IVec S128 32) (ix1 i) = BitVec.ofNat 32 (i.val / 16)) :
    hot (C := 128) 16 (StableHlo.after (hostOps3_6 (F := Ideal)) X (Proc.devRef .tc main_v86)) := by
  intro i g
  unfold_abbrev_sides
  after_results
  generalize X (Proc.devRef .tc main_v79) = v at h ⊢
  pointwise
  rw [h]
  exact hot_word _ _ (by omega) (by omega)

theorem v88_at (h : X (Proc.devRef .tc main_v87) = iotaInDim S128 32 0) (hc : X (Proc.devRef .tc main_c_14) = constantI S_ 32 16#32) (i : Fin 128) :
    (StableHlo.after (hostOps3_7 (F := Ideal)) X (Proc.devRef .tc main_v88) : IVec S128 32) (ix1 i) = BitVec.ofNat 32 (i.val / 16) := by
  unfold_abbrev_sides
  after_results
  rw [h, hc]
  revert i
  decide +kernel

theorem v96_at (h : ∀ i : Fin 128, (X (Proc.devRef .tc main_v88) : IVec S128 32) (ix1 i) = BitVec.ofNat 32 (i.val / 16)) :
    hotT (C := 128) 16 (StableHlo.after (hostOps3_8 (F := Ideal)) X (Proc.devRef .tc main_v96)) := by
  intro g i
  unfold_abbrev_sides
  after_results
  generalize X (Proc.devRef .tc main_v88) = v at h ⊢
  pointwise
  rw [h]
  exact hot_word _ _ (by omega) (by omega)

theorem v97_at (j : Fin 64) :
    (StableHlo.after (hostOps3_8 (F := Ideal)) X (Proc.devRef .tc main_v97) : FVec Ideal S1x64 .f32) (ix2 0 j) = (X (Proc.devRef .tc main_arg7) : FVec Ideal S64 .f32) (ix1 j) := by
  unfold_abbrev_sides
  after_results
  pointwise

theorem v98_at (j : Fin 64) :
    (StableHlo.after (hostOps3_8 (F := Ideal)) X (Proc.devRef .tc main_v98) : FVec Ideal S1x64 .f32) (ix2 0 j) = (X (Proc.devRef .tc main_arg8) : FVec Ideal S64 .f32) (ix1 j) := by
  unfold_abbrev_sides
  after_results
  pointwise

theorem v100_at (j : Fin 128) :
    (StableHlo.after (hostOps3_8 (F := Ideal)) X (Proc.devRef .tc main_v100) : FVec Ideal S1x128 .f32) (ix2 0 j) = (X (Proc.devRef .tc main_arg10) : FVec Ideal S128 .f32) (ix1 j) := by
  unfold_abbrev_sides
  after_results
  pointwise

theorem v101_at (j : Fin 128) :
    (StableHlo.after (hostOps3_8 (F := Ideal)) X (Proc.devRef .tc main_v101) : FVec Ideal S1x128 .f32) (ix2 0 j) = (X (Proc.devRef .tc main_arg11) : FVec Ideal S128 .f32) (ix1 j) := by
  unfold_abbrev_sides
  after_results
  pointwise

theorem v102_at (j : Fin 128) :
    (StableHlo.after (hostOps3_8 (F := Ideal)) X (Proc.devRef .tc main_v102) : FVec Ideal S1x128 .f32) (ix2 0 j) = (X (Proc.devRef .tc main_arg12) : FVec Ideal S128 .f32) (ix1 j) := by
  unfold_abbrev_sides
  after_results
  pointwise

theorem v104_at (j : Fin 128) :
    (StableHlo.after (hostOps3_8 (F := Ideal)) X (Proc.devRef .tc main_v104) : FVec Ideal S1x128 .f32) (ix2 0 j) = (X (Proc.devRef .tc main_arg14) : FVec Ideal S128 .f32) (ix1 j) := by
  unfold_abbrev_sides
  after_results
  pointwise

theorem v105_at (j : Fin 128) :
    (StableHlo.after (hostOps3_8 (F := Ideal)) X (Proc.devRef .tc main_v105) : FVec Ideal S1x128 .f32) (ix2 0 j) = (X (Proc.devRef .tc main_arg15) : FVec Ideal S128 .f32) (ix1 j) := by
  unfold_abbrev_sides
  after_results
  pointwise

theorem v106_at (j : Fin 128) :
    (StableHlo.after (hostOps3_8 (F := Ideal)) X (Proc.devRef .tc main_v106) : FVec Ideal S1x128 .f32) (ix2 0 j) = (X (Proc.devRef .tc main_arg16) : FVec Ideal S128 .f32) (ix1 j) := by
  unfold_abbrev_sides
  after_results
  pointwise

theorem v99_at (i : Fin 64) (j : Fin 128) :
    (StableHlo.after (hostOps3_8 (F := Ideal)) X (Proc.devRef .tc main_v99) : FVec Ideal S64x128 .f32) (ix2 i j) = (X (Proc.devRef .tc main_arg9) : FVec Ideal S128x64 .f32) (ix2 j i) := by
  unfold_abbrev_sides
  after_results
  pointwise

theorem v103_at (i : Fin 128) (j : Fin 128) :
    (StableHlo.after (hostOps3_8 (F := Ideal)) X (Proc.devRef .tc main_v103) : FVec Ideal S128x128 .f32) (ix2 i j) = (X (Proc.devRef .tc main_arg13) : FVec Ideal S128x128 .f32) (ix2 j i) := by
  unfold_abbrev_sides
  after_results
  pointwise

/-- The result, the transpose of what the last call leaves. -/
theorem v109_at (k : Fin 16) (r : Fin 128) :
    (StableHlo.after (hostOps4 (F := Ideal)) X (Proc.devRef .tc main_v109) : FVec Ideal S1x128x16 .f32) (ix3 0 r k) = (X (Proc.devRef .tc main_v107) : FVec Ideal S16x128 .f32) (ix2 k r) := by
  unfold_abbrev_sides
  after_results
  pointwise

end stretches

section chain
variable (m : (ℓ : Loc nD τ sig) → Buf (Elt Ideal) ℓ) (c : Dev nD)

theorem hot_v43 : hot (C := 32) 4 (V9 m c main_v43) := by
  have hi : W5 m c (Proc.devRef .tc main_v35) = iotaInDim S32 32 0 := by unfold_abbrev_sides; after_results
  have hc : W5 m c (Proc.devRef .tc main_c_9) = constantI S_ 32 4#32 := by unfold_abbrev_sides; after_results
  have h := v43_at (W6 m c) (v36_at (W5 m c) hi hc)
  rw [show V9 m c main_v43 = W7 m c (Proc.devRef .tc main_v43) from (W9_of m c _ (by decide)).trans (W8_of m c _ (by decide))]
  exact h

theorem hot_v53 : hotT (C := 32) 4 (V9 m c main_v53) := by
  have hi : W7 m c (Proc.devRef .tc main_v44) = iotaInDim S32 32 0 := by unfold_abbrev_sides; after_results
  have hc : W7 m c (Proc.devRef .tc main_c_10) = constantI S_ 32 4#32 := by unfold_abbrev_sides; after_results
  exact v53_at (W8 m c) (v45_at (W7 m c) hi hc)

theorem hot_v67 : hot (C := 64) 8 (V19 m c main_v67) := by
  have hi : W11 m c (Proc.devRef .tc main_v59) = iotaInDim S64 32 0 := by unfold_abbrev_sides; after_results
  have hc : W11 m c (Proc.devRef .tc main_c_11) = constantI S_ 32 8#32 := by unfold_abbrev_sides; after_results
  have h := v67_at (W12 m c) (v60_at (W11 m c) hi hc)
  rw [show V19 m c main_v67 = W13 m c (Proc.devRef .tc main_v67) from (W19_of m c _ (by decide)).trans ((W18_of m c _ (by decide)).trans
    ((W17_of m c _ (by decide)).trans ((W16_of m c _ (by decide)).trans ((W15_of m c _ (by decide)).trans (W14_of m c _ (by decide))))))]
  exact h

theorem hot_v77 : hotT (C := 64) 8 (V19 m c main_v77) := by
  have hi : W13 m c (Proc.devRef .tc main_v68) = iotaInDim S64 32 0 := by unfold_abbrev_sides; after_results
  have hc : W13 m c (Proc.devRef .tc main_c_12) = constantI S_ 32 8#32 := by unfold_abbrev_sides; after_results
  have h := v77_at (W14 m c) (v69_at (W13 m c) hi hc)
  rw [show V19 m c main_v77 = W15 m c (Proc.devRef .tc main_v77) from (W19_of m c _ (by decide)).trans ((W18_of m c _ (by decide)).trans
    ((W17_of m c _ (by decide)).trans (W16_of m c _ (by decide))))]
  exact h

theorem hot_v86 : hot (C := 128) 16 (V19 m c main_v86) := by
  have hi : W15 m c (Proc.devRef .tc main_v78) = iotaInDim S128 32 0 := by unfold_abbrev_sides; after_results
  have hc : W15 m c (Proc.devRef .tc main_c_13) = constantI S_ 32 16#32 := by unfold_abbrev_sides; after_results
  have h := v86_at (W16 m c) (v79_at (W15 m c) hi hc)
  rw [show V19 m c main_v86 = W17 m c (Proc.devRef .tc main_v86) from (W19_of m c _ (by decide)).trans (W18_of m c _ (by decide))]
  exact h

theorem hot_v96 : hotT (C := 128) 16 (V19 m c main_v96) := by
  have hi : W17 m c (Proc.devRef .tc main_v87) = iotaInDim S128 32 0 := by unfold_abbrev_sides; after_results
  have hc : W17 m c (Proc.devRef .tc main_c_14) = constantI S_ 32 16#32 := by unfold_abbrev_sides; after_results
  exact v96_at (W18 m c) (v88_at (W17 m c) hi hc)

end chain

end Cert.KernelIdeal.Whole
-- ==== Proof.Whole.lean ====
/-
The kernel's result, from its arguments: the four calls and the host operations between them, put together.
-/
module

public import proofs.«01_k».proof.Proof.Join
public import proofs.«01_k».proof.Proof.HostB

@[expose] public section

set_option maxRecDepth 16384

noncomputable section

namespace Cert.KernelIdeal.Whole

open Idealize.ShloMosaic Idealize.ShloMosaic.TcCoe Idealize.ShloMosaic.Tactic
open Cert.KernelIdeal Cert.KernelIdeal.Gen Cert.Spec

/-- The two first rows hold each column's sum and the sum of its squares. -/
def colSums {C : ℕ} (y : FVec Ideal ⟨2, ![160000, C]⟩ .f32) (st : FVec Ideal S8x128 .f32) : Prop :=
  ∀ (c : Fin C) (l : Fin 128), l.val = c.val → st (ix2 0 l) = ∑ R : Fin 160000, y (ix2 R c) ∧ st (ix2 1 l) = ∑ R : Fin 160000, y (ix2 R c) * y (ix2 R c)

theorem colSums_of {C : ℕ} (y : FVec Ideal ⟨2, ![160000, C]⟩ .f32) (st st' : FVec Ideal S8x128 .f32) (hst : st = st') (f : Fin 160000 → Fin C → EReal)
    (hy : ∀ R c, y (ix2 R c) = f R c)
    (h : ∀ (c : Fin C) (l : Fin 128), l.val = c.val → st' (ix2 0 l) = ∑ R : Fin 160000, f R c ∧ st' (ix2 1 l) = ∑ R : Fin 160000, f R c * f R c) : colSums y st := by
  subst hst
  intro c l hl
  simp only [hy]
  exact h c l hl

theorem rows2_mid (Y : Fin 10000 × Fin 16 → Fin 32 → EReal) (g : Fin 32 → ℝ) (e : Fin 32 → EReal) (w : Fin 64 → Fin 32 → EReal) (b : Fin 64 → EReal)
    (y : FVec Ideal S160000x32 .f32) (st : FVec Ideal S8x128 .f32) (γ β : FVec Ideal S1x32 .f32) (W : FVec Ideal S32x64 .f32) (B : FVec Ideal S1x64 .f32)
    (hy : ∀ i c, y (ix2 (rowIx i) c) = Y i c)
    (hs : colSums (C := 32) y st)
    (hγ : ∀ c, γ (ix2 0 c) = (g c : EReal)) (hβ : ∀ c, β (ix2 0 c) = e c) (hW : ∀ c q, W (ix2 c q) = w q c) (hB : ∀ q, B (ix2 0 q) = b q)
    (i : Fin 10000 × Fin 16) (q : Fin 64) :
    rows2 y st γ β W B (rowIx i) q = mid Y (fun c => (g c : EReal)) e w b i q := by
  unfold rows2 mid conv
  rw [hB]
  refine congrArg (· + _) (Finset.sum_congr rfl fun c _ => ?_)
  rw [hW, hγ, hβ, mul_comm]
  exact congrArg (_ * ·) (act_eq 4 640000 (by norm_num) _ count4 (fun R c => y (ix2 R c)) Y hy _ _ (fun c => (hs c _ rfl).1) (fun c => (hs c _ rfl).2) g e i c (hcount4 c))

theorem act3_top (Z : Fin 10000 × Fin 16 → Fin 64 → EReal) (g : Fin 64 → ℝ) (be : Fin 64 → EReal) (y : FVec Ideal S160000x64 .f32) (st : FVec Ideal S8x128 .f32)
    (γ β : FVec Ideal S1x64 .f32) (hy : ∀ i c, y (ix2 (rowIx i) c) = Z i c)
    (hs : colSums (C := 64) y st)
    (hγ : ∀ c, γ (ix2 0 c) = (g c : EReal)) (hβ : ∀ c, β (ix2 0 c) = be c) (i : Fin 10000 × Fin 16) (q : Fin 64) :
    act3 y st γ β (rowIx i) q
      = elu (gn 8 (Ideal.ofBits .f32 0x499C4000#32) Z (fun c => (g c : EReal)) be i q) := by
  unfold act3
  rw [hγ, hβ]
  exact act_eq 8 1280000 (by norm_num) _ count8 (fun R c => y (ix2 R c)) Z hy _ _ (fun c => (hs c _ rfl).1) (fun c => (hs c _ rfl).2) g be i q (hcount8 q)

/-- An argument as an array. -/
abbrev arr (S : Shape) (x : (⟨S, .f32⟩ : BufTy).Contents (Elt Ideal)) : FVec Ideal S .f32 := x

section chain
variable (m : (ℓ : Loc nD τ sig) → Buf (Elt Ideal) ℓ) (c : Dev nD)
  (p : Fin 3 → Fin 10000 → ℝ) (hp : ∀ a n, |p a n| ≤ 911000000000000000)
  (h0 : ∀ a n, arr S1x3x10000 (m ((c : Thread nD τ).loc main_arg0)) (ix3 0 a n) = (p a n : EReal))
  (w1 : Fin 32 → Fin 3 → ℝ) (h1 : ∀ o (a : Fin 3), arr S32x6 (m ((c : Thread nD τ).loc main_arg1)) (ix2 o (nbrIx a)) = (w1 o a : EReal))

include h0 in
theorem v4_pad (n : Fin 10000) (j : Fin 8) : (V1 m c main_v4 : FVec Ideal S10000x8 .f32) (ix2 n j) = padp p n j := by
  refine (v4_at (W0 m c) n j).trans ?_
  unfold padp
  by_cases h : j.val < 3
  · rw [dif_pos h, dif_pos h]
    exact h0 _ n
  · rw [dif_neg h, dif_neg h]

include h0 in
theorem v10_pad (j : Fin 8) (q : Fin 10240) : (V1 m c main_v10 : FVec Ideal S8x10240 .f32) (ix2 j q) = padq p j q := by
  refine (v10_at (W0 m c) j q).trans ?_
  unfold padq
  by_cases h : j.val < 3 ∧ q.val < 10000
  · rw [dif_pos h, dif_pos h]
    exact h0 _ _
  · rw [dif_neg h, dif_neg h]

include h0 in
theorem v15_pad (q : Fin 10240) (j : Fin 8) : (V1 m c main_v15 : FVec Ideal S10240x8 .f32) (ix2 q j) = padq p j q := by
  refine (v15_at (W0 m c) q j).trans ?_
  unfold padq
  by_cases h : j.val < 3 ∧ q.val < 10000
  · rw [dif_pos h, dif_pos h]
    exact h0 _ _
  · rw [dif_neg h, dif_neg h]

include h0 hp in
theorem v21_pad (i : Fin 10000 × Fin 16) (j : Fin 16) : (V3 m c main_v21 : FVec Ideal S160000x16 .f32) (ix2 (rowIx i) j)
    = if h : j.val < 8 then padp p i.1 ⟨j.val, h⟩ else padp p (near (sqdist (ept p) i.1) i.2) ⟨j.val - 8, by omega⟩ := by
  refine (v21_at (W2 m c) (rowIx i) j).trans ?_
  have e1 : (⟨(rowIx i).val / 16, by have := (rowIx i).isLt; omega⟩ : Fin 10000) = i.1 := Fin.ext (rowIx_div i)
  have e2 : (⟨(rowIx i).val % 16, by omega⟩ : Fin 16) = i.2 := Fin.ext (rowIx_mod i)
  by_cases h : j.val < 8
  · rw [dif_pos h, dif_pos h, e1]
    exact (congrFun (W2_of m c main_v4 (by decide)) _).trans (v4_pad m c p h0 i.1 _)
  · rw [dif_neg h, dif_neg h, e1, e2]
    exact (congrFun (W2_arr m c 4) _).trans (nb_at (V1 m) p hp c (v4_pad m c p h0) (v10_pad m c p h0) (v15_pad m c p h0) i.2 i.1 _)

/-- The first convolution's rows. -/
abbrev Y1of : Fin 10000 × Fin 16 → Fin 32 → EReal :=
  conv (edge (ept p)) (fun o a => arr S32x6 (m ((c : Thread nD τ).loc main_arg1)) (ix2 o a)) (fun o => arr S32 (m ((c : Thread nD τ).loc main_arg2)) (ix1 o))

include h0 hp h1 in
theorem row1_eq (i : Fin 10000 × Fin 16) (o : Fin 32) : row1 (V3 m) c (rowIx i) o = Y1of m c p i o := by
  refine Eq.trans ?_ (conv_edge p (fun o a => arr S32x6 (m ((c : Thread nD τ).loc main_arg1)) (ix2 o (ownIx a))) w1 _ _ (fun _ _ => rfl) h1 i o).symm
  unfold row1 rowOf
  rw [show (V3 m c main_v33 : FVec Ideal S1x32 .f32) (ix2 0 o) = arr S32 (m ((c : Thread nD τ).loc main_arg2)) (ix1 o) from
    (v33_at (W2 m c) o).trans (congrFun (W2_args m c main_arg2 (by decide)) _)]
  refine Eq.trans (congrArg (· + _) (Finset.sum_congr rfl fun j _ => congrArg₂ (· * ·) rfl ?_)) (row_edge p _ w1 (fun o => arr S32 (m ((c : Thread nD τ).loc main_arg2)) (ix1 o))
    (fun j => (V3 m c main_v21 : FVec Ideal S160000x16 .f32) (ix2 (rowIx i) j)) i.1 _ (v21_pad m c p hp h0 i) (arr S32x6 (m ((c : Thread nD τ).loc main_arg1))) (fun _ _ => rfl) h1 o)
  refine (v32_at (W2 m c) j o).trans ?_
  rw [W2_args m c main_arg1 (by decide)]

theorem y1_v (R : Fin 160000) (o : Fin 32) : (V9 m c main_v34_0 : FVec Ideal S160000x32 .f32) (ix2 R o) = row1 (V3 m) c R o := by
  have e : W9 m c (Proc.devRef .tc main_v34_0) = (dat1 (V3 m) c).arrAt 3 cfg1.N :=
    (W9_of m c _ (by decide)).trans <| (W8_of m c _ (by decide)).trans <| (W7_of m c _ (by decide)).trans <| (W6_of m c _ (by decide)).trans <|
      (W5_of m c _ (by decide)).trans (W4_arr m c 3)
  exact (congrFun e _).trans (y1_at (V3 m) c R o)

theorem st1_v : (V9 m c main_v34_1 : FVec Ideal S8x128 .f32) = (dat1 (V3 m) c).arrAt 4 cfg1.N :=
  (W9_of m c _ (by decide)).trans <| (W8_of m c _ (by decide)).trans <| (W7_of m c _ (by decide)).trans <| (W6_of m c _ (by decide)).trans <|
    (W5_of m c _ (by decide)).trans (W4_arr m c 4)

theorem st1_sums : colSums (C := 32) (V9 m c main_v34_0) (V9 m c main_v34_1) :=
  colSums_of (C := 32) _ _ _ (st1_v m c) (row1 (V3 m) c) (y1_v m c) (st1_at (V3 m) c)

/-- The third call's rows. -/
abbrev rowsB (R : Fin 160000) (q : Fin 64) : EReal :=
  rows2 (V9 m c main_v34_0) (V9 m c main_v34_1) (V9 m c main_v54) (V9 m c main_v55) (V9 m c main_v56) (V9 m c main_v57) R q

theorem y2_v (R : Fin 160000) (q : Fin 64) : (V19 m c main_v58_0 : FVec Ideal S160000x64 .f32) (ix2 R q) = rowsB m c R q := by
  have e : W19 m c (Proc.devRef .tc main_v58_0) = (dat2 (V9 m) c).arrAt 8 cfg2.N :=
    (W19_of m c _ (by decide)).trans <| (W18_of m c _ (by decide)).trans <| (W17_of m c _ (by decide)).trans <| (W16_of m c _ (by decide)).trans <|
      (W15_of m c _ (by decide)).trans <| (W14_of m c _ (by decide)).trans <| (W13_of m c _ (by decide)).trans <| (W12_of m c _ (by decide)).trans <|
      (W11_of m c _ (by decide)).trans (W10_arr m c 8)
  exact (congrFun e _).trans (y2_at (V9 m) c (hot_v43 m c) (hot_v53 m c) R q)

theorem st2_v : (V19 m c main_v58_1 : FVec Ideal S8x128 .f32) = (dat2 (V9 m) c).arrAt 9 cfg2.N :=
  (W19_of m c _ (by decide)).trans <| (W18_of m c _ (by decide)).trans <| (W17_of m c _ (by decide)).trans <| (W16_of m c _ (by decide)).trans <|
    (W15_of m c _ (by decide)).trans <| (W14_of m c _ (by decide)).trans <| (W13_of m c _ (by decide)).trans <| (W12_of m c _ (by decide)).trans <|
    (W11_of m c _ (by decide)).trans (W10_arr m c 9)

theorem st2_sums : colSums (C := 64) (V19 m c main_v58_0) (V19 m c main_v58_1) :=
  colSums_of (C := 64) _ _ _ (st2_v m c) (rowsB m c) (y2_v m c) (st2_at (V9 m) c (hot_v43 m c) (hot_v53 m c))

variable (g1 : Fin 32 → ℝ) (h3 : ∀ o, arr S32 (m ((c : Thread nD τ).loc main_arg3)) (ix1 o) = (g1 o : EReal))
  (g2 : Fin 64 → ℝ) (h7 : ∀ q, arr S64 (m ((c : Thread nD τ).loc main_arg7)) (ix1 q) = (g2 q : EReal))

/-- The second convolution's rows. -/
abbrev Y2of : Fin 10000 × Fin 16 → Fin 64 → EReal :=
  mid (Y1of m c p) (fun o => (g1 o : EReal)) (fun o => arr S32 (m ((c : Thread nD τ).loc main_arg4)) (ix1 o))
    (fun q o => arr S64x32 (m ((c : Thread nD τ).loc main_arg5)) (ix2 q o)) (fun q => arr S64 (m ((c : Thread nD τ).loc main_arg6)) (ix1 q))

include h0 hp h1 h3 in
theorem rowsB_mid (i : Fin 10000 × Fin 16) (q : Fin 64) : rowsB m c (rowIx i) q = Y2of m c p g1 i q :=
  rows2_mid (Y1of m c p) g1 _ _ _ _ _ _ _ _ _
    (fun i o => (y1_v m c (rowIx i) o).trans (row1_eq m c p hp h0 w1 h1 i o)) (st1_sums m c)
    (fun o => ((v54_at (W8 m c) o).trans (congrFun (W8_args m c main_arg3 (by decide)) _)).trans (h3 o))
    (fun o => (v55_at (W8 m c) o).trans (congrFun (W8_args m c main_arg4 (by decide)) _))
    (fun o q => (v56_at (W8 m c) o q).trans (congrFun (W8_args m c main_arg5 (by decide)) _))
    (fun q => (v57_at (W8 m c) q).trans (congrFun (W8_args m c main_arg6 (by decide)) _)) i q

include h0 hp h1 h3 h7 in
/-- The kernel's result. -/
theorem result_at (k : Fin 16) (r : Fin 128) : (W21 m c (Proc.devRef .tc main_v109) : FVec Ideal S1x128x16 .f32) (ix3 0 r k)
    = last (last (top (Y2of m c p g1)
        (fun q => (g2 q : EReal)) (fun q => arr S64 (m ((c : Thread nD τ).loc main_arg8)) (ix1 q)))
        (fun r q => arr S128x64 (m ((c : Thread nD τ).loc main_arg9)) (ix2 r q)) (fun r => arr S128 (m ((c : Thread nD τ).loc main_arg10)) (ix1 r))
        (fun r => arr S128 (m ((c : Thread nD τ).loc main_arg11)) (ix1 r)) (fun r => arr S128 (m ((c : Thread nD τ).loc main_arg12)) (ix1 r)))
        (fun r q => arr S128x128 (m ((c : Thread nD τ).loc main_arg13)) (ix2 r q)) (fun r => arr S128 (m ((c : Thread nD τ).loc main_arg14)) (ix1 r))
        (fun r => arr S128 (m ((c : Thread nD τ).loc main_arg15)) (ix1 r)) (fun r => arr S128 (m ((c : Thread nD τ).loc main_arg16)) (ix1 r)) k r := by
  have hm := rowsB_mid m c p hp h0 w1 h1 g1 h3
  generalize Y2of m c p g1 = Z at hm ⊢
  refine (v109_at (W20 m c) k r).trans ((congrFun (W20_arr m c 16) _).trans ?_)
  refine (out3_at (V19 m) c (hot_v67 m c) (hot_v77 m c) (hot_v86 m c) (hot_v96 m c)
    (fun n k q => elu (gn 8 (Ideal.ofBits .f32 0x499C4000#32) Z (fun q => (g2 q : EReal)) (fun q => arr S64 (m ((c : Thread nD τ).loc main_arg8)) (ix1 q)) (n, k) q))
    (fun n k q => act3_top Z g2 _ _ _ _ _ (fun i q => (y2_v m c (rowIx i) q).trans (hm i q)) (st2_sums m c)
      (fun q => ((v97_at (W18 m c) q).trans (congrFun (W18_args m c main_arg7 (by decide)) _)).trans (h7 q))
      (fun q => (v98_at (W18 m c) q).trans (congrFun (W18_args m c main_arg8 (by decide)) _)) (n, k) q)
    _ (fun r q => (v99_at (W18 m c) q r).trans (congrFun (W18_args m c main_arg9 (by decide)) _))
    _ (fun r => (v100_at (W18 m c) r).trans (congrFun (W18_args m c main_arg10 (by decide)) _))
    _ (fun r => (v101_at (W18 m c) r).trans (congrFun (W18_args m c main_arg11 (by decide)) _))
    _ (fun r => (v102_at (W18 m c) r).trans (congrFun (W18_args m c main_arg12 (by decide)) _))
    _ (fun r q => (v103_at (W18 m c) q r).trans (congrFun (W18_args m c main_arg13 (by decide)) _))
    _ (fun r => (v104_at (W18 m c) r).trans (congrFun (W18_args m c main_arg14 (by decide)) _))
    _ (fun r => (v105_at (W18 m c) r).trans (congrFun (W18_args m c main_arg15 (by decide)) _))
    _ (fun r => (v106_at (W18 m c) r).trans (congrFun (W18_args m c main_arg16 (by decide)) _)) k r).trans ?_
  rfl

end chain

end Cert.KernelIdeal.Whole
-- ==== Proof.RefA.lean ====
/-
The reference's first block after its convolution, read to the group normalisation and the activation.
-/
module

public import proofs.«01_k».proof.Proof.Gen.ReferenceIdeal.Read
public import proofs.«01_k».proof.Proof.Spec
public import Idealize.ShloMosaic.Lib.Pointwise

@[expose] public section

set_option maxRecDepth 16384

noncomputable section

namespace Cert.RefVal

open Idealize.ShloMosaic Idealize.ShloMosaic.TcCoe
open Cert.ReferenceIdeal Cert.ReferenceIdeal.Gen Cert.ReferenceIdeal.Read Cert.Spec
open scoped BigOperators

/-- The activation as the reference spells it. -/
theorem elu_ref (x : EReal) : (if 0 < x then x else 1 * (Ideal.exp (if 0 < x then 0 else x) - 1)) = elu x := by
  unfold elu
  split <;> simp_all

/-- The divisor a variance subtracts from its count is zero. -/
theorem sitofp_zero : FloatOps.sitofp (F := Ideal) .f32 (0#32 : BitVec 32) = (0 : EReal) := by
  show (((0#32 : BitVec 32).toInt : ℝ) : EReal) = 0
  simp

theorem cnt4 : Ideal.ofBits .f32 0x491C4000#32 = ((640000 : ℝ) : EReal) := by
  simp [Ideal.ofBits, Ideal.ieee, -EReal.coe_mul]; norm_num
theorem cnt8 : Ideal.ofBits .f32 0x499C4000#32 = ((1280000 : ℝ) : EReal) := by
  simp [Ideal.ofBits, Ideal.ieee, -EReal.coe_mul]; norm_num
theorem cnt16 : Ideal.ofBits .f32 0x43800000#32 = ((256 : ℝ) : EReal) := by
  simp [Ideal.ofBits, Ideal.ieee, -EReal.coe_mul]; norm_num

/-- A variance guarded by a positive count is the variance. -/
theorem guarded {r : ℝ} (h : 0 < r) (s n : EReal) :
    (if (0 : EReal) < (r : EReal) - 0 then Ideal.div s ((r : EReal) - 0) else n) = Ideal.div s (r : EReal) := by
  rw [sub_zero, if_pos (EReal.coe_pos.2 h)]

variable (x0 : (⟨S1x3x10000, .f32⟩ : BufTy).Contents (Elt Ideal)) (x1 : (⟨S32x6, .f32⟩ : BufTy).Contents (Elt Ideal))
  (x2 x3 x4 : (⟨S32, .f32⟩ : BufTy).Contents (Elt Ideal))

/-- The first convolution's rows. -/
def Y1 : Fin 10000 × Fin 16 → Fin 32 → EReal := fun p c => val_main_v30 (F := Ideal) x0 x1 x2 (ix4 0 c p.1 p.2)

theorem mean1 (g : Fin 8) : val_main_v35 (F := Ideal) x0 x1 x2 (ix5 0 g 0 0 0)
    = gmean 4 (Ideal.ofBits .f32 0x491C4000#32) (Y1 x0 x1 x2) g.val := by
  unfold gmean
  rw [gsum_eq_sum 4 (by decide) (by decide)]
  unfold Y1
  unfold val_main_v35 val_main_v33 val_main_v32 val_main_v31
  generalize val_main_v30 (F := Ideal) x0 x1 x2 = y
  pointwise [val_main_cst_2, val_main_v34, val_main_cst_3]
  simp only [Fintype.sum_prod_type]

theorem var1 (g : Fin 8) : val_main_v36 (F := Ideal) x0 x1 x2 (ix5 0 g 0 0 0)
    = gvar 4 (Ideal.ofBits .f32 0x491C4000#32) (Y1 x0 x1 x2) g.val := by
  unfold gvar
  rw [gsum_eq_sum 4 (by decide) (by decide)]
  unfold val_main_v36 val_main_call0_v12 val_main_call0_v10 val_main_call0_v9 val_main_call0_v6 val_main_call0_v5 val_main_call0_v4
  have hm : ∀ g : Fin 8, val_main_call0_v3 (F := Ideal) x0 x1 x2 (ix5 0 g 0 0 0)
      = gmean 4 (Ideal.ofBits .f32 0x491C4000#32) (Y1 x0 x1 x2) g.val := fun g => mean1 x0 x1 x2 g
  generalize hM : gmean 4 (Ideal.ofBits .f32 0x491C4000#32) (Y1 x0 x1 x2) = M at *
  unfold Y1
  unfold val_main_v31
  generalize val_main_v30 (F := Ideal) x0 x1 x2 = y
  pointwise [hm, val_main_call0_v11, val_main_call0_v13, val_main_call0_v8, val_main_call0_call0_v1, val_main_call0_cst_1, val_main_call0_v7]
  have e0 : val_main_call0_cst_3 (F := Ideal) ix0 = (0 : EReal) := Ideal.ofBits_zero_f32
  have e1 : FloatOps.sitofp (F := Ideal) .f32 (val_main_c_4 (F := Ideal) ix0) = (0 : EReal) := sitofp_zero
  have e2 : val_main_call0_cst_2 (F := Ideal) (Shape.Idx.first h_S_) = (0 : EReal) := Ideal.ofBits_zero_f32
  rw [e0, e1, e2, cnt4, guarded (by norm_num), zero_add]
  simp only [Fintype.sum_prod_type]
  have eg : ∀ j : Fin 4, (g.val * 4 + j.val) / 4 = g.val := fun j => by omega
  simp only [eg]

theorem act1 (n : Fin 10000) (k : Fin 16) (o : Fin 32) : val_main_v51 (F := Ideal) x0 x1 x2 x3 x4 (ix4 0 o n k)
    = elu (gn 4 (Ideal.ofBits .f32 0x491C4000#32) (Y1 x0 x1 x2) (fun c => x3 (ix1 c)) (fun c => x4 (ix1 c)) (n, k) o) := by
  have hm := mean1 x0 x1 x2
  have hv := var1 x0 x1 x2
  unfold gn
  generalize gmean 4 (Ideal.ofBits .f32 0x491C4000#32) (Y1 x0 x1 x2) = M at *
  generalize gvar 4 (Ideal.ofBits .f32 0x491C4000#32) (Y1 x0 x1 x2) = V at *
  unfold Y1
  unfold val_main_v51 val_main_call1_v7 val_main_call1_v5 val_main_call1_v4 val_main_call1_v1 val_main_call1_v3
  unfold val_main_v50 val_main_v47 val_main_v44 val_main_v43 val_main_v42 val_main_v41 val_main_v40 val_main_v38 val_main_v37
  unfold val_main_v31
  generalize val_main_v30 (F := Ideal) x0 x1 x2 = y at *
  generalize val_main_v35 (F := Ideal) x0 x1 x2 = m at *
  generalize val_main_v36 (F := Ideal) x0 x1 x2 = v at *
  pointwise [hm, hv, val_main_v39, val_main_v46, val_main_v45, val_main_v48, val_main_v49]
  have e0 : val_main_call1_v0 (F := Ideal) (ix4 0 o n k) = (0 : EReal) := Ideal.ofBits_zero_f32
  have e1 : val_main_call1_v6 (F := Ideal) (ix4 0 o n k) = (1 : EReal) := Ideal.ofBits_one_f32
  have e2 : val_main_call1_v2 (F := Ideal) (ix4 0 o n k) = (0 : EReal) := Ideal.ofBits_zero_f32
  have e3 : val_main_call1_call0_v1 (F := Ideal) (ix4 0 o n k) = (0 : EReal) := Ideal.ofBits_zero_f32
  have e4 : val_main_cst_5 (F := Ideal) ix0 = eps := rfl
  rw [e0, e1, e2, e3, e4, elu_ref]

end Cert.RefVal
-- ==== Proof.RefB.lean ====
/-
The reference's second block and its maximum over the points, read to the group normalisation and the activation.
-/
module

public import proofs.«01_k».proof.Proof.RefA

@[expose] public section

set_option maxRecDepth 16384

noncomputable section

namespace Cert.RefVal

open Idealize.ShloMosaic Idealize.ShloMosaic.TcCoe
open Cert.ReferenceIdeal Cert.ReferenceIdeal.Gen Cert.ReferenceIdeal.Read Cert.Spec
open scoped BigOperators

variable (x0 : (⟨S1x3x10000, .f32⟩ : BufTy).Contents (Elt Ideal)) (x1 : (⟨S32x6, .f32⟩ : BufTy).Contents (Elt Ideal))
  (x2 x3 x4 : (⟨S32, .f32⟩ : BufTy).Contents (Elt Ideal)) (x5 : (⟨S64x32, .f32⟩ : BufTy).Contents (Elt Ideal))
  (x6 x7 x8 : (⟨S64, .f32⟩ : BufTy).Contents (Elt Ideal))

/-- The second convolution's rows. -/
def Y2 : Fin 10000 × Fin 16 → Fin 64 → EReal := fun p c => val_main_v56 (F := Ideal) x0 x1 x2 x3 x4 x5 x6 (ix4 0 c p.1 p.2)

theorem Y2_eq : Y2 x0 x1 x2 x3 x4 x5 x6
    = mid (Y1 x0 x1 x2) (fun c => x3 (ix1 c)) (fun c => x4 (ix1 c)) (fun q o => x5 (ix2 q o)) (fun q => x6 (ix1 q)) := by
  funext p q
  unfold Y2 mid conv val_main_v56 val_main_v53 val_main_v52
  have ha := act1 x0 x1 x2 x3 x4
  generalize val_main_v51 (F := Ideal) x0 x1 x2 x3 x4 = a at *
  pointwise [ha, val_main_v55, val_main_v54]
  simp only [mul_comm]

theorem mean2 (g : Fin 8) : val_main_v61 (F := Ideal) x0 x1 x2 x3 x4 x5 x6 (ix5 0 g 0 0 0)
    = gmean 8 (Ideal.ofBits .f32 0x499C4000#32) (Y2 x0 x1 x2 x3 x4 x5 x6) g.val := by
  unfold gmean
  rw [gsum_eq_sum 8 (by decide) (by decide)]
  unfold Y2
  unfold val_main_v61 val_main_v59 val_main_v58 val_main_v57
  generalize val_main_v56 (F := Ideal) x0 x1 x2 x3 x4 x5 x6 = y
  pointwise [val_main_cst_6, val_main_v60, val_main_cst_7]
  simp only [Fintype.sum_prod_type]

theorem var2 (g : Fin 8) : val_main_v62 (F := Ideal) x0 x1 x2 x3 x4 x5 x6 (ix5 0 g 0 0 0)
    = gvar 8 (Ideal.ofBits .f32 0x499C4000#32) (Y2 x0 x1 x2 x3 x4 x5 x6) g.val := by
  unfold gvar
  rw [gsum_eq_sum 8 (by decide) (by decide)]
  unfold val_main_v62 val_main_call2_v12 val_main_call2_v10 val_main_call2_v9 val_main_call2_v6 val_main_call2_v5 val_main_call2_v4
  have hm : ∀ g : Fin 8, val_main_call2_v3 (F := Ideal) x0 x1 x2 x3 x4 x5 x6 (ix5 0 g 0 0 0)
      = gmean 8 (Ideal.ofBits .f32 0x499C4000#32) (Y2 x0 x1 x2 x3 x4 x5 x6) g.val := fun g => mean2 x0 x1 x2 x3 x4 x5 x6 g
  generalize gmean 8 (Ideal.ofBits .f32 0x499C4000#32) (Y2 x0 x1 x2 x3 x4 x5 x6) = M at *
  unfold Y2
  unfold val_main_v57
  generalize val_main_v56 (F := Ideal) x0 x1 x2 x3 x4 x5 x6 = y
  pointwise [hm, val_main_call2_v11, val_main_call2_v13, val_main_call2_v8, val_main_call2_call0_v1, val_main_call2_cst_1, val_main_call2_v7]
  have e0 : val_main_call2_cst_3 (F := Ideal) ix0 = (0 : EReal) := Ideal.ofBits_zero_f32
  have e1 : FloatOps.sitofp (F := Ideal) .f32 (val_main_c_8 (F := Ideal) ix0) = (0 : EReal) := sitofp_zero
  have e2 : val_main_call2_cst_2 (F := Ideal) (Shape.Idx.first h_S_) = (0 : EReal) := Ideal.ofBits_zero_f32
  rw [e0, e1, e2, cnt8, guarded (by norm_num), zero_add]
  simp only [Fintype.sum_prod_type]
  have eg : ∀ j : Fin 8, (g.val * 8 + j.val) / 8 = g.val := fun j => by omega
  simp only [eg]

theorem act2 (n : Fin 10000) (k : Fin 16) (o : Fin 64) : val_main_v77 (F := Ideal) x0 x1 x2 x3 x4 x5 x6 x7 x8 (ix4 0 o n k)
    = elu (gn 8 (Ideal.ofBits .f32 0x499C4000#32) (Y2 x0 x1 x2 x3 x4 x5 x6) (fun c => x7 (ix1 c)) (fun c => x8 (ix1 c)) (n, k) o) := by
  have hm := mean2 x0 x1 x2 x3 x4 x5 x6
  have hv := var2 x0 x1 x2 x3 x4 x5 x6
  unfold gn
  generalize gmean 8 (Ideal.ofBits .f32 0x499C4000#32) (Y2 x0 x1 x2 x3 x4 x5 x6) = M at *
  generalize gvar 8 (Ideal.ofBits .f32 0x499C4000#32) (Y2 x0 x1 x2 x3 x4 x5 x6) = V at *
  unfold Y2
  unfold val_main_v77 val_main_call3_v7 val_main_call3_v5 val_main_call3_v4 val_main_call3_v1 val_main_call3_v3
  unfold val_main_v76 val_main_v73 val_main_v70 val_main_v69 val_main_v68 val_main_v67 val_main_v66 val_main_v64 val_main_v63
  unfold val_main_v57
  generalize val_main_v56 (F := Ideal) x0 x1 x2 x3 x4 x5 x6 = y at *
  generalize val_main_v61 (F := Ideal) x0 x1 x2 x3 x4 x5 x6 = m at *
  generalize val_main_v62 (F := Ideal) x0 x1 x2 x3 x4 x5 x6 = v at *
  pointwise [hm, hv, val_main_v65, val_main_v72, val_main_v71, val_main_v74, val_main_v75]
  have e0 : val_main_call3_v0 (F := Ideal) (ix4 0 o n k) = (0 : EReal) := Ideal.ofBits_zero_f32
  have e1 : val_main_call3_v6 (F := Ideal) (ix4 0 o n k) = (1 : EReal) := Ideal.ofBits_one_f32
  have e2 : val_main_call3_v2 (F := Ideal) (ix4 0 o n k) = (0 : EReal) := Ideal.ofBits_zero_f32
  have e3 : val_main_call3_call0_v1 (F := Ideal) (ix4 0 o n k) = (0 : EReal) := Ideal.ofBits_zero_f32
  have e4 : val_main_cst_9 (F := Ideal) ix0 = eps := rfl
  rw [e0, e1, e2, e3, e4, elu_ref]

theorem ofBits_bot : Ideal.ofBits .f32 0xFF800000#32 = ⊥ := by simp [Ideal.ofBits, Ideal.ieee]

theorem top_eq (k : Fin 16) (q : Fin 64) : val_main_v78 (F := Ideal) x0 x1 x2 x3 x4 x5 x6 x7 x8 (ix3 0 q k)
    = top (Y2 x0 x1 x2 x3 x4 x5 x6) (fun c => x7 (ix1 c)) (fun c => x8 (ix1 c)) k q := by
  unfold top val_main_v78
  have ha := act2 x0 x1 x2 x3 x4 x5 x6 x7 x8
  generalize val_main_v77 (F := Ideal) x0 x1 x2 x3 x4 x5 x6 x7 x8 = a at *
  rw [Host.reduce_eq_fold]
  pointwise [ha]
  have e0 : val_main_cst_10 (F := Ideal) (Shape.Idx.first h_S_) = (⊥ : EReal) := ofBits_bot
  rw [e0]
  rfl

end Cert.RefVal
-- ==== Proof.RefC.lean ====
/-
The reference's two last blocks, read to the group normalisation and the activation, and its result.
-/
module

public import proofs.«01_k».proof.Proof.RefB

@[expose] public section

set_option maxRecDepth 16384

noncomputable section

namespace Cert.RefVal

open Idealize.ShloMosaic Idealize.ShloMosaic.TcCoe
open Cert.ReferenceIdeal Cert.ReferenceIdeal.Gen Cert.ReferenceIdeal.Read Cert.Spec
open scoped BigOperators

section block
variable (y : FVec Ideal S1x128x16 .f32) (γ β : FVec Ideal S128 .f32)

/-- Rows by neighbour rank. -/
def rows3 : Fin 16 → Fin 128 → EReal := fun k c => y (ix3 0 c k)

/-- The groups' means. -/
def bmean : FVec Ideal S1x8x1x1 .f32 :=
  Host.divf (broadcastInDim S1x8x1x1 ![0, 1] bcast_S1x8_S1x8x1x1_0_1
    (Host.reduceAdd (shapeCast _ y shapeCasts_S1x128x16_S1x8x16x16) (constant S_ .f32 0x00000000#32) reducesTo_S1x8x16x16_S1x8_d2_3 h_S_))
    (broadcastInDim S1x8x1x1 ![] bcast_S_S1x8x1x1 (constant S_ .f32 0x43800000#32))

/-- The centred groups. -/
def bdev : FVec Ideal S1x8x16x16 .f32 :=
  subf (shapeCast _ y shapeCasts_S1x128x16_S1x8x16x16) (broadcastInDim S1x8x16x16 ![0, 1, 2, 3] bcast_S1x8x1x1_S1x8x16x16_0_1_2_3 (bmean y))

/-- The count a variance divides by. -/
def bcnt : FVec Ideal S_ .f32 := subf (constant S_ .f32 0x43800000#32) (sitofp .f32 (constantI S_ 32 0#32))

/-- The groups' variances. -/
def bvar : FVec Ideal S1x8x1x1 .f32 :=
  select (broadcastInDim S1x8x1x1 ![] bcast_S_S1x8x1x1 (cmpf .ogt bcnt (constant S_ .f32 0x00000000#32)))
    (Host.divf (broadcastInDim S1x8x1x1 ![0, 1] bcast_S1x8_S1x8x1x1_0_1
        (Host.reduceAdd (mulf (bdev y) (bdev y)) (constant S_ .f32 0x00000000#32) reducesTo_S1x8x16x16_S1x8_d2_3 h_S_))
      (broadcastInDim S1x8x1x1 ![] bcast_S_S1x8x1x1 bcnt))
    (broadcastInDim S1x8x1x1 ![] bcast_S_S1x8x1x1 (constant S_ .f32 0x7FC00000#32))

/-- The normalised values with scale and offset. -/
def bnorm : FVec Ideal S1x128x16 .f32 :=
  addf (mulf (shapeCast _ (Host.divf (bdev y) (broadcastInDim S1x8x16x16 ![0, 1, 2, 3] bcast_S1x8x1x1_S1x8x16x16_0_1_2_3
      (Host.sqrt (addf (bvar y) (broadcastInDim S1x8x1x1 ![] bcast_S_S1x8x1x1 (constant S_ .f32 0x3727C5AC#32))))))
      shapeCasts_S1x8x16x16_S1x128x16)
    (broadcastInDim S1x128x16 ![0, 1, 2] bcast_S1x128x1_S1x128x16_0_1_2 (shapeCast _ γ shapeCasts_S128_S1x128x1)))
    (broadcastInDim S1x128x16 ![0, 1, 2] bcast_S1x128x1_S1x128x16_0_1_2 (shapeCast _ β shapeCasts_S128_S1x128x1))

/-- The block's activation. -/
def bact (z : FVec Ideal S1x128x16 .f32) : FVec Ideal S1x128x16 .f32 :=
  have cst (b : BitVec 32) : FVec Ideal S1x128x16 .f32 := broadcastInDim S1x128x16 ![] bcast_S_S1x128x16 (constant S_ .f32 b)
  select (cmpf .ogt z (cst 0x00000000#32)) z
    (mulf (cst 0x3F800000#32) (Host.expm1 (select (cmpf .ogt z (cst 0x00000000#32)) (cst 0x00000000#32) z)))

theorem bmean_apply (g : Fin 8) : bmean y (ix4 0 g 0 0) = gmean 16 (Ideal.ofBits .f32 0x43800000#32) (rows3 y) g.val := by
  unfold gmean
  rw [gsum_eq_sum 16 (by decide) (by decide)]
  unfold rows3 bmean
  pointwise

theorem bdev_apply (g : Fin 8) (j k : Fin 16) : bdev y (ix4 0 g j k)
    = rows3 y k ⟨g.val * 16 + j.val, by omega⟩ - gmean 16 (Ideal.ofBits .f32 0x43800000#32) (rows3 y) g.val := by
  have hm := bmean_apply y
  unfold bdev
  generalize gmean 16 (Ideal.ofBits .f32 0x43800000#32) (rows3 y) = M at *
  generalize bmean y = m at *
  unfold rows3
  pointwise [hm]

theorem bvar_apply (g : Fin 8) : bvar y (ix4 0 g 0 0) = gvar 16 (Ideal.ofBits .f32 0x43800000#32) (rows3 y) g.val := by
  have hd := bdev_apply y
  unfold gvar
  rw [gsum_eq_sum 16 (by decide) (by decide)]
  unfold bvar
  generalize gmean 16 (Ideal.ofBits .f32 0x43800000#32) (rows3 y) = M at *
  generalize bdev y = d at *
  pointwise [hd, bcnt]
  have eg : ∀ j : Fin 16, (g.val * 16 + j.val) / 16 = g.val := fun j => by omega
  simp only [eg]
  rw [sitofp_zero, cnt16, guarded (by norm_num)]

theorem bnorm_apply (c : Fin 128) (k : Fin 16) : bnorm y γ β (ix3 0 c k)
    = gn 16 (Ideal.ofBits .f32 0x43800000#32) (rows3 y) (fun c => γ (ix1 c)) (fun c => β (ix1 c)) k c := by
  have hd := bdev_apply y
  have hv := bvar_apply y
  unfold gn bnorm
  generalize gmean 16 (Ideal.ofBits .f32 0x43800000#32) (rows3 y) = M at *
  generalize gvar 16 (Ideal.ofBits .f32 0x43800000#32) (rows3 y) = V at *
  generalize bdev y = d at *
  generalize bvar y = v at *
  pointwise [hd, hv]
  have ec : (⟨c.val / 16 * 16 + c.val % 16, by omega⟩ : Fin 128) = c := Fin.ext (by show c.val / 16 * 16 + c.val % 16 = c.val; omega)
  rw [ec]

theorem bact_apply (z : FVec Ideal S1x128x16 .f32) (i : S1x128x16.Idx) : bact z i = elu (z i) := by
  unfold bact
  pointwise
  exact (by rw [one_mul] : (_ : EReal) = _).trans (elu_ref (z i))

end block

variable (x0 : (⟨S1x3x10000, .f32⟩ : BufTy).Contents (Elt Ideal)) (x1 : (⟨S32x6, .f32⟩ : BufTy).Contents (Elt Ideal))
  (x2 x3 x4 : (⟨S32, .f32⟩ : BufTy).Contents (Elt Ideal)) (x5 : (⟨S64x32, .f32⟩ : BufTy).Contents (Elt Ideal))
  (x6 x7 x8 : (⟨S64, .f32⟩ : BufTy).Contents (Elt Ideal)) (x9 : (⟨S128x64, .f32⟩ : BufTy).Contents (Elt Ideal))
  (x10 x11 x12 : (⟨S128, .f32⟩ : BufTy).Contents (Elt Ideal)) (x13 : (⟨S128x128, .f32⟩ : BufTy).Contents (Elt Ideal))
  (x14 x15 x16 : (⟨S128, .f32⟩ : BufTy).Contents (Elt Ideal))

theorem v104_eq : val_main_v104 (F := Ideal) x0 x1 x2 x3 x4 x5 x6 x7 x8 x9 x10 x11 x12
    = bact (bnorm (val_main_v83 (F := Ideal) x0 x1 x2 x3 x4 x5 x6 x7 x8 x9 x10) x11 x12) := by
  unfold val_main_v104 val_main_call5_v7 val_main_call5_v5 val_main_call5_v4 val_main_call5_v3 val_main_call5_v1
  unfold val_main_v103 val_main_v100 val_main_v97 val_main_v96 val_main_v95 val_main_v94 val_main_v93 val_main_v91 val_main_v90
  unfold val_main_v89 val_main_call4_v12 val_main_call4_v10 val_main_call4_v9 val_main_call4_v6 val_main_call4_v5 val_main_call4_v4
    val_main_call4_v3 val_main_call4_v1 val_main_call4_v0
  unfold val_main_v88 val_main_v86 val_main_v85 val_main_v84
  generalize val_main_v83 (F := Ideal) x0 x1 x2 x3 x4 x5 x6 x7 x8 x9 x10 = y
  rfl

theorem v130_eq : val_main_v130 (F := Ideal) x0 x1 x2 x3 x4 x5 x6 x7 x8 x9 x10 x11 x12 x13 x14 x15 x16
    = bact (bnorm (val_main_v109 (F := Ideal) x0 x1 x2 x3 x4 x5 x6 x7 x8 x9 x10 x11 x12 x13 x14) x15 x16) := by
  unfold val_main_v130 val_main_call7_v7 val_main_call7_v5 val_main_call7_v4 val_main_call7_v3 val_main_call7_v1
  unfold val_main_v129 val_main_v126 val_main_v123 val_main_v122 val_main_v121 val_main_v120 val_main_v119 val_main_v117 val_main_v116
  unfold val_main_v115 val_main_call6_v12 val_main_call6_v10 val_main_call6_v9 val_main_call6_v6 val_main_call6_v5 val_main_call6_v4
    val_main_call6_v3 val_main_call6_v1 val_main_call6_v0
  unfold val_main_v114 val_main_v112 val_main_v111 val_main_v110
  generalize val_main_v109 (F := Ideal) x0 x1 x2 x3 x4 x5 x6 x7 x8 x9 x10 x11 x12 x13 x14 = y
  rfl

/-- A block's convolution of 64 channels, read at an element. -/
theorem conv64_apply (z : FVec Ideal S1x64x16 .f32) (w : FVec Ideal S128x64 .f32) (b : FVec Ideal S128 .f32) (k : Fin 16) (r : Fin 128) :
    addf (transpose S1x128x16 [0, 2, 1] (Host.dotGeneral dot_S1x64x16_S128x64_S1x16x128_1_1_02_0_n_n none z w) transposes_S1x16x128_S1x128x16_0_2_1)
      (broadcastInDim S1x128x16 ![0, 1, 2] bcast_S1x128x1_S1x128x16_0_1_2 (shapeCast _ b shapeCasts_S128_S1x128x1)) (ix3 0 r k)
    = (∑ c : Fin 64, w (ix2 r c) * z (ix3 0 c k)) + b (ix1 r) := by
  pointwise
  simp only [mul_comm]

/-- A block's convolution of 128 channels, read at an element. -/
theorem conv128_apply (z : FVec Ideal S1x128x16 .f32) (w : FVec Ideal S128x128 .f32) (b : FVec Ideal S128 .f32) (k : Fin 16) (r : Fin 128) :
    addf (transpose S1x128x16 [0, 2, 1] (Host.dotGeneral dot_S1x128x16_S128x128_S1x16x128_1_1_02_0_n_n none z w) transposes_S1x16x128_S1x128x16_0_2_1)
      (broadcastInDim S1x128x16 ![0, 1, 2] bcast_S1x128x1_S1x128x16_0_1_2 (shapeCast _ b shapeCasts_S128_S1x128x1)) (ix3 0 r k)
    = (∑ c : Fin 128, w (ix2 r c) * z (ix3 0 c k)) + b (ix1 r) := by
  pointwise
  simp only [mul_comm]

theorem conv3_eq : rows3 (val_main_v83 (F := Ideal) x0 x1 x2 x3 x4 x5 x6 x7 x8 x9 x10)
    = conv (top (Y2 x0 x1 x2 x3 x4 x5 x6) (fun c => x7 (ix1 c)) (fun c => x8 (ix1 c))) (fun r q => x9 (ix2 r q)) (fun r => x10 (ix1 r)) := by
  funext k r
  refine (conv64_apply (val_main_v78 (F := Ideal) x0 x1 x2 x3 x4 x5 x6 x7 x8) x9 x10 k r).trans ?_
  unfold conv
  rw [Finset.sum_congr rfl fun c _ => congrArg (x9 (ix2 r c) * ·) (top_eq x0 x1 x2 x3 x4 x5 x6 x7 x8 k c)]

theorem conv4_eq : rows3 (val_main_v109 (F := Ideal) x0 x1 x2 x3 x4 x5 x6 x7 x8 x9 x10 x11 x12 x13 x14)
    = conv (rows3 (val_main_v104 (F := Ideal) x0 x1 x2 x3 x4 x5 x6 x7 x8 x9 x10 x11 x12)) (fun r q => x13 (ix2 r q)) (fun r => x14 (ix1 r)) := by
  funext k r
  exact conv128_apply (val_main_v104 (F := Ideal) x0 x1 x2 x3 x4 x5 x6 x7 x8 x9 x10 x11 x12) x13 x14 k r

theorem block_rows (y : FVec Ideal S1x128x16 .f32) (γ β : FVec Ideal S128 .f32) : rows3 (bact (bnorm y γ β))
    = fun k r => elu (gn 16 (Ideal.ofBits .f32 0x43800000#32) (rows3 y) (fun c => γ (ix1 c)) (fun c => β (ix1 c)) k r) := by
  funext k r
  show bact (bnorm y γ β) (ix3 0 r k) = _
  rw [bact_apply, bnorm_apply]

theorem last_intro {A : ℕ} {R : Fin 16 → Fin 128 → EReal} {Z : Fin 16 → Fin A → EReal} {W b g be}
    (h : R = conv Z W b) : (fun k r => elu (gn 16 (Ideal.ofBits .f32 0x43800000#32) R g be k r)) = last Z W b g be := by
  subst h; rfl

/-- The reference's result, from the first convolution's rows. -/
theorem result_eq :
    rows3 (val_main_v130 (F := Ideal) x0 x1 x2 x3 x4 x5 x6 x7 x8 x9 x10 x11 x12 x13 x14 x15 x16)
    = last (last (top (mid (Y1 x0 x1 x2) (fun c => x3 (ix1 c)) (fun c => x4 (ix1 c)) (fun q o => x5 (ix2 q o)) (fun q => x6 (ix1 q)))
        (fun c => x7 (ix1 c)) (fun c => x8 (ix1 c)))
        (fun r q => x9 (ix2 r q)) (fun r => x10 (ix1 r)) (fun r => x11 (ix1 r)) (fun r => x12 (ix1 r)))
        (fun r q => x13 (ix2 r q)) (fun r => x14 (ix1 r)) (fun r => x15 (ix1 r)) (fun r => x16 (ix1 r)) := by
  have h2 := conv3_eq x0 x1 x2 x3 x4 x5 x6 x7 x8 x9 x10
  have h4 := conv4_eq x0 x1 x2 x3 x4 x5 x6 x7 x8 x9 x10 x11 x12 x13 x14
  rw [v104_eq, block_rows, last_intro h2] at h4
  rw [v130_eq, block_rows, last_intro h4, Y2_eq]

end Cert.RefVal
-- ==== Proof.RefD.lean ====
/-
The reference's neighbour search and edge features, read to the first convolution's rows.
-/
module

public import proofs.«01_k».proof.Proof.RefC
public import Idealize.ShloMosaic.Lib.Routing.OpsPair

@[expose] public section

set_option maxRecDepth 16384

noncomputable section

namespace Cert.RefVal

open Idealize.ShloMosaic Idealize.ShloMosaic.TcCoe
open Cert.ReferenceIdeal Cert.ReferenceIdeal.Gen Cert.ReferenceIdeal.Read Cert.Spec
open scoped BigOperators

theorem along_last (i : S1x10000x10000.Idx) (n m : Fin 10000) (hi : (i 1).val = n.val) :
    Shape.Idx.along (s := S1x10000x10000) i (2 : Fin 3) m = ix3 0 n m := by
  funext a
  match a with
  | ⟨0, _⟩ => exact Subsingleton.elim (α := Fin 1) _ _
  | ⟨1, _⟩ => exact Fin.ext hi
  | ⟨2, _⟩ => rfl

theorem topK_index (x : FVec Ideal S1x10000x10000 .f32) (h : S1x10000x10000.Slices (fun _ => 0) S1x10000x16) (n : Fin 10000) (k : Fin 16) :
    (Host.topK S1x10000x16 2 (FloatOps.cmpfTotal .gt) x h).2 (ix3 0 n k)
      = BitVec.ofNat 32 (sortedFrom (fun m m' => FloatOps.cmpfTotal .gt (x (ix3 0 n m)) (x (ix3 0 n m')) == 1#1)
          (k.castLE (by decide) : Fin 10000)).val := by
  have key : ∀ i : S1x10000x10000.Idx, (i 1).val = n.val →
      (BitVec.ofNat 32 (Shape.Idx.along (s := S1x10000x10000) i (2 : Fin 3) (sortedFrom (fun m m' : Fin 10000 => FloatOps.cmpfTotal .gt
        (x (Shape.Idx.along (s := S1x10000x10000) i (2 : Fin 3) m)) (x (Shape.Idx.along (s := S1x10000x10000) i (2 : Fin 3) m')) == 1#1) (i 2)) (2 : Fin 3)).val : BitVec 32)
      = BitVec.ofNat 32 (sortedFrom (fun m m' : Fin 10000 => FloatOps.cmpfTotal .gt (x (ix3 0 n m)) (x (ix3 0 n m')) == 1#1) (i 2)).val := by
    intro i hi
    have e : ∀ m : Fin 10000, Shape.Idx.along (s := S1x10000x10000) i (2 : Fin 3) m = ix3 0 n m := fun m => along_last i n m hi
    have eB : (fun m m' : Fin 10000 => FloatOps.cmpfTotal .gt (x (Shape.Idx.along (s := S1x10000x10000) i (2 : Fin 3) m))
          (x (Shape.Idx.along (s := S1x10000x10000) i (2 : Fin 3) m')) == 1#1)
        = fun m m' : Fin 10000 => FloatOps.cmpfTotal .gt (x (ix3 0 n m)) (x (ix3 0 n m')) == 1#1 := by
      funext m m'; rw [e m, e m']
    refine (congrArg (fun B : Fin 10000 → Fin 10000 → Bool =>
      (BitVec.ofNat 32 (Shape.Idx.along (s := S1x10000x10000) i (2 : Fin 3) (sortedFrom B (i 2)) (2 : Fin 3)).val : BitVec 32)) eB).trans ?_
    exact congrArg (fun q : Fin 10000 => BitVec.ofNat 32 q.val) (Function.update_self (2 : Fin 3) _ i)
  unfold Host.topK Host.sort2
  dsimp only
  rw [dif_pos (show 2 < S1x10000x10000.rank by decide)]
  dsimp only [extractStridedSlice]
  rw [dif_pos (show 2 < S1x10000x10000.rank by decide)]
  refine (key _ (Nat.zero_add _)).trans ?_
  exact congrArg (fun q => BitVec.ofNat 32 (sortedFrom (fun m m' : Fin 10000 => FloatOps.cmpfTotal .gt (x (ix3 0 n m)) (x (ix3 0 n m')) == 1#1) q).val)
    (Fin.ext (Nat.zero_add _))

theorem gather_row (x : FVec Ideal S1x10000x3 .f32) (idx : IVec S1x10000x16x1 32) (n : Fin 10000) (k : Fin 16) (c : Fin 3) :
    Host.gather gather_S1x10000x3_S1x10000x16x1_S1x10000x16x3_3_1_0_0_1_3_113 x idx (ix4 0 n k c)
      = x (ix3 0 ⟨min (idx (ix4 0 n k 0)).toInt.toNat 9999, by omega⟩ c) := by
  unfold Host.gather
  congr 1
  let d := gather_S1x10000x3_S1x10000x16x1_S1x10000x16x3_3_1_0_0_1_3_113
  funext a
  refine Fin.ext ?_
  match a with
  | ⟨0, _⟩ => exact congrArg Fin.val (Subsingleton.elim (α := Fin 1) _ _)
  | ⟨1, _⟩ =>
    show d.start (ix4 0 n k c) idx 1 + d.batchCoord (ix4 0 n k c) 1 + d.offCoord (ix4 0 n k c) 1 = _
    rw [GatherDims.batchCoord_eq_zero _ _ _ (by decide), GatherDims.offCoord_eq_zero _ _ _ (fun h => ((GatherDims.mem_sKept _ _).mp h).1 (List.mem_singleton.mpr rfl))]
    unfold GatherDims.start
    rw [dif_pos (show (1 : Fin 3) ∈ d.startIndexMap from List.mem_singleton.mpr rfl)]
    have hsi : d.siIdx (ix4 0 n k c) ⟨List.idxOf (1 : Fin 3) d.startIndexMap, List.idxOf_lt_length_iff.2 (List.mem_singleton.mpr rfl)⟩ = ix4 0 n k 0 := by
      funext b; refine Fin.ext ?_
      match b with
      | ⟨0, _⟩ => rfl
      | ⟨1, _⟩ => rfl
      | ⟨2, _⟩ => rfl
      | ⟨3, _⟩ => rfl
    rw [hsi]
    rfl
  | ⟨2, _⟩ =>
    show d.start (ix4 0 n k c) idx 2 + d.batchCoord (ix4 0 n k c) 2 + d.offCoord (ix4 0 n k c) 2 = _
    rw [GatherDims.batchCoord_eq_zero _ _ _ (by decide)]
    unfold GatherDims.start
    rw [dif_neg (show (2 : Fin 3) ∉ d.startIndexMap by decide)]
    simp only [Nat.zero_add]
    rfl

/-- Row `n` of an argument's coordinates. -/
def pts (x0 : (⟨S1x3x10000, .f32⟩ : BufTy).Contents (Elt Ideal)) (c : Fin 3) (n : Fin 10000) : EReal := x0 (ix3 0 c n)

variable (x0 : (⟨S1x3x10000, .f32⟩ : BufTy).Contents (Elt Ideal)) (x1 : (⟨S32x6, .f32⟩ : BufTy).Contents (Elt Ideal))
  (x2 : (⟨S32, .f32⟩ : BufTy).Contents (Elt Ideal))

theorem sqdist_eq (n m : Fin 10000) : val_main_v12 (F := Ideal) x0 (ix3 0 n m) = -(sqdist (pts x0) n m) := by
  unfold sqdist pts
  pointwise [val_main_v12, val_main_v11, val_main_v10, val_main_v9, val_main_v8, val_main_v7, val_main_v6, val_main_v5, val_main_v4, val_main_v3,
    val_main_v2, val_main_v1, val_main_v0]
  have e0 : val_main_cst (F := Ideal) (Shape.Idx.first h_S_) = (0 : EReal) := Ideal.ofBits_zero_f32
  have e1 : val_main_cst_0 (F := Ideal) ix0 = Ideal.ofBits .f32 0x40000000#32 := rfl
  simp only [e0, e1, zero_add]

theorem index_eq (n : Fin 10000) (k : Fin 16) : val_main_indices (F := Ideal) x0 (ix3 0 n k)
    = BitVec.ofNat 32 (near (sqdist (pts x0) n) k).val := by
  unfold val_main_indices near
  rw [topK_index]
  rw [sortedFrom_lex _ (before (sqdist (pts x0) n))]
  intro a b hab
  rw [sqdist_eq, sqdist_eq]
  unfold before
  rw [decide_eq_false (not_lt.2 hab.le), Bool.and_false, Bool.or_false]
  show (BitVec.ofBool (decide (-(sqdist (pts x0) n a) < -(sqdist (pts x0) n b))) == 1#1) = _
  rw [decide_eq_decide.2 EReal.neg_lt_neg_iff]
  by_cases h : sqdist (pts x0) n b < sqdist (pts x0) n a
  · rw [decide_eq_true h]; rfl
  · rw [decide_eq_false h]; rfl

theorem neighbour_eq (c : Fin 3) (n : Fin 10000) (k : Fin 16) : val_main_v20 (F := Ideal) x0 (ix4 0 c n k)
    = pts x0 c (near (sqdist (pts x0) n) k) := by
  unfold val_main_v20 val_main_v19
  have h : val_main_v18 (F := Ideal) x0 (ix4 0 n k 0) = BitVec.ofNat 32 (near (sqdist (pts x0) n) k).val := by
    have hi := index_eq x0 n k
    generalize near (sqdist (pts x0) n) k = q at *
    unfold val_main_v18 val_main_v17 val_main_v16 val_main_v14
    generalize val_main_indices (F := Ideal) x0 = idx at *
    pointwise [hi, val_main_v13, val_main_v15]
    refine Routing.wrap_of_lt _ _ ?_
    rw [BitVec.toNat_ofNat]
    have := q.isLt
    omega
  generalize near (sqdist (pts x0) n) k = q at *
  generalize val_main_v18 (F := Ideal) x0 = idx at *
  have hq := q.isLt
  have e : min (idx (ix4 0 n k 0)).toInt.toNat 9999 = q.val := by
    have ht : (BitVec.ofNat 32 q.val).toNat = q.val := by rw [BitVec.toNat_ofNat]; omega
    rw [h, BitVec.toInt_eq_toNat_of_lt (by omega), ht]
    omega
  have e' : (⟨min (idx (ix4 0 n k 0)).toInt.toNat 9999, by omega⟩ : Fin 10000) = q := Fin.ext e
  pointwise [gather_row]
  rw [e']
  unfold val_main_v0 pts
  pointwise

theorem Y1_eq : Y1 x0 x1 x2 = conv (edge (pts x0)) (fun o c => x1 (ix2 o c)) (fun o => x2 (ix1 o)) := by
  funext p o
  unfold Y1 conv edge
  unfold val_main_v30 val_main_v27 val_main_v26 val_main_v25 val_main_v24
  have hn := neighbour_eq x0
  generalize val_main_v20 (F := Ideal) x0 = nb at *
  pointwise [hn, val_main_v29, val_main_v28, val_main_v23, val_main_v22, val_main_v21]
  simp only [mul_comm]
  rfl

end Cert.RefVal
-- ==== Proof.Tame.lean ====
/-
What the precondition says of the arguments: the points' coordinates are real and bounded, the weights of the neighbour and two scales are real.
-/
module

public import proofs.«01_k».proof.Pre_tame
public import proofs.«01_k».proof.Proof.Spec
public import Idealize.ShloMosaic.Lib.ReduceAll
public import Idealize.ShloMosaic.Lib.Affine
public import Idealize.ShloMosaic.Lib.Decide

@[expose] public section

set_option maxRecDepth 16384

noncomputable section

namespace Cert.Pre_tame

open Idealize.ShloMosaic Cert.Spec

/-- The side conditions of the precondition's operations. -/
instance sides : Facts where
  bcast_S_S1x3x10000 := by decide
  reducesTo_S1x3x10000_S_d0_1_2 := by decide
  h_S_ := by decide
  slices_S32x6_S32x3_0_3 := by decide
  bcast_S_S32x3 := by decide
  reducesTo_S32x3_S_d0_1 := by decide
  bcast_S_S32 := by decide
  reducesTo_S32_S_d0 := by decide
  bcast_S_S64 := by decide
  reducesTo_S64_S_d0 := by decide

theorem and_one (x y : IVec S_ 1) (j : S_.Idx) (h : andi x y j = 1#1) : x j = 1#1 ∧ y j = 1#1 :=
  (by decide : ∀ a b : BitVec 1, IntOp.andi a b = 1#1 → a = 1#1 ∧ b = 1#1) _ _ h

/-- An entry of size less than infinity is real. -/
theorem real_entry (x : EReal) (h : FloatOps.cmpf (F := Ideal) .olt (FloatOps.absf (F := Ideal) (φ := .f32) x) (FloatOps.ofBits (F := Ideal) .f32 0x7F800000#32) = 1#1) : ∃ r : ℝ, x = (r : EReal) := by
  have h : BitVec.ofBool (decide (max x (-x) < Ideal.ofBits .f32 0x7F800000#32)) = 1#1 := h
  have e : Ideal.ofBits .f32 0x7F800000#32 = (⊤ : EReal) := by simp [Ideal.ofBits, Ideal.ieee]
  rw [e] at h
  refine real_of_abs_lt ?_
  by_contra hn
  rw [decide_eq_false hn] at h
  exact absurd h (by decide)

theorem bound_entry (x : EReal) (h : FloatOps.cmpf (F := Ideal) .ole (FloatOps.absf (F := Ideal) (φ := .f32) x) (FloatOps.ofBits (F := Ideal) .f32 0x5D4A0F83#32) = 1#1) :
    ∃ r : ℝ, x = (r : EReal) ∧ |r| ≤ 911000000000000000 := by
  have h : BitVec.ofBool (decide (max x (-x) ≤ Ideal.ofBits .f32 0x5D4A0F83#32)) = 1#1 := h
  have e : Ideal.ofBits .f32 0x5D4A0F83#32 = ((13242243 * 2 ^ 36 : ℝ) : EReal) := by
    simp [Ideal.ofBits, Ideal.ieee, -EReal.coe_mul]
  rw [e] at h
  have hle : max x (-x) ≤ ((13242243 * 2 ^ 36 : ℝ) : EReal) := by
    by_contra hn
    rw [decide_eq_false hn] at h
    exact absurd h (by decide)
  obtain ⟨r, rfl⟩ := real_of_abs_lt (lt_of_le_of_lt hle (EReal.coe_lt_top _))
  refine ⟨r, rfl, abs_le.2 ⟨?_, ?_⟩⟩
  · have h2 := (le_max_right _ _).trans hle
    rw [← EReal.coe_neg, EReal.coe_le_coe_iff] at h2
    norm_num at h2
    linarith
  · have h1 := (le_max_left _ _).trans hle
    rw [EReal.coe_le_coe_iff] at h1
    norm_num at h1
    linarith

/-- The precondition, read at the entries. -/
structure Reads (x0 : FVec Ideal S1x3x10000 .f32) (x1 : FVec Ideal S32x6 .f32) (x3 : FVec Ideal S32 .f32) (x7 : FVec Ideal S64 .f32) : Prop where
  a0 : ∀ i, ∃ r : ℝ, x0 i = (r : EReal) ∧ |r| ≤ 911000000000000000
  a1 : ∀ (o : Fin 32) (a : Fin 3), ∃ r : ℝ, x1 (ix2 o ⟨3 + a.val, by omega⟩) = (r : EReal)
  a3 : ∀ i, ∃ r : ℝ, x3 i = (r : EReal)
  a7 : ∀ i, ∃ r : ℝ, x7 i = (r : EReal)

instance : Subsingleton S_.Idx := ⟨fun a b => funext fun i => i.elim0⟩

theorem slice_at (x1 : FVec Ideal S32x6 .f32) (o : Fin 32) (a : Fin 3) :
    extractStridedSlice S32x3 ![0, 3] x1 Facts.slices_S32x6_S32x3_0_3 (ix2 o a) = x1 (ix2 o ⟨3 + a.val, by omega⟩) := by
  pointwise

theorem reads (x0 : FVec Ideal S1x3x10000 .f32) (x1 : FVec Ideal S32x6 .f32) (x2 x3 x4 : FVec Ideal S32 .f32) (x5 : FVec Ideal S64x32 .f32)
    (x6 x7 x8 : FVec Ideal S64 .f32) (x9 : FVec Ideal S128x64 .f32) (x10 x11 x12 : FVec Ideal S128 .f32) (x13 : FVec Ideal S128x128 .f32)
    (x14 x15 x16 : FVec Ideal S128 .f32) (h : fn (F := Ideal) x0 x1 x2 x3 x4 x5 x6 x7 x8 x9 x10 x11 x12 x13 x14 x15 x16 = fun _ => 1#1) :
    Reads x0 x1 x3 x7 := by
  have h := congrFun h (Shape.Idx.first Facts.h_S_)
  unfold fn fn_part1 at h
  dsimp only at h
  obtain ⟨h, h7⟩ := and_one _ _ _ h
  obtain ⟨h, h3⟩ := and_one _ _ _ h
  obtain ⟨h0, h1⟩ := and_one _ _ _ h
  refine ⟨fun i => bound_entry _ (Host.reduce_andi_all _ _ _ _ _ h0 i), fun o a => ?_,
    fun i => real_entry _ (Host.reduce_andi_all _ _ _ _ _ h3 i), fun i => real_entry _ (Host.reduce_andi_all _ _ _ _ _ h7 i)⟩
  rw [← slice_at x1 o a]
  exact real_entry _ (Host.reduce_andi_all _ _ _ _ _ h1 (ix2 o a))

end Cert.Pre_tame
-- ==== Proof.Equal.lean ====
/-
The kernel's result is the reference's, of the same arguments.
-/
module

public import proofs.«01_k».proof.Proof.Whole
public import proofs.«01_k».proof.Proof.RefD
public import proofs.«01_k».proof.Proof.Tame

@[expose] public section

set_option maxRecDepth 16384

noncomputable section

namespace Cert.KernelIdeal.Whole

open Idealize.ShloMosaic Idealize.ShloMosaic.TcCoe Idealize.ShloMosaic.Tactic
open Cert.KernelIdeal Cert.KernelIdeal.Gen Cert.Spec

theorem ext3 {α : Type} {B C : ℕ} (f g : (⟨3, ![1, B, C]⟩ : Shape).Idx → α) (h : ∀ (b : Fin B) (c : Fin C), f (ix3 0 b c) = g (ix3 0 b c)) : f = g := by
  funext i
  have hi : i = ix3 0 (i 1) (i 2) := by
    funext a
    refine Fin.cases (Subsingleton.elim (α := Fin 1) _ _) (fun a => Fin.cases rfl (fun a => Fin.cases rfl (fun a => a.elim0) a) a) a
  exact (congrArg f hi).trans ((h _ _).trans (congrArg g hi).symm)

theorem ref_congr {x0 y0 : (⟨S1x3x10000, .f32⟩ : BufTy).Contents (Elt Ideal)} {x1 y1 : (⟨S32x6, .f32⟩ : BufTy).Contents (Elt Ideal)} {x2 y2 : (⟨S32, .f32⟩ : BufTy).Contents (Elt Ideal)} {x3 y3 : (⟨S32, .f32⟩ : BufTy).Contents (Elt Ideal)} {x4 y4 : (⟨S32, .f32⟩ : BufTy).Contents (Elt Ideal)} {x5 y5 : (⟨S64x32, .f32⟩ : BufTy).Contents (Elt Ideal)} {x6 y6 : (⟨S64, .f32⟩ : BufTy).Contents (Elt Ideal)} {x7 y7 : (⟨S64, .f32⟩ : BufTy).Contents (Elt Ideal)} {x8 y8 : (⟨S64, .f32⟩ : BufTy).Contents (Elt Ideal)} {x9 y9 : (⟨S128x64, .f32⟩ : BufTy).Contents (Elt Ideal)} {x10 y10 : (⟨S128, .f32⟩ : BufTy).Contents (Elt Ideal)} {x11 y11 : (⟨S128, .f32⟩ : BufTy).Contents (Elt Ideal)} {x12 y12 : (⟨S128, .f32⟩ : BufTy).Contents (Elt Ideal)} {x13 y13 : (⟨S128x128, .f32⟩ : BufTy).Contents (Elt Ideal)} {x14 y14 : (⟨S128, .f32⟩ : BufTy).Contents (Elt Ideal)} {x15 y15 : (⟨S128, .f32⟩ : BufTy).Contents (Elt Ideal)} {x16 y16 : (⟨S128, .f32⟩ : BufTy).Contents (Elt Ideal)}
    (e0 : x0 = y0) (e1 : x1 = y1) (e2 : x2 = y2) (e3 : x3 = y3) (e4 : x4 = y4) (e5 : x5 = y5) (e6 : x6 = y6) (e7 : x7 = y7) (e8 : x8 = y8) (e9 : x9 = y9) (e10 : x10 = y10) (e11 : x11 = y11) (e12 : x12 = y12) (e13 : x13 = y13) (e14 : x14 = y14) (e15 : x15 = y15) (e16 : x16 = y16) :
    Cert.ReferenceIdeal.Read.val_main_v130 (F := Ideal) x0 x1 x2 x3 x4 x5 x6 x7 x8 x9 x10 x11 x12 x13 x14 x15 x16
      = Cert.ReferenceIdeal.Read.val_main_v130 (F := Ideal) y0 y1 y2 y3 y4 y5 y6 y7 y8 y9 y10 y11 y12 y13 y14 y15 y16 := by
  subst e0 e1 e2 e3 e4 e5 e6 e7 e8 e9 e10 e11 e12 e13 e14 e15 e16
  rfl

variable (m : (ℓ : Loc nD τ sig) → Buf (Elt Ideal) ℓ) (c : Dev nD)

theorem result_ref (h : Cert.Pre_tame.Reads (m ((c : Thread nD τ).loc main_arg0)) (m ((c : Thread nD τ).loc main_arg1)) (m ((c : Thread nD τ).loc main_arg3)) (m ((c : Thread nD τ).loc main_arg7))) :
    (W21 m c (Proc.devRef .tc main_v109) : FVec Ideal S1x128x16 .f32)
      = Cert.ReferenceIdeal.Read.val_main_v130 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  choose p hp using fun (a : Fin 3) (n : Fin 10000) => h.a0 (ix3 0 a n)
  choose w1 hw1 using h.a1
  choose g1 hg1 using fun (o : Fin 32) => h.a3 (ix1 o)
  choose g2 hg2 using fun (q : Fin 64) => h.a7 (ix1 q)
  refine ext3 (B := 128) (C := 16) _ _ fun r k => ?_
  refine (result_at m c p (fun a n => (hp a n).2) (fun a n => (hp a n).1) w1 hw1 g1 hg1 g2 hg2 k r).trans ?_
  refine Eq.trans ?_ (congrFun (congrFun (Cert.RefVal.result_eq (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16))) k) r).symm
  rw [Cert.RefVal.Y1_eq]
  have e0 : Cert.RefVal.pts (m ((c : Thread nD τ).loc main_arg0)) = ept p := funext fun a => funext fun n => (hp a n).1
  have f3 : (fun (o : Fin 32) => arr S32 (m ((c : Thread nD τ).loc main_arg3)) (ix1 o)) = fun o => (g1 o : EReal) := funext hg1
  have f7 : (fun (q : Fin 64) => arr S64 (m ((c : Thread nD τ).loc main_arg7)) (ix1 q)) = fun q => (g2 q : EReal) := funext hg2
  unfold Y2of Y1of
  rw [e0, ← f3, ← f7]

end Cert.KernelIdeal.Whole
-- ==== Proof.lean ====
/-
The claims about the kernel.
-/
module

public import proofs.«01_k».proof.Defs
public import proofs.«01_k».proof.Proof.Frames
public import proofs.«01_k».proof.Proof.Equal
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read

@[expose] public section

noncomputable section

namespace Cert.Proof

open Idealize.ShloMosaic Idealize.SL.Sem

/-- The reference leaves its arguments unchanged; it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- From the same arguments, under the precondition, the kernel and the reference leave the same result. -/
theorem same_result : Cert.algebraic_KernelIdeal_ReferenceIdeal_pre_tame := fun m g m' g' hpre hargs => by
  refine ⟨fun c => Cert.KernelIdeal.Whole.W21 m c (Proc.devRef .tc Cert.KernelIdeal.main_v109), ?_, ?_⟩
  · exact (θ_run Cert.KernelIdeal.defs _ _).mono (fun r h c => ⟨(h.1 c).1, (h.1 c).2 Cert.KernelIdeal.main_arg0 (by simp), (h.1 c).2 Cert.KernelIdeal.main_arg1 (by simp), (h.1 c).2 Cert.KernelIdeal.main_arg2 (by simp), (h.1 c).2 Cert.KernelIdeal.main_arg3 (by simp), (h.1 c).2 Cert.KernelIdeal.main_arg4 (by simp), (h.1 c).2 Cert.KernelIdeal.main_arg5 (by simp), (h.1 c).2 Cert.KernelIdeal.main_arg6 (by simp), (h.1 c).2 Cert.KernelIdeal.main_arg7 (by simp), (h.1 c).2 Cert.KernelIdeal.main_arg8 (by simp), (h.1 c).2 Cert.KernelIdeal.main_arg9 (by simp), (h.1 c).2 Cert.KernelIdeal.main_arg10 (by simp), (h.1 c).2 Cert.KernelIdeal.main_arg11 (by simp), (h.1 c).2 Cert.KernelIdeal.main_arg12 (by simp), (h.1 c).2 Cert.KernelIdeal.main_arg13 (by simp), (h.1 c).2 Cert.KernelIdeal.main_arg14 (by simp), (h.1 c).2 Cert.KernelIdeal.main_arg15 (by simp), (h.1 c).2 Cert.KernelIdeal.main_arg16 (by simp)⟩)
      (Cert.KernelIdeal.Whole.run_args m g)
  · refine (θ_run Cert.ReferenceIdeal.defs _ _).mono (fun r h c => ⟨(h c).1.trans ?_, (h c).2⟩) (Cert.ReferenceIdeal.Value.run (F := Ideal) m' g')
    have hr := Cert.Pre_tame.reads _ _ _ _ _ _ _ _ _ _ _ _ _ _ _ _ _ (hpre c)
    obtain ⟨e0, e1, e2, e3, e4, e5, e6, e7, e8, e9, e10, e11, e12, e13, e14, e15, e16⟩ := hargs c
    have hv := Cert.ReferenceIdeal.Read.val_main_v130_eq (F := Ideal) (StableHlo.launchContents m' c)
    refine hv.trans (Eq.trans ?_ (Cert.KernelIdeal.Whole.result_ref m c hr).symm)
    exact Cert.KernelIdeal.Whole.ref_congr e0 e1 e2 e3 e4 e5 e6 e7 e8 e9 e10 e11 e12 e13 e14 e15 e16

theorem claim : Cert.Claim := ⟨Cert.Kernel.Gen.facts, Cert.KernelIdeal.Gen.facts, Cert.ReferenceIdeal.Gen.facts, Cert.Pre_tame.sides,
  Cert.KernelIdeal.Whole.frame_words _,
  fun m ρ _ => Cert.KernelIdeal.Whole.frame m ρ,
  fun m ρ _ => Cert.KernelIdeal.Whole.frame m ρ,
  frame_reference,
  fun m ρ _ => frame_reference m ρ trivial,
  trivial,
  same_result⟩

end Cert.Proof

end
